-- ==== Defs.lean ====
def Pre_KernelRwkv (m : (ℓ : Loc Cert.KernelRwkv.nD Cert.KernelRwkv.τ Cert.KernelRwkv.sig) → Buf (Elt Bits) ℓ) : Prop :=
  True

def Pre_KernelRwkvIdeal (m : (ℓ : Loc Cert.KernelRwkvIdeal.nD Cert.KernelRwkvIdeal.τ Cert.KernelRwkvIdeal.sig) → Buf (Elt Ideal) ℓ) : Prop :=
  True

def Pre_ReferenceRwkvIdeal (m : (ℓ : Loc Cert.ReferenceRwkvIdeal.nD Cert.ReferenceRwkvIdeal.τ Cert.ReferenceRwkvIdeal.sig) → Buf (Elt Ideal) ℓ) : Prop :=
  True

def Pre_KernelPost (m : (ℓ : Loc Cert.KernelPost.nD Cert.KernelPost.τ Cert.KernelPost.sig) → Buf (Elt Bits) ℓ) : Prop :=
  True

def Pre_KernelPostIdeal (m : (ℓ : Loc Cert.KernelPostIdeal.nD Cert.KernelPostIdeal.τ Cert.KernelPostIdeal.sig) → Buf (Elt Ideal) ℓ) : Prop :=
  True

def Pre_ReferencePostIdeal (m : (ℓ : Loc Cert.ReferencePostIdeal.nD Cert.ReferencePostIdeal.τ Cert.ReferencePostIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelPostS (m : (ℓ : Loc Cert.KernelPostS.nD Cert.KernelPostS.τ Cert.KernelPostS.sig) → Buf (Elt Bits) ℓ) : Prop :=
  True

def Pre_KernelPostSIdeal (m : (ℓ : Loc Cert.KernelPostSIdeal.nD Cert.KernelPostSIdeal.τ Cert.KernelPostSIdeal.sig) → Buf (Elt Ideal) ℓ) : Prop :=
  True

def Pre_ReferencePostSIdeal (m : (ℓ : Loc Cert.ReferencePostSIdeal.nD Cert.ReferencePostSIdeal.τ Cert.ReferencePostSIdeal.sig) → Buf (Elt Ideal) ℓ) : Prop :=
  True

def quiescent_KernelRwkv [hKernelRwkv : Cert.KernelRwkv.Facts] : Prop :=
  ∀ (m : (ℓ : Loc Cert.KernelRwkv.nD Cert.KernelRwkv.τ Cert.KernelRwkv.sig) → Buf (Elt Bits) ℓ) (g : Dev Cert.KernelRwkv.nD → PrngReg), Pre_KernelRwkv m →
    θ_run (Cert.KernelRwkv.defs (F := Bits)) (onTc (τ := Cert.KernelRwkv.τ) (Cert.KernelRwkv.main (F := Bits))) ⟨m, fun _ => 0, g⟩ (fun r => (∀ c : Dev Cert.KernelRwkv.nD,
      r.2.mem ((c.tc : Thread Cert.KernelRwkv.nD Cert.KernelRwkv.τ).loc Cert.KernelRwkv.main_arg0) = m ((c.tc : Thread Cert.KernelRwkv.nD Cert.KernelRwkv.τ).loc Cert.KernelRwkv.main_arg0)
      ∧ r.2.mem ((c.tc : Thread Cert.KernelRwkv.nD Cert.KernelRwkv.τ).loc Cert.KernelRwkv.main_arg1) = m ((c.tc : Thread Cert.KernelRwkv.nD Cert.KernelRwkv.τ).loc Cert.KernelRwkv.main_arg1)
      ∧ r.2.mem ((c.tc : Thread Cert.KernelRwkv.nD Cert.KernelRwkv.τ).loc Cert.KernelRwkv.main_arg2) = m ((c.tc : Thread Cert.KernelRwkv.nD Cert.KernelRwkv.τ).loc Cert.KernelRwkv.main_arg2)
      ∧ r.2.mem ((c.tc : Thread Cert.KernelRwkv.nD Cert.KernelRwkv.τ).loc Cert.KernelRwkv.main_arg3) = m ((c.tc : Thread Cert.KernelRwkv.nD Cert.KernelRwkv.τ).loc Cert.KernelRwkv.main_arg3)
      ∧ r.2.mem ((c.tc : Thread Cert.KernelRwkv.nD Cert.KernelRwkv.τ).loc Cert.KernelRwkv.main_arg4) = m ((c.tc : Thread Cert.KernelRwkv.nD Cert.KernelRwkv.τ).loc Cert.KernelRwkv.main_arg4)
      ∧ r.2.mem ((c.tc : Thread Cert.KernelRwkv.nD Cert.KernelRwkv.τ).loc Cert.KernelRwkv.main_arg5) = m ((c.tc : Thread Cert.KernelRwkv.nD Cert.KernelRwkv.τ).loc Cert.KernelRwkv.main_arg5)
      ∧ r.2.mem ((c.tc : Thread Cert.KernelRwkv.nD Cert.KernelRwkv.τ).loc Cert.KernelRwkv.main_arg6) = m ((c.tc : Thread Cert.KernelRwkv.nD Cert.KernelRwkv.τ).loc Cert.KernelRwkv.main_arg6)
      ∧ r.2.mem ((c.tc : Thread Cert.KernelRwkv.nD Cert.KernelRwkv.τ).loc Cert.KernelRwkv.main_arg7) = m ((c.tc : Thread Cert.KernelRwkv.nD Cert.KernelRwkv.τ).loc Cert.KernelRwkv.main_arg7)
      ∧ r.2.mem ((c.tc : Thread Cert.KernelRwkv.nD Cert.KernelRwkv.τ).loc Cert.KernelRwkv.main_arg8) = m ((c.tc : Thread Cert.KernelRwkv.nD Cert.KernelRwkv.τ).loc Cert.KernelRwkv.main_arg8)
      ∧ r.2.mem ((c.tc : Thread Cert.KernelRwkv.nD Cert.KernelRwkv.τ).loc Cert.KernelRwkv.main_arg9) = m ((c.tc : Thread Cert.KernelRwkv.nD Cert.KernelRwkv.τ).loc Cert.KernelRwkv.main_arg9)
      ∧ r.2.mem ((c.tc : Thread Cert.KernelRwkv.nD Cert.KernelRwkv.τ).loc Cert.KernelRwkv.main_arg10) = m ((c.tc : Thread Cert.KernelRwkv.nD Cert.KernelRwkv.τ).loc Cert.KernelRwkv.main_arg10)
      ∧ r.2.mem ((c.tc : Thread Cert.KernelRwkv.nD Cert.KernelRwkv.τ).loc Cert.KernelRwkv.main_arg11) = m ((c.tc : Thread Cert.KernelRwkv.nD Cert.KernelRwkv.τ).loc Cert.KernelRwkv.main_arg11)
      ∧ r.2.mem ((c.tc : Thread Cert.KernelRwkv.nD Cert.KernelRwkv.τ).loc Cert.KernelRwkv.main_arg12) = m ((c.tc : Thread Cert.KernelRwkv.nD Cert.KernelRwkv.τ).loc Cert.KernelRwkv.main_arg12)
      ∧ r.2.mem ((c.tc : Thread Cert.KernelRwkv.nD Cert.KernelRwkv.τ).loc Cert.KernelRwkv.main_arg13) = m ((c.tc : Thread Cert.KernelRwkv.nD Cert.KernelRwkv.τ).loc Cert.KernelRwkv.main_arg13))
      ∧ r.2.sem = fun _ => 0)

def quiescent_KernelRwkvIdeal [hKernelRwkvIdeal : Cert.KernelRwkvIdeal.Facts] : Prop :=
  ∀ (m : (ℓ : Loc Cert.KernelRwkvIdeal.nD Cert.KernelRwkvIdeal.τ Cert.KernelRwkvIdeal.sig) → Buf (Elt Ideal) ℓ) (g : Dev Cert.KernelRwkvIdeal.nD → PrngReg), Pre_KernelRwkvIdeal m →
    θ_run (Cert.KernelRwkvIdeal.defs (F := Ideal)) (onTc (τ := Cert.KernelRwkvIdeal.τ) (Cert.KernelRwkvIdeal.main (F := Ideal))) ⟨m, fun _ => 0, g⟩ (fun r => (∀ c : Dev Cert.KernelRwkvIdeal.nD,
      r.2.mem ((c.tc : Thread Cert.KernelRwkvIdeal.nD Cert.KernelRwkvIdeal.τ).loc Cert.KernelRwkvIdeal.main_arg0) = m ((c.tc : Thread Cert.KernelRwkvIdeal.nD Cert.KernelRwkvIdeal.τ).loc Cert.KernelRwkvIdeal.main_arg0)
      ∧ r.2.mem ((c.tc : Thread Cert.KernelRwkvIdeal.nD Cert.KernelRwkvIdeal.τ).loc Cert.KernelRwkvIdeal.main_arg1) = m ((c.tc : Thread Cert.KernelRwkvIdeal.nD Cert.KernelRwkvIdeal.τ).loc Cert.KernelRwkvIdeal.main_arg1)
      ∧ r.2.mem ((c.tc : Thread Cert.KernelRwkvIdeal.nD Cert.KernelRwkvIdeal.τ).loc Cert.KernelRwkvIdeal.main_arg2) = m ((c.tc : Thread Cert.KernelRwkvIdeal.nD Cert.KernelRwkvIdeal.τ).loc Cert.KernelRwkvIdeal.main_arg2)
      ∧ r.2.mem ((c.tc : Thread Cert.KernelRwkvIdeal.nD Cert.KernelRwkvIdeal.τ).loc Cert.KernelRwkvIdeal.main_arg3) = m ((c.tc : Thread Cert.KernelRwkvIdeal.nD Cert.KernelRwkvIdeal.τ).loc Cert.KernelRwkvIdeal.main_arg3)
      ∧ r.2.mem ((c.tc : Thread Cert.KernelRwkvIdeal.nD Cert.KernelRwkvIdeal.τ).loc Cert.KernelRwkvIdeal.main_arg4) = m ((c.tc : Thread Cert.KernelRwkvIdeal.nD Cert.KernelRwkvIdeal.τ).loc Cert.KernelRwkvIdeal.main_arg4)
      ∧ r.2.mem ((c.tc : Thread Cert.KernelRwkvIdeal.nD Cert.KernelRwkvIdeal.τ).loc Cert.KernelRwkvIdeal.main_arg5) = m ((c.tc : Thread Cert.KernelRwkvIdeal.nD Cert.KernelRwkvIdeal.τ).loc Cert.KernelRwkvIdeal.main_arg5)
      ∧ r.2.mem ((c.tc : Thread Cert.KernelRwkvIdeal.nD Cert.KernelRwkvIdeal.τ).loc Cert.KernelRwkvIdeal.main_arg6) = m ((c.tc : Thread Cert.KernelRwkvIdeal.nD Cert.KernelRwkvIdeal.τ).loc Cert.KernelRwkvIdeal.main_arg6)
      ∧ r.2.mem ((c.tc : Thread Cert.KernelRwkvIdeal.nD Cert.KernelRwkvIdeal.τ).loc Cert.KernelRwkvIdeal.main_arg7) = m ((c.tc : Thread Cert.KernelRwkvIdeal.nD Cert.KernelRwkvIdeal.τ).loc Cert.KernelRwkvIdeal.main_arg7)
      ∧ r.2.mem ((c.tc : Thread Cert.KernelRwkvIdeal.nD Cert.KernelRwkvIdeal.τ).loc Cert.KernelRwkvIdeal.main_arg8) = m ((c.tc : Thread Cert.KernelRwkvIdeal.nD Cert.KernelRwkvIdeal.τ).loc Cert.KernelRwkvIdeal.main_arg8)
      ∧ r.2.mem ((c.tc : Thread Cert.KernelRwkvIdeal.nD Cert.KernelRwkvIdeal.τ).loc Cert.KernelRwkvIdeal.main_arg9) = m ((c.tc : Thread Cert.KernelRwkvIdeal.nD Cert.KernelRwkvIdeal.τ).loc Cert.KernelRwkvIdeal.main_arg9)
      ∧ r.2.mem ((c.tc : Thread Cert.KernelRwkvIdeal.nD Cert.KernelRwkvIdeal.τ).loc Cert.KernelRwkvIdeal.main_arg10) = m ((c.tc : Thread Cert.KernelRwkvIdeal.nD Cert.KernelRwkvIdeal.τ).loc Cert.KernelRwkvIdeal.main_arg10)
      ∧ r.2.mem ((c.tc : Thread Cert.KernelRwkvIdeal.nD Cert.KernelRwkvIdeal.τ).loc Cert.KernelRwkvIdeal.main_arg11) = m ((c.tc : Thread Cert.KernelRwkvIdeal.nD Cert.KernelRwkvIdeal.τ).loc Cert.KernelRwkvIdeal.main_arg11)
      ∧ r.2.mem ((c.tc : Thread Cert.KernelRwkvIdeal.nD Cert.KernelRwkvIdeal.τ).loc Cert.KernelRwkvIdeal.main_arg12) = m ((c.tc : Thread Cert.KernelRwkvIdeal.nD Cert.KernelRwkvIdeal.τ).loc Cert.KernelRwkvIdeal.main_arg12)
      ∧ r.2.mem ((c.tc : Thread Cert.KernelRwkvIdeal.nD Cert.KernelRwkvIdeal.τ).loc Cert.KernelRwkvIdeal.main_arg13) = m ((c.tc : Thread Cert.KernelRwkvIdeal.nD Cert.KernelRwkvIdeal.τ).loc Cert.KernelRwkvIdeal.main_arg13))
      ∧ r.2.sem = fun _ => 0)

def quiescent_ReferenceRwkvIdeal [hReferenceRwkvIdeal : Cert.ReferenceRwkvIdeal.Facts] : Prop :=
  ∀ (m : (ℓ : Loc Cert.ReferenceRwkvIdeal.nD Cert.ReferenceRwkvIdeal.τ Cert.ReferenceRwkvIdeal.sig) → Buf (Elt Ideal) ℓ) (g : Dev Cert.ReferenceRwkvIdeal.nD → PrngReg), Pre_ReferenceRwkvIdeal m →
    θ_run (Cert.ReferenceRwkvIdeal.defs (F := Ideal)) (onTc (τ := Cert.ReferenceRwkvIdeal.τ) (Cert.ReferenceRwkvIdeal.main (F := Ideal))) ⟨m, fun _ => 0, g⟩ (fun r => (∀ c : Dev Cert.ReferenceRwkvIdeal.nD,
      r.2.mem ((c.tc : Thread Cert.ReferenceRwkvIdeal.nD Cert.ReferenceRwkvIdeal.τ).loc Cert.ReferenceRwkvIdeal.main_arg0) = m ((c.tc : Thread Cert.ReferenceRwkvIdeal.nD Cert.ReferenceRwkvIdeal.τ).loc Cert.ReferenceRwkvIdeal.main_arg0)
      ∧ r.2.mem ((c.tc : Thread Cert.ReferenceRwkvIdeal.nD Cert.ReferenceRwkvIdeal.τ).loc Cert.ReferenceRwkvIdeal.main_arg1) = m ((c.tc : Thread Cert.ReferenceRwkvIdeal.nD Cert.ReferenceRwkvIdeal.τ).loc Cert.ReferenceRwkvIdeal.main_arg1)
      ∧ r.2.mem ((c.tc : Thread Cert.ReferenceRwkvIdeal.nD Cert.ReferenceRwkvIdeal.τ).loc Cert.ReferenceRwkvIdeal.main_arg2) = m ((c.tc : Thread Cert.ReferenceRwkvIdeal.nD Cert.ReferenceRwkvIdeal.τ).loc Cert.ReferenceRwkvIdeal.main_arg2)
      ∧ r.2.mem ((c.tc : Thread Cert.ReferenceRwkvIdeal.nD Cert.ReferenceRwkvIdeal.τ).loc Cert.ReferenceRwkvIdeal.main_arg3) = m ((c.tc : Thread Cert.ReferenceRwkvIdeal.nD Cert.ReferenceRwkvIdeal.τ).loc Cert.ReferenceRwkvIdeal.main_arg3)
      ∧ r.2.mem ((c.tc : Thread Cert.ReferenceRwkvIdeal.nD Cert.ReferenceRwkvIdeal.τ).loc Cert.ReferenceRwkvIdeal.main_arg4) = m ((c.tc : Thread Cert.ReferenceRwkvIdeal.nD Cert.ReferenceRwkvIdeal.τ).loc Cert.ReferenceRwkvIdeal.main_arg4)
      ∧ r.2.mem ((c.tc : Thread Cert.ReferenceRwkvIdeal.nD Cert.ReferenceRwkvIdeal.τ).loc Cert.ReferenceRwkvIdeal.main_arg5) = m ((c.tc : Thread Cert.ReferenceRwkvIdeal.nD Cert.ReferenceRwkvIdeal.τ).loc Cert.ReferenceRwkvIdeal.main_arg5)
      ∧ r.2.mem ((c.tc : Thread Cert.ReferenceRwkvIdeal.nD Cert.ReferenceRwkvIdeal.τ).loc Cert.ReferenceRwkvIdeal.main_arg6) = m ((c.tc : Thread Cert.ReferenceRwkvIdeal.nD Cert.ReferenceRwkvIdeal.τ).loc Cert.ReferenceRwkvIdeal.main_arg6)
      ∧ r.2.mem ((c.tc : Thread Cert.ReferenceRwkvIdeal.nD Cert.ReferenceRwkvIdeal.τ).loc Cert.ReferenceRwkvIdeal.main_arg7) = m ((c.tc : Thread Cert.ReferenceRwkvIdeal.nD Cert.ReferenceRwkvIdeal.τ).loc Cert.ReferenceRwkvIdeal.main_arg7)
      ∧ r.2.mem ((c.tc : Thread Cert.ReferenceRwkvIdeal.nD Cert.ReferenceRwkvIdeal.τ).loc Cert.ReferenceRwkvIdeal.main_arg8) = m ((c.tc : Thread Cert.ReferenceRwkvIdeal.nD Cert.ReferenceRwkvIdeal.τ).loc Cert.ReferenceRwkvIdeal.main_arg8)
      ∧ r.2.mem ((c.tc : Thread Cert.ReferenceRwkvIdeal.nD Cert.ReferenceRwkvIdeal.τ).loc Cert.ReferenceRwkvIdeal.main_arg9) = m ((c.tc : Thread Cert.ReferenceRwkvIdeal.nD Cert.ReferenceRwkvIdeal.τ).loc Cert.ReferenceRwkvIdeal.main_arg9)
      ∧ r.2.mem ((c.tc : Thread Cert.ReferenceRwkvIdeal.nD Cert.ReferenceRwkvIdeal.τ).loc Cert.ReferenceRwkvIdeal.main_arg10) = m ((c.tc : Thread Cert.ReferenceRwkvIdeal.nD Cert.ReferenceRwkvIdeal.τ).loc Cert.ReferenceRwkvIdeal.main_arg10)
      ∧ r.2.mem ((c.tc : Thread Cert.ReferenceRwkvIdeal.nD Cert.ReferenceRwkvIdeal.τ).loc Cert.ReferenceRwkvIdeal.main_arg11) = m ((c.tc : Thread Cert.ReferenceRwkvIdeal.nD Cert.ReferenceRwkvIdeal.τ).loc Cert.ReferenceRwkvIdeal.main_arg11)
      ∧ r.2.mem ((c.tc : Thread Cert.ReferenceRwkvIdeal.nD Cert.ReferenceRwkvIdeal.τ).loc Cert.ReferenceRwkvIdeal.main_arg12) = m ((c.tc : Thread Cert.ReferenceRwkvIdeal.nD Cert.ReferenceRwkvIdeal.τ).loc Cert.ReferenceRwkvIdeal.main_arg12)
      ∧ r.2.mem ((c.tc : Thread Cert.ReferenceRwkvIdeal.nD Cert.ReferenceRwkvIdeal.τ).loc Cert.ReferenceRwkvIdeal.main_arg13) = m ((c.tc : Thread Cert.ReferenceRwkvIdeal.nD Cert.ReferenceRwkvIdeal.τ).loc Cert.ReferenceRwkvIdeal.main_arg13))
      ∧ r.2.sem = fun _ => 0)

def quiescent_KernelPost [hKernelPost : Cert.KernelPost.Facts] : Prop :=
  ∀ (m : (ℓ : Loc Cert.KernelPost.nD Cert.KernelPost.τ Cert.KernelPost.sig) → Buf (Elt Bits) ℓ) (g : Dev Cert.KernelPost.nD → PrngReg), Pre_KernelPost m →
    θ_run (Cert.KernelPost.defs (F := Bits)) (onTc (τ := Cert.KernelPost.τ) (Cert.KernelPost.main (F := Bits))) ⟨m, fun _ => 0, g⟩ (fun r => (∀ c : Dev Cert.KernelPost.nD,
      r.2.mem ((c.tc : Thread Cert.KernelPost.nD Cert.KernelPost.τ).loc Cert.KernelPost.main_arg0) = m ((c.tc : Thread Cert.KernelPost.nD Cert.KernelPost.τ).loc Cert.KernelPost.main_arg0)
      ∧ r.2.mem ((c.tc : Thread Cert.KernelPost.nD Cert.KernelPost.τ).loc Cert.KernelPost.main_arg1) = m ((c.tc : Thread Cert.KernelPost.nD Cert.KernelPost.τ).loc Cert.KernelPost.main_arg1)
      ∧ r.2.mem ((c.tc : Thread Cert.KernelPost.nD Cert.KernelPost.τ).loc Cert.KernelPost.main_arg2) = m ((c.tc : Thread Cert.KernelPost.nD Cert.KernelPost.τ).loc Cert.KernelPost.main_arg2)
      ∧ r.2.mem ((c.tc : Thread Cert.KernelPost.nD Cert.KernelPost.τ).loc Cert.KernelPost.main_arg3) = m ((c.tc : Thread Cert.KernelPost.nD Cert.KernelPost.τ).loc Cert.KernelPost.main_arg3)
      ∧ r.2.mem ((c.tc : Thread Cert.KernelPost.nD Cert.KernelPost.τ).loc Cert.KernelPost.main_arg4) = m ((c.tc : Thread Cert.KernelPost.nD Cert.KernelPost.τ).loc Cert.KernelPost.main_arg4)
      ∧ r.2.mem ((c.tc : Thread Cert.KernelPost.nD Cert.KernelPost.τ).loc Cert.KernelPost.main_arg5) = m ((c.tc : Thread Cert.KernelPost.nD Cert.KernelPost.τ).loc Cert.KernelPost.main_arg5)
      ∧ r.2.mem ((c.tc : Thread Cert.KernelPost.nD Cert.KernelPost.τ).loc Cert.KernelPost.main_arg6) = m ((c.tc : Thread Cert.KernelPost.nD Cert.KernelPost.τ).loc Cert.KernelPost.main_arg6)
      ∧ r.2.mem ((c.tc : Thread Cert.KernelPost.nD Cert.KernelPost.τ).loc Cert.KernelPost.main_arg7) = m ((c.tc : Thread Cert.KernelPost.nD Cert.KernelPost.τ).loc Cert.KernelPost.main_arg7)
      ∧ r.2.mem ((c.tc : Thread Cert.KernelPost.nD Cert.KernelPost.τ).loc Cert.KernelPost.main_arg8) = m ((c.tc : Thread Cert.KernelPost.nD Cert.KernelPost.τ).loc Cert.KernelPost.main_arg8)
      ∧ r.2.mem ((c.tc : Thread Cert.KernelPost.nD Cert.KernelPost.τ).loc Cert.KernelPost.main_arg9) = m ((c.tc : Thread Cert.KernelPost.nD Cert.KernelPost.τ).loc Cert.KernelPost.main_arg9)
      ∧ r.2.mem ((c.tc : Thread Cert.KernelPost.nD Cert.KernelPost.τ).loc Cert.KernelPost.main_arg10) = m ((c.tc : Thread Cert.KernelPost.nD Cert.KernelPost.τ).loc Cert.KernelPost.main_arg10)
      ∧ r.2.mem ((c.tc : Thread Cert.KernelPost.nD Cert.KernelPost.τ).loc Cert.KernelPost.main_arg11) = m ((c.tc : Thread Cert.KernelPost.nD Cert.KernelPost.τ).loc Cert.KernelPost.main_arg11)
      ∧ r.2.mem ((c.tc : Thread Cert.KernelPost.nD Cert.KernelPost.τ).loc Cert.KernelPost.main_arg12) = m ((c.tc : Thread Cert.KernelPost.nD Cert.KernelPost.τ).loc Cert.KernelPost.main_arg12)
      ∧ r.2.mem ((c.tc : Thread Cert.KernelPost.nD Cert.KernelPost.τ).loc Cert.KernelPost.main_arg13) = m ((c.tc : Thread Cert.KernelPost.nD Cert.KernelPost.τ).loc Cert.KernelPost.main_arg13)
      ∧ r.2.mem ((c.tc : Thread Cert.KernelPost.nD Cert.KernelPost.τ).loc Cert.KernelPost.main_arg14) = m ((c.tc : Thread Cert.KernelPost.nD Cert.KernelPost.τ).loc Cert.KernelPost.main_arg14)
      ∧ r.2.mem ((c.tc : Thread Cert.KernelPost.nD Cert.KernelPost.τ).loc Cert.KernelPost.main_arg15) = m ((c.tc : Thread Cert.KernelPost.nD Cert.KernelPost.τ).loc Cert.KernelPost.main_arg15)
      ∧ r.2.mem ((c.tc : Thread Cert.KernelPost.nD Cert.KernelPost.τ).loc Cert.KernelPost.main_arg16) = m ((c.tc : Thread Cert.KernelPost.nD Cert.KernelPost.τ).loc Cert.KernelPost.main_arg16))
      ∧ r.2.sem = fun _ => 0)

def quiescent_KernelPostIdeal [hKernelPostIdeal : Cert.KernelPostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg), Pre_KernelPostIdeal m →
    θ_run (Cert.KernelPostIdeal.defs (F := Ideal)) (onTc (τ := Cert.KernelPostIdeal.τ) (Cert.KernelPostIdeal.main (F := Ideal))) ⟨m, fun _ => 0, g⟩ (fun r => (∀ c : Dev Cert.KernelPostIdeal.nD,
      r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
      ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
      ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
      ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3)
      ∧ r.2.mem ((c.tc : Thread Cert.KernelPostIdeal.nD Cert.KernelPostIdeal.τ).loc Cert.KernelPostIdeal.main_arg4) = m ((c.tc : Thread Cert.KernelPostIdeal.nD Cert.KernelPostIdeal.τ).loc Cert.KernelPostIdeal.main_arg4)
      ∧ r.2.mem ((c.tc : Thread Cert.KernelPostIdeal.nD Cert.KernelPostIdeal.τ).loc Cert.KernelPostIdeal.main_arg5) = m ((c.tc : Thread Cert.KernelPostIdeal.nD Cert.KernelPostIdeal.τ).loc Cert.KernelPostIdeal.main_arg5)
      ∧ r.2.mem ((c.tc : Thread Cert.KernelPostIdeal.nD Cert.KernelPostIdeal.τ).loc Cert.KernelPostIdeal.main_arg6) = m ((c.tc : Thread Cert.KernelPostIdeal.nD Cert.KernelPostIdeal.τ).loc Cert.KernelPostIdeal.main_arg6)
      ∧ r.2.mem ((c.tc : Thread Cert.KernelPostIdeal.nD Cert.KernelPostIdeal.τ).loc Cert.KernelPostIdeal.main_arg7) = m ((c.tc : Thread Cert.KernelPostIdeal.nD Cert.KernelPostIdeal.τ).loc Cert.KernelPostIdeal.main_arg7)
      ∧ r.2.mem ((c.tc : Thread Cert.KernelPostIdeal.nD Cert.KernelPostIdeal.τ).loc Cert.KernelPostIdeal.main_arg8) = m ((c.tc : Thread Cert.KernelPostIdeal.nD Cert.KernelPostIdeal.τ).loc Cert.KernelPostIdeal.main_arg8)
      ∧ r.2.mem ((c.tc : Thread Cert.KernelPostIdeal.nD Cert.KernelPostIdeal.τ).loc Cert.KernelPostIdeal.main_arg9) = m ((c.tc : Thread Cert.KernelPostIdeal.nD Cert.KernelPostIdeal.τ).loc Cert.KernelPostIdeal.main_arg9)
      ∧ r.2.mem ((c.tc : Thread Cert.KernelPostIdeal.nD Cert.KernelPostIdeal.τ).loc Cert.KernelPostIdeal.main_arg10) = m ((c.tc : Thread Cert.KernelPostIdeal.nD Cert.KernelPostIdeal.τ).loc Cert.KernelPostIdeal.main_arg10)
      ∧ r.2.mem ((c.tc : Thread Cert.KernelPostIdeal.nD Cert.KernelPostIdeal.τ).loc Cert.KernelPostIdeal.main_arg11) = m ((c.tc : Thread Cert.KernelPostIdeal.nD Cert.KernelPostIdeal.τ).loc Cert.KernelPostIdeal.main_arg11)
      ∧ r.2.mem ((c.tc : Thread Cert.KernelPostIdeal.nD Cert.KernelPostIdeal.τ).loc Cert.KernelPostIdeal.main_arg12) = m ((c.tc : Thread Cert.KernelPostIdeal.nD Cert.KernelPostIdeal.τ).loc Cert.KernelPostIdeal.main_arg12)
      ∧ r.2.mem ((c.tc : Thread Cert.KernelPostIdeal.nD Cert.KernelPostIdeal.τ).loc Cert.KernelPostIdeal.main_arg13) = m ((c.tc : Thread Cert.KernelPostIdeal.nD Cert.KernelPostIdeal.τ).loc Cert.KernelPostIdeal.main_arg13)
      ∧ r.2.mem ((c.tc : Thread Cert.KernelPostIdeal.nD Cert.KernelPostIdeal.τ).loc Cert.KernelPostIdeal.main_arg14) = m ((c.tc : Thread Cert.KernelPostIdeal.nD Cert.KernelPostIdeal.τ).loc Cert.KernelPostIdeal.main_arg14)
      ∧ r.2.mem ((c.tc : Thread Cert.KernelPostIdeal.nD Cert.KernelPostIdeal.τ).loc Cert.KernelPostIdeal.main_arg15) = m ((c.tc : Thread Cert.KernelPostIdeal.nD Cert.KernelPostIdeal.τ).loc Cert.KernelPostIdeal.main_arg15)
      ∧ r.2.mem ((c.tc : Thread Cert.KernelPostIdeal.nD Cert.KernelPostIdeal.τ).loc Cert.KernelPostIdeal.main_arg16) = m ((c.tc : Thread Cert.KernelPostIdeal.nD Cert.KernelPostIdeal.τ).loc Cert.KernelPostIdeal.main_arg16))
      ∧ r.2.sem = fun _ => 0)

def quiescent_ReferencePostIdeal [hReferencePostIdeal : Cert.ReferencePostIdeal.Facts] : Prop :=
  ∀ (m : (ℓ : Loc Cert.ReferencePostIdeal.nD Cert.ReferencePostIdeal.τ Cert.ReferencePostIdeal.sig) → Buf (Elt Ideal) ℓ) (g : Dev Cert.ReferencePostIdeal.nD → PrngReg), Pre_ReferencePostIdeal m →
    θ_run (Cert.ReferencePostIdeal.defs (F := Ideal)) (onTc (τ := Cert.ReferencePostIdeal.τ) (Cert.ReferencePostIdeal.main (F := Ideal))) ⟨m, fun _ => 0, g⟩ (fun r => (∀ c : Dev Cert.ReferencePostIdeal.nD,
      r.2.mem ((c.tc : Thread Cert.ReferencePostIdeal.nD Cert.ReferencePostIdeal.τ).loc Cert.ReferencePostIdeal.main_arg0) = m ((c.tc : Thread Cert.ReferencePostIdeal.nD Cert.ReferencePostIdeal.τ).loc Cert.ReferencePostIdeal.main_arg0)
      ∧ r.2.mem ((c.tc : Thread Cert.ReferencePostIdeal.nD Cert.ReferencePostIdeal.τ).loc Cert.ReferencePostIdeal.main_arg1) = m ((c.tc : Thread Cert.ReferencePostIdeal.nD Cert.ReferencePostIdeal.τ).loc Cert.ReferencePostIdeal.main_arg1)
      ∧ r.2.mem ((c.tc : Thread Cert.ReferencePostIdeal.nD Cert.ReferencePostIdeal.τ).loc Cert.ReferencePostIdeal.main_arg2) = m ((c.tc : Thread Cert.ReferencePostIdeal.nD Cert.ReferencePostIdeal.τ).loc Cert.ReferencePostIdeal.main_arg2)
      ∧ r.2.mem ((c.tc : Thread Cert.ReferencePostIdeal.nD Cert.ReferencePostIdeal.τ).loc Cert.ReferencePostIdeal.main_arg3) = m ((c.tc : Thread Cert.ReferencePostIdeal.nD Cert.ReferencePostIdeal.τ).loc Cert.ReferencePostIdeal.main_arg3)
      ∧ r.2.mem ((c.tc : Thread Cert.ReferencePostIdeal.nD Cert.ReferencePostIdeal.τ).loc Cert.ReferencePostIdeal.main_arg4) = m ((c.tc : Thread Cert.ReferencePostIdeal.nD Cert.ReferencePostIdeal.τ).loc Cert.ReferencePostIdeal.main_arg4)
      ∧ r.2.mem ((c.tc : Thread Cert.ReferencePostIdeal.nD Cert.ReferencePostIdeal.τ).loc Cert.ReferencePostIdeal.main_arg5) = m ((c.tc : Thread Cert.ReferencePostIdeal.nD Cert.ReferencePostIdeal.τ).loc Cert.ReferencePostIdeal.main_arg5)
      ∧ r.2.mem ((c.tc : Thread Cert.ReferencePostIdeal.nD Cert.ReferencePostIdeal.τ).loc Cert.ReferencePostIdeal.main_arg6) = m ((c.tc : Thread Cert.ReferencePostIdeal.nD Cert.ReferencePostIdeal.τ).loc Cert.ReferencePostIdeal.main_arg6)
      ∧ r.2.mem ((c.tc : Thread Cert.ReferencePostIdeal.nD Cert.ReferencePostIdeal.τ).loc Cert.ReferencePostIdeal.main_arg7) = m ((c.tc : Thread Cert.ReferencePostIdeal.nD Cert.ReferencePostIdeal.τ).loc Cert.ReferencePostIdeal.main_arg7)
      ∧ r.2.mem ((c.tc : Thread Cert.ReferencePostIdeal.nD Cert.ReferencePostIdeal.τ).loc Cert.ReferencePostIdeal.main_arg8) = m ((c.tc : Thread Cert.ReferencePostIdeal.nD Cert.ReferencePostIdeal.τ).loc Cert.ReferencePostIdeal.main_arg8)
      ∧ r.2.mem ((c.tc : Thread Cert.ReferencePostIdeal.nD Cert.ReferencePostIdeal.τ).loc Cert.ReferencePostIdeal.main_arg9) = m ((c.tc : Thread Cert.ReferencePostIdeal.nD Cert.ReferencePostIdeal.τ).loc Cert.ReferencePostIdeal.main_arg9)
      ∧ r.2.mem ((c.tc : Thread Cert.ReferencePostIdeal.nD Cert.ReferencePostIdeal.τ).loc Cert.ReferencePostIdeal.main_arg10) = m ((c.tc : Thread Cert.ReferencePostIdeal.nD Cert.ReferencePostIdeal.τ).loc Cert.ReferencePostIdeal.main_arg10)
      ∧ r.2.mem ((c.tc : Thread Cert.ReferencePostIdeal.nD Cert.ReferencePostIdeal.τ).loc Cert.ReferencePostIdeal.main_arg11) = m ((c.tc : Thread Cert.ReferencePostIdeal.nD Cert.ReferencePostIdeal.τ).loc Cert.ReferencePostIdeal.main_arg11)
      ∧ r.2.mem ((c.tc : Thread Cert.ReferencePostIdeal.nD Cert.ReferencePostIdeal.τ).loc Cert.ReferencePostIdeal.main_arg12) = m ((c.tc : Thread Cert.ReferencePostIdeal.nD Cert.ReferencePostIdeal.τ).loc Cert.ReferencePostIdeal.main_arg12)
      ∧ r.2.mem ((c.tc : Thread Cert.ReferencePostIdeal.nD Cert.ReferencePostIdeal.τ).loc Cert.ReferencePostIdeal.main_arg13) = m ((c.tc : Thread Cert.ReferencePostIdeal.nD Cert.ReferencePostIdeal.τ).loc Cert.ReferencePostIdeal.main_arg13)
      ∧ r.2.mem ((c.tc : Thread Cert.ReferencePostIdeal.nD Cert.ReferencePostIdeal.τ).loc Cert.ReferencePostIdeal.main_arg14) = m ((c.tc : Thread Cert.ReferencePostIdeal.nD Cert.ReferencePostIdeal.τ).loc Cert.ReferencePostIdeal.main_arg14)
      ∧ r.2.mem ((c.tc : Thread Cert.ReferencePostIdeal.nD Cert.ReferencePostIdeal.τ).loc Cert.ReferencePostIdeal.main_arg15) = m ((c.tc : Thread Cert.ReferencePostIdeal.nD Cert.ReferencePostIdeal.τ).loc Cert.ReferencePostIdeal.main_arg15)
      ∧ r.2.mem ((c.tc : Thread Cert.ReferencePostIdeal.nD Cert.ReferencePostIdeal.τ).loc Cert.ReferencePostIdeal.main_arg16) = m ((c.tc : Thread Cert.ReferencePostIdeal.nD Cert.ReferencePostIdeal.τ).loc Cert.ReferencePostIdeal.main_arg16))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3))
      ∧ r.2.sem = fun _ => 0)

def quiescent_KernelPostS [hKernelPostS : Cert.KernelPostS.Facts] : Prop :=
  ∀ (m : (ℓ : Loc Cert.KernelPostS.nD Cert.KernelPostS.τ Cert.KernelPostS.sig) → Buf (Elt Bits) ℓ) (g : Dev Cert.KernelPostS.nD → PrngReg), Pre_KernelPostS m →
    θ_run (Cert.KernelPostS.defs (F := Bits)) (onTc (τ := Cert.KernelPostS.τ) (Cert.KernelPostS.main (F := Bits))) ⟨m, fun _ => 0, g⟩ (fun r => (∀ c : Dev Cert.KernelPostS.nD,
      r.2.mem ((c.tc : Thread Cert.KernelPostS.nD Cert.KernelPostS.τ).loc Cert.KernelPostS.main_arg0) = m ((c.tc : Thread Cert.KernelPostS.nD Cert.KernelPostS.τ).loc Cert.KernelPostS.main_arg0)
      ∧ r.2.mem ((c.tc : Thread Cert.KernelPostS.nD Cert.KernelPostS.τ).loc Cert.KernelPostS.main_arg1) = m ((c.tc : Thread Cert.KernelPostS.nD Cert.KernelPostS.τ).loc Cert.KernelPostS.main_arg1)
      ∧ r.2.mem ((c.tc : Thread Cert.KernelPostS.nD Cert.KernelPostS.τ).loc Cert.KernelPostS.main_arg2) = m ((c.tc : Thread Cert.KernelPostS.nD Cert.KernelPostS.τ).loc Cert.KernelPostS.main_arg2)
      ∧ r.2.mem ((c.tc : Thread Cert.KernelPostS.nD Cert.KernelPostS.τ).loc Cert.KernelPostS.main_arg3) = m ((c.tc : Thread Cert.KernelPostS.nD Cert.KernelPostS.τ).loc Cert.KernelPostS.main_arg3)
      ∧ r.2.mem ((c.tc : Thread Cert.KernelPostS.nD Cert.KernelPostS.τ).loc Cert.KernelPostS.main_arg4) = m ((c.tc : Thread Cert.KernelPostS.nD Cert.KernelPostS.τ).loc Cert.KernelPostS.main_arg4)
      ∧ r.2.mem ((c.tc : Thread Cert.KernelPostS.nD Cert.KernelPostS.τ).loc Cert.KernelPostS.main_arg5) = m ((c.tc : Thread Cert.KernelPostS.nD Cert.KernelPostS.τ).loc Cert.KernelPostS.main_arg5)
      ∧ r.2.mem ((c.tc : Thread Cert.KernelPostS.nD Cert.KernelPostS.τ).loc Cert.KernelPostS.main_arg6) = m ((c.tc : Thread Cert.KernelPostS.nD Cert.KernelPostS.τ).loc Cert.KernelPostS.main_arg6)
      ∧ r.2.mem ((c.tc : Thread Cert.KernelPostS.nD Cert.KernelPostS.τ).loc Cert.KernelPostS.main_arg7) = m ((c.tc : Thread Cert.KernelPostS.nD Cert.KernelPostS.τ).loc Cert.KernelPostS.main_arg7)
      ∧ r.2.mem ((c.tc : Thread Cert.KernelPostS.nD Cert.KernelPostS.τ).loc Cert.KernelPostS.main_arg8) = m ((c.tc : Thread Cert.KernelPostS.nD Cert.KernelPostS.τ).loc Cert.KernelPostS.main_arg8)
      ∧ r.2.mem ((c.tc : Thread Cert.KernelPostS.nD Cert.KernelPostS.τ).loc Cert.KernelPostS.main_arg9) = m ((c.tc : Thread Cert.KernelPostS.nD Cert.KernelPostS.τ).loc Cert.KernelPostS.main_arg9)
      ∧ r.2.mem ((c.tc : Thread Cert.KernelPostS.nD Cert.KernelPostS.τ).loc Cert.KernelPostS.main_arg10) = m ((c.tc : Thread Cert.KernelPostS.nD Cert.KernelPostS.τ).loc Cert.KernelPostS.main_arg10)
      ∧ r.2.mem ((c.tc : Thread Cert.KernelPostS.nD Cert.KernelPostS.τ).loc Cert.KernelPostS.main_arg11) = m ((c.tc : Thread Cert.KernelPostS.nD Cert.KernelPostS.τ).loc Cert.KernelPostS.main_arg11)
      ∧ r.2.mem ((c.tc : Thread Cert.KernelPostS.nD Cert.KernelPostS.τ).loc Cert.KernelPostS.main_arg12) = m ((c.tc : Thread Cert.KernelPostS.nD Cert.KernelPostS.τ).loc Cert.KernelPostS.main_arg12)
      ∧ r.2.mem ((c.tc : Thread Cert.KernelPostS.nD Cert.KernelPostS.τ).loc Cert.KernelPostS.main_arg13) = m ((c.tc : Thread Cert.KernelPostS.nD Cert.KernelPostS.τ).loc Cert.KernelPostS.main_arg13)
      ∧ r.2.mem ((c.tc : Thread Cert.KernelPostS.nD Cert.KernelPostS.τ).loc Cert.KernelPostS.main_arg14) = m ((c.tc : Thread Cert.KernelPostS.nD Cert.KernelPostS.τ).loc Cert.KernelPostS.main_arg14)
      ∧ r.2.mem ((c.tc : Thread Cert.KernelPostS.nD Cert.KernelPostS.τ).loc Cert.KernelPostS.main_arg15) = m ((c.tc : Thread Cert.KernelPostS.nD Cert.KernelPostS.τ).loc Cert.KernelPostS.main_arg15)
      ∧ r.2.mem ((c.tc : Thread Cert.KernelPostS.nD Cert.KernelPostS.τ).loc Cert.KernelPostS.main_arg16) = m ((c.tc : Thread Cert.KernelPostS.nD Cert.KernelPostS.τ).loc Cert.KernelPostS.main_arg16))
      ∧ r.2.sem = fun _ => 0)

def quiescent_KernelPostSIdeal [hKernelPostSIdeal : Cert.KernelPostSIdeal.Facts] : Prop :=
  ∀ (m : (ℓ : Loc Cert.KernelPostSIdeal.nD Cert.KernelPostSIdeal.τ Cert.KernelPostSIdeal.sig) → Buf (Elt Ideal) ℓ) (g : Dev Cert.KernelPostSIdeal.nD → PrngReg), Pre_KernelPostSIdeal m →
    θ_run (Cert.KernelPostSIdeal.defs (F := Ideal)) (onTc (τ := Cert.KernelPostSIdeal.τ) (Cert.KernelPostSIdeal.main (F := Ideal))) ⟨m, fun _ => 0, g⟩ (fun r => (∀ c : Dev Cert.KernelPostSIdeal.nD,
      r.2.mem ((c.tc : Thread Cert.KernelPostSIdeal.nD Cert.KernelPostSIdeal.τ).loc Cert.KernelPostSIdeal.main_arg0) = m ((c.tc : Thread Cert.KernelPostSIdeal.nD Cert.KernelPostSIdeal.τ).loc Cert.KernelPostSIdeal.main_arg0)
      ∧ r.2.mem ((c.tc : Thread Cert.KernelPostSIdeal.nD Cert.KernelPostSIdeal.τ).loc Cert.KernelPostSIdeal.main_arg1) = m ((c.tc : Thread Cert.KernelPostSIdeal.nD Cert.KernelPostSIdeal.τ).loc Cert.KernelPostSIdeal.main_arg1)
      ∧ r.2.mem ((c.tc : Thread Cert.KernelPostSIdeal.nD Cert.KernelPostSIdeal.τ).loc Cert.KernelPostSIdeal.main_arg2) = m ((c.tc : Thread Cert.KernelPostSIdeal.nD Cert.KernelPostSIdeal.τ).loc Cert.KernelPostSIdeal.main_arg2)
      ∧ r.2.mem ((c.tc : Thread Cert.KernelPostSIdeal.nD Cert.KernelPostSIdeal.τ).loc Cert.KernelPostSIdeal.main_arg3) = m ((c.tc : Thread Cert.KernelPostSIdeal.nD Cert.KernelPostSIdeal.τ).loc Cert.KernelPostSIdeal.main_arg3)
      ∧ r.2.mem ((c.tc : Thread Cert.KernelPostSIdeal.nD Cert.KernelPostSIdeal.τ).loc Cert.KernelPostSIdeal.main_arg4) = m ((c.tc : Thread Cert.KernelPostSIdeal.nD Cert.KernelPostSIdeal.τ).loc Cert.KernelPostSIdeal.main_arg4)
      ∧ r.2.mem ((c.tc : Thread Cert.KernelPostSIdeal.nD Cert.KernelPostSIdeal.τ).loc Cert.KernelPostSIdeal.main_arg5) = m ((c.tc : Thread Cert.KernelPostSIdeal.nD Cert.KernelPostSIdeal.τ).loc Cert.KernelPostSIdeal.main_arg5)
      ∧ r.2.mem ((c.tc : Thread Cert.KernelPostSIdeal.nD Cert.KernelPostSIdeal.τ).loc Cert.KernelPostSIdeal.main_arg6) = m ((c.tc : Thread Cert.KernelPostSIdeal.nD Cert.KernelPostSIdeal.τ).loc Cert.KernelPostSIdeal.main_arg6)
      ∧ r.2.mem ((c.tc : Thread Cert.KernelPostSIdeal.nD Cert.KernelPostSIdeal.τ).loc Cert.KernelPostSIdeal.main_arg7) = m ((c.tc : Thread Cert.KernelPostSIdeal.nD Cert.KernelPostSIdeal.τ).loc Cert.KernelPostSIdeal.main_arg7)
      ∧ r.2.mem ((c.tc : Thread Cert.KernelPostSIdeal.nD Cert.KernelPostSIdeal.τ).loc Cert.KernelPostSIdeal.main_arg8) = m ((c.tc : Thread Cert.KernelPostSIdeal.nD Cert.KernelPostSIdeal.τ).loc Cert.KernelPostSIdeal.main_arg8)
      ∧ r.2.mem ((c.tc : Thread Cert.KernelPostSIdeal.nD Cert.KernelPostSIdeal.τ).loc Cert.KernelPostSIdeal.main_arg9) = m ((c.tc : Thread Cert.KernelPostSIdeal.nD Cert.KernelPostSIdeal.τ).loc Cert.KernelPostSIdeal.main_arg9)
      ∧ r.2.mem ((c.tc : Thread Cert.KernelPostSIdeal.nD Cert.KernelPostSIdeal.τ).loc Cert.KernelPostSIdeal.main_arg10) = m ((c.tc : Thread Cert.KernelPostSIdeal.nD Cert.KernelPostSIdeal.τ).loc Cert.KernelPostSIdeal.main_arg10)
      ∧ r.2.mem ((c.tc : Thread Cert.KernelPostSIdeal.nD Cert.KernelPostSIdeal.τ).loc Cert.KernelPostSIdeal.main_arg11) = m ((c.tc : Thread Cert.KernelPostSIdeal.nD Cert.KernelPostSIdeal.τ).loc Cert.KernelPostSIdeal.main_arg11)
      ∧ r.2.mem ((c.tc : Thread Cert.KernelPostSIdeal.nD Cert.KernelPostSIdeal.τ).loc Cert.KernelPostSIdeal.main_arg12) = m ((c.tc : Thread Cert.KernelPostSIdeal.nD Cert.KernelPostSIdeal.τ).loc Cert.KernelPostSIdeal.main_arg12)
      ∧ r.2.mem ((c.tc : Thread Cert.KernelPostSIdeal.nD Cert.KernelPostSIdeal.τ).loc Cert.KernelPostSIdeal.main_arg13) = m ((c.tc : Thread Cert.KernelPostSIdeal.nD Cert.KernelPostSIdeal.τ).loc Cert.KernelPostSIdeal.main_arg13)
      ∧ r.2.mem ((c.tc : Thread Cert.KernelPostSIdeal.nD Cert.KernelPostSIdeal.τ).loc Cert.KernelPostSIdeal.main_arg14) = m ((c.tc : Thread Cert.KernelPostSIdeal.nD Cert.KernelPostSIdeal.τ).loc Cert.KernelPostSIdeal.main_arg14)
      ∧ r.2.mem ((c.tc : Thread Cert.KernelPostSIdeal.nD Cert.KernelPostSIdeal.τ).loc Cert.KernelPostSIdeal.main_arg15) = m ((c.tc : Thread Cert.KernelPostSIdeal.nD Cert.KernelPostSIdeal.τ).loc Cert.KernelPostSIdeal.main_arg15)
      ∧ r.2.mem ((c.tc : Thread Cert.KernelPostSIdeal.nD Cert.KernelPostSIdeal.τ).loc Cert.KernelPostSIdeal.main_arg16) = m ((c.tc : Thread Cert.KernelPostSIdeal.nD Cert.KernelPostSIdeal.τ).loc Cert.KernelPostSIdeal.main_arg16))
      ∧ r.2.sem = fun _ => 0)

def quiescent_ReferencePostSIdeal [hReferencePostSIdeal : Cert.ReferencePostSIdeal.Facts] : Prop :=
  ∀ (m : (ℓ : Loc Cert.ReferencePostSIdeal.nD Cert.ReferencePostSIdeal.τ Cert.ReferencePostSIdeal.sig) → Buf (Elt Ideal) ℓ) (g : Dev Cert.ReferencePostSIdeal.nD → PrngReg), Pre_ReferencePostSIdeal m →
    θ_run (Cert.ReferencePostSIdeal.defs (F := Ideal)) (onTc (τ := Cert.ReferencePostSIdeal.τ) (Cert.ReferencePostSIdeal.main (F := Ideal))) ⟨m, fun _ => 0, g⟩ (fun r => (∀ c : Dev Cert.ReferencePostSIdeal.nD,
      r.2.mem ((c.tc : Thread Cert.ReferencePostSIdeal.nD Cert.ReferencePostSIdeal.τ).loc Cert.ReferencePostSIdeal.main_arg0) = m ((c.tc : Thread Cert.ReferencePostSIdeal.nD Cert.ReferencePostSIdeal.τ).loc Cert.ReferencePostSIdeal.main_arg0)
      ∧ r.2.mem ((c.tc : Thread Cert.ReferencePostSIdeal.nD Cert.ReferencePostSIdeal.τ).loc Cert.ReferencePostSIdeal.main_arg1) = m ((c.tc : Thread Cert.ReferencePostSIdeal.nD Cert.ReferencePostSIdeal.τ).loc Cert.ReferencePostSIdeal.main_arg1)
      ∧ r.2.mem ((c.tc : Thread Cert.ReferencePostSIdeal.nD Cert.ReferencePostSIdeal.τ).loc Cert.ReferencePostSIdeal.main_arg2) = m ((c.tc : Thread Cert.ReferencePostSIdeal.nD Cert.ReferencePostSIdeal.τ).loc Cert.ReferencePostSIdeal.main_arg2)
      ∧ r.2.mem ((c.tc : Thread Cert.ReferencePostSIdeal.nD Cert.ReferencePostSIdeal.τ).loc Cert.ReferencePostSIdeal.main_arg3) = m ((c.tc : Thread Cert.ReferencePostSIdeal.nD Cert.ReferencePostSIdeal.τ).loc Cert.ReferencePostSIdeal.main_arg3)
      ∧ r.2.mem ((c.tc : Thread Cert.ReferencePostSIdeal.nD Cert.ReferencePostSIdeal.τ).loc Cert.ReferencePostSIdeal.main_arg4) = m ((c.tc : Thread Cert.ReferencePostSIdeal.nD Cert.ReferencePostSIdeal.τ).loc Cert.ReferencePostSIdeal.main_arg4)
      ∧ r.2.mem ((c.tc : Thread Cert.ReferencePostSIdeal.nD Cert.ReferencePostSIdeal.τ).loc Cert.ReferencePostSIdeal.main_arg5) = m ((c.tc : Thread Cert.ReferencePostSIdeal.nD Cert.ReferencePostSIdeal.τ).loc Cert.ReferencePostSIdeal.main_arg5)
      ∧ r.2.mem ((c.tc : Thread Cert.ReferencePostSIdeal.nD Cert.ReferencePostSIdeal.τ).loc Cert.ReferencePostSIdeal.main_arg6) = m ((c.tc : Thread Cert.ReferencePostSIdeal.nD Cert.ReferencePostSIdeal.τ).loc Cert.ReferencePostSIdeal.main_arg6)
      ∧ r.2.mem ((c.tc : Thread Cert.ReferencePostSIdeal.nD Cert.ReferencePostSIdeal.τ).loc Cert.ReferencePostSIdeal.main_arg7) = m ((c.tc : Thread Cert.ReferencePostSIdeal.nD Cert.ReferencePostSIdeal.τ).loc Cert.ReferencePostSIdeal.main_arg7)
      ∧ r.2.mem ((c.tc : Thread Cert.ReferencePostSIdeal.nD Cert.ReferencePostSIdeal.τ).loc Cert.ReferencePostSIdeal.main_arg8) = m ((c.tc : Thread Cert.ReferencePostSIdeal.nD Cert.ReferencePostSIdeal.τ).loc Cert.ReferencePostSIdeal.main_arg8)
      ∧ r.2.mem ((c.tc : Thread Cert.ReferencePostSIdeal.nD Cert.ReferencePostSIdeal.τ).loc Cert.ReferencePostSIdeal.main_arg9) = m ((c.tc : Thread Cert.ReferencePostSIdeal.nD Cert.ReferencePostSIdeal.τ).loc Cert.ReferencePostSIdeal.main_arg9)
      ∧ r.2.mem ((c.tc : Thread Cert.ReferencePostSIdeal.nD Cert.ReferencePostSIdeal.τ).loc Cert.ReferencePostSIdeal.main_arg10) = m ((c.tc : Thread Cert.ReferencePostSIdeal.nD Cert.ReferencePostSIdeal.τ).loc Cert.ReferencePostSIdeal.main_arg10)
      ∧ r.2.mem ((c.tc : Thread Cert.ReferencePostSIdeal.nD Cert.ReferencePostSIdeal.τ).loc Cert.ReferencePostSIdeal.main_arg11) = m ((c.tc : Thread Cert.ReferencePostSIdeal.nD Cert.ReferencePostSIdeal.τ).loc Cert.ReferencePostSIdeal.main_arg11)
      ∧ r.2.mem ((c.tc : Thread Cert.ReferencePostSIdeal.nD Cert.ReferencePostSIdeal.τ).loc Cert.ReferencePostSIdeal.main_arg12) = m ((c.tc : Thread Cert.ReferencePostSIdeal.nD Cert.ReferencePostSIdeal.τ).loc Cert.ReferencePostSIdeal.main_arg12)
      ∧ r.2.mem ((c.tc : Thread Cert.ReferencePostSIdeal.nD Cert.ReferencePostSIdeal.τ).loc Cert.ReferencePostSIdeal.main_arg13) = m ((c.tc : Thread Cert.ReferencePostSIdeal.nD Cert.ReferencePostSIdeal.τ).loc Cert.ReferencePostSIdeal.main_arg13)
      ∧ r.2.mem ((c.tc : Thread Cert.ReferencePostSIdeal.nD Cert.ReferencePostSIdeal.τ).loc Cert.ReferencePostSIdeal.main_arg14) = m ((c.tc : Thread Cert.ReferencePostSIdeal.nD Cert.ReferencePostSIdeal.τ).loc Cert.ReferencePostSIdeal.main_arg14)
      ∧ r.2.mem ((c.tc : Thread Cert.ReferencePostSIdeal.nD Cert.ReferencePostSIdeal.τ).loc Cert.ReferencePostSIdeal.main_arg15) = m ((c.tc : Thread Cert.ReferencePostSIdeal.nD Cert.ReferencePostSIdeal.τ).loc Cert.ReferencePostSIdeal.main_arg15)
      ∧ r.2.mem ((c.tc : Thread Cert.ReferencePostSIdeal.nD Cert.ReferencePostSIdeal.τ).loc Cert.ReferencePostSIdeal.main_arg16) = m ((c.tc : Thread Cert.ReferencePostSIdeal.nD Cert.ReferencePostSIdeal.τ).loc Cert.ReferencePostSIdeal.main_arg16))
      ∧ r.2.sem = fun _ => 0)

def preserves_KernelRwkv_KernelRwkvIdeal : Prop :=
  True

def algebraic_KernelRwkvIdeal_ReferenceRwkvIdeal [hKernelRwkvIdeal : Cert.KernelRwkvIdeal.Facts] [hReferenceRwkvIdeal : Cert.ReferenceRwkvIdeal.Facts] : Prop :=
  ∀ (m : (ℓ : Loc Cert.KernelRwkvIdeal.nD Cert.KernelRwkvIdeal.τ Cert.KernelRwkvIdeal.sig) → Buf (Elt Ideal) ℓ) (g : Dev Cert.KernelRwkvIdeal.nD → PrngReg)
    (m' : (ℓ : Loc Cert.ReferenceRwkvIdeal.nD Cert.ReferenceRwkvIdeal.τ Cert.ReferenceRwkvIdeal.sig) → Buf (Elt Ideal) ℓ) (g' : Dev Cert.ReferenceRwkvIdeal.nD → PrngReg), Pre_KernelRwkvIdeal m →
    (∀ c : Dev Cert.KernelRwkvIdeal.nD,
      m' ((c.tc : Thread Cert.ReferenceRwkvIdeal.nD Cert.ReferenceRwkvIdeal.τ).loc Cert.ReferenceRwkvIdeal.main_arg0) = m ((c.tc : Thread Cert.KernelRwkvIdeal.nD Cert.KernelRwkvIdeal.τ).loc Cert.KernelRwkvIdeal.main_arg0)
      ∧ m' ((c.tc : Thread Cert.ReferenceRwkvIdeal.nD Cert.ReferenceRwkvIdeal.τ).loc Cert.ReferenceRwkvIdeal.main_arg1) = m ((c.tc : Thread Cert.KernelRwkvIdeal.nD Cert.KernelRwkvIdeal.τ).loc Cert.KernelRwkvIdeal.main_arg1)
      ∧ m' ((c.tc : Thread Cert.ReferenceRwkvIdeal.nD Cert.ReferenceRwkvIdeal.τ).loc Cert.ReferenceRwkvIdeal.main_arg2) = m ((c.tc : Thread Cert.KernelRwkvIdeal.nD Cert.KernelRwkvIdeal.τ).loc Cert.KernelRwkvIdeal.main_arg2)
      ∧ m' ((c.tc : Thread Cert.ReferenceRwkvIdeal.nD Cert.ReferenceRwkvIdeal.τ).loc Cert.ReferenceRwkvIdeal.main_arg3) = m ((c.tc : Thread Cert.KernelRwkvIdeal.nD Cert.KernelRwkvIdeal.τ).loc Cert.KernelRwkvIdeal.main_arg3)
      ∧ m' ((c.tc : Thread Cert.ReferenceRwkvIdeal.nD Cert.ReferenceRwkvIdeal.τ).loc Cert.ReferenceRwkvIdeal.main_arg4) = m ((c.tc : Thread Cert.KernelRwkvIdeal.nD Cert.KernelRwkvIdeal.τ).loc Cert.KernelRwkvIdeal.main_arg4)
      ∧ m' ((c.tc : Thread Cert.ReferenceRwkvIdeal.nD Cert.ReferenceRwkvIdeal.τ).loc Cert.ReferenceRwkvIdeal.main_arg5) = m ((c.tc : Thread Cert.KernelRwkvIdeal.nD Cert.KernelRwkvIdeal.τ).loc Cert.KernelRwkvIdeal.main_arg5)
      ∧ m' ((c.tc : Thread Cert.ReferenceRwkvIdeal.nD Cert.ReferenceRwkvIdeal.τ).loc Cert.ReferenceRwkvIdeal.main_arg6) = m ((c.tc : Thread Cert.KernelRwkvIdeal.nD Cert.KernelRwkvIdeal.τ).loc Cert.KernelRwkvIdeal.main_arg6)
      ∧ m' ((c.tc : Thread Cert.ReferenceRwkvIdeal.nD Cert.ReferenceRwkvIdeal.τ).loc Cert.ReferenceRwkvIdeal.main_arg7) = m ((c.tc : Thread Cert.KernelRwkvIdeal.nD Cert.KernelRwkvIdeal.τ).loc Cert.KernelRwkvIdeal.main_arg7)
      ∧ m' ((c.tc : Thread Cert.ReferenceRwkvIdeal.nD Cert.ReferenceRwkvIdeal.τ).loc Cert.ReferenceRwkvIdeal.main_arg8) = m ((c.tc : Thread Cert.KernelRwkvIdeal.nD Cert.KernelRwkvIdeal.τ).loc Cert.KernelRwkvIdeal.main_arg8)
      ∧ m' ((c.tc : Thread Cert.ReferenceRwkvIdeal.nD Cert.ReferenceRwkvIdeal.τ).loc Cert.ReferenceRwkvIdeal.main_arg9) = m ((c.tc : Thread Cert.KernelRwkvIdeal.nD Cert.KernelRwkvIdeal.τ).loc Cert.KernelRwkvIdeal.main_arg9)
      ∧ m' ((c.tc : Thread Cert.ReferenceRwkvIdeal.nD Cert.ReferenceRwkvIdeal.τ).loc Cert.ReferenceRwkvIdeal.main_arg10) = m ((c.tc : Thread Cert.KernelRwkvIdeal.nD Cert.KernelRwkvIdeal.τ).loc Cert.KernelRwkvIdeal.main_arg10)
      ∧ m' ((c.tc : Thread Cert.ReferenceRwkvIdeal.nD Cert.ReferenceRwkvIdeal.τ).loc Cert.ReferenceRwkvIdeal.main_arg11) = m ((c.tc : Thread Cert.KernelRwkvIdeal.nD Cert.KernelRwkvIdeal.τ).loc Cert.KernelRwkvIdeal.main_arg11)
      ∧ m' ((c.tc : Thread Cert.ReferenceRwkvIdeal.nD Cert.ReferenceRwkvIdeal.τ).loc Cert.ReferenceRwkvIdeal.main_arg12) = m ((c.tc : Thread Cert.KernelRwkvIdeal.nD Cert.KernelRwkvIdeal.τ).loc Cert.KernelRwkvIdeal.main_arg12)
      ∧ m' ((c.tc : Thread Cert.ReferenceRwkvIdeal.nD Cert.ReferenceRwkvIdeal.τ).loc Cert.ReferenceRwkvIdeal.main_arg13) = m ((c.tc : Thread Cert.KernelRwkvIdeal.nD Cert.KernelRwkvIdeal.τ).loc Cert.KernelRwkvIdeal.main_arg13)) →
    ∃ (v0 : (c : Dev Cert.KernelRwkvIdeal.nD) → Buf (Elt Ideal) ((c.tc : Thread Cert.KernelRwkvIdeal.nD Cert.KernelRwkvIdeal.τ).loc Cert.KernelRwkvIdeal.main_v39_0)) (v1 : (c : Dev Cert.KernelRwkvIdeal.nD) → Buf (Elt Ideal) ((c.tc : Thread Cert.KernelRwkvIdeal.nD Cert.KernelRwkvIdeal.τ).loc Cert.KernelRwkvIdeal.main_v41)),
      θ_run (Cert.KernelRwkvIdeal.defs (F := Ideal)) (onTc (τ := Cert.KernelRwkvIdeal.τ) (Cert.KernelRwkvIdeal.main (F := Ideal))) ⟨m, fun _ => 0, g⟩ (fun r => ∀ c : Dev Cert.KernelRwkvIdeal.nD,
          r.2.mem ((c.tc : Thread Cert.KernelRwkvIdeal.nD Cert.KernelRwkvIdeal.τ).loc Cert.KernelRwkvIdeal.main_v39_0) = v0 c
          ∧ r.2.mem ((c.tc : Thread Cert.KernelRwkvIdeal.nD Cert.KernelRwkvIdeal.τ).loc Cert.KernelRwkvIdeal.main_v41) = v1 c
          ∧ r.2.mem ((c.tc : Thread Cert.KernelRwkvIdeal.nD Cert.KernelRwkvIdeal.τ).loc Cert.KernelRwkvIdeal.main_arg0) = m ((c.tc : Thread Cert.KernelRwkvIdeal.nD Cert.KernelRwkvIdeal.τ).loc Cert.KernelRwkvIdeal.main_arg0)
          ∧ r.2.mem ((c.tc : Thread Cert.KernelRwkvIdeal.nD Cert.KernelRwkvIdeal.τ).loc Cert.KernelRwkvIdeal.main_arg1) = m ((c.tc : Thread Cert.KernelRwkvIdeal.nD Cert.KernelRwkvIdeal.τ).loc Cert.KernelRwkvIdeal.main_arg1)
          ∧ r.2.mem ((c.tc : Thread Cert.KernelRwkvIdeal.nD Cert.KernelRwkvIdeal.τ).loc Cert.KernelRwkvIdeal.main_arg2) = m ((c.tc : Thread Cert.KernelRwkvIdeal.nD Cert.KernelRwkvIdeal.τ).loc Cert.KernelRwkvIdeal.main_arg2)
          ∧ r.2.mem ((c.tc : Thread Cert.KernelRwkvIdeal.nD Cert.KernelRwkvIdeal.τ).loc Cert.KernelRwkvIdeal.main_arg3) = m ((c.tc : Thread Cert.KernelRwkvIdeal.nD Cert.KernelRwkvIdeal.τ).loc Cert.KernelRwkvIdeal.main_arg3)
          ∧ r.2.mem ((c.tc : Thread Cert.KernelRwkvIdeal.nD Cert.KernelRwkvIdeal.τ).loc Cert.KernelRwkvIdeal.main_arg4) = m ((c.tc : Thread Cert.KernelRwkvIdeal.nD Cert.KernelRwkvIdeal.τ).loc Cert.KernelRwkvIdeal.main_arg4)
          ∧ r.2.mem ((c.tc : Thread Cert.KernelRwkvIdeal.nD Cert.KernelRwkvIdeal.τ).loc Cert.KernelRwkvIdeal.main_arg5) = m ((c.tc : Thread Cert.KernelRwkvIdeal.nD Cert.KernelRwkvIdeal.τ).loc Cert.KernelRwkvIdeal.main_arg5)
          ∧ r.2.mem ((c.tc : Thread Cert.KernelRwkvIdeal.nD Cert.KernelRwkvIdeal.τ).loc Cert.KernelRwkvIdeal.main_arg6) = m ((c.tc : Thread Cert.KernelRwkvIdeal.nD Cert.KernelRwkvIdeal.τ).loc Cert.KernelRwkvIdeal.main_arg6)
          ∧ r.2.mem ((c.tc : Thread Cert.KernelRwkvIdeal.nD Cert.KernelRwkvIdeal.τ).loc Cert.KernelRwkvIdeal.main_arg7) = m ((c.tc : Thread Cert.KernelRwkvIdeal.nD Cert.KernelRwkvIdeal.τ).loc Cert.KernelRwkvIdeal.main_arg7)
          ∧ r.2.mem ((c.tc : Thread Cert.KernelRwkvIdeal.nD Cert.KernelRwkvIdeal.τ).loc Cert.KernelRwkvIdeal.main_arg8) = m ((c.tc : Thread Cert.KernelRwkvIdeal.nD Cert.KernelRwkvIdeal.τ).loc Cert.KernelRwkvIdeal.main_arg8)
          ∧ r.2.mem ((c.tc : Thread Cert.KernelRwkvIdeal.nD Cert.KernelRwkvIdeal.τ).loc Cert.KernelRwkvIdeal.main_arg9) = m ((c.tc : Thread Cert.KernelRwkvIdeal.nD Cert.KernelRwkvIdeal.τ).loc Cert.KernelRwkvIdeal.main_arg9)
          ∧ r.2.mem ((c.tc : Thread Cert.KernelRwkvIdeal.nD Cert.KernelRwkvIdeal.τ).loc Cert.KernelRwkvIdeal.main_arg10) = m ((c.tc : Thread Cert.KernelRwkvIdeal.nD Cert.KernelRwkvIdeal.τ).loc Cert.KernelRwkvIdeal.main_arg10)
          ∧ r.2.mem ((c.tc : Thread Cert.KernelRwkvIdeal.nD Cert.KernelRwkvIdeal.τ).loc Cert.KernelRwkvIdeal.main_arg11) = m ((c.tc : Thread Cert.KernelRwkvIdeal.nD Cert.KernelRwkvIdeal.τ).loc Cert.KernelRwkvIdeal.main_arg11)
          ∧ r.2.mem ((c.tc : Thread Cert.KernelRwkvIdeal.nD Cert.KernelRwkvIdeal.τ).loc Cert.KernelRwkvIdeal.main_arg12) = m ((c.tc : Thread Cert.KernelRwkvIdeal.nD Cert.KernelRwkvIdeal.τ).loc Cert.KernelRwkvIdeal.main_arg12)
          ∧ r.2.mem ((c.tc : Thread Cert.KernelRwkvIdeal.nD Cert.KernelRwkvIdeal.τ).loc Cert.KernelRwkvIdeal.main_arg13) = m ((c.tc : Thread Cert.KernelRwkvIdeal.nD Cert.KernelRwkvIdeal.τ).loc Cert.KernelRwkvIdeal.main_arg13))
      ∧ θ_run (Cert.ReferenceRwkvIdeal.defs (F := Ideal)) (onTc (τ := Cert.ReferenceRwkvIdeal.τ) (Cert.ReferenceRwkvIdeal.main (F := Ideal))) ⟨m', fun _ => 0, g'⟩ (fun r => ∀ c : Dev Cert.ReferenceRwkvIdeal.nD,
          r.2.mem ((c.tc : Thread Cert.ReferenceRwkvIdeal.nD Cert.ReferenceRwkvIdeal.τ).loc Cert.ReferenceRwkvIdeal.main_v141) = v0 c
          ∧ r.2.mem ((c.tc : Thread Cert.ReferenceRwkvIdeal.nD Cert.ReferenceRwkvIdeal.τ).loc Cert.ReferenceRwkvIdeal.main_v142) = v1 c
          ∧ r.2.mem ((c.tc : Thread Cert.ReferenceRwkvIdeal.nD Cert.ReferenceRwkvIdeal.τ).loc Cert.ReferenceRwkvIdeal.main_arg0) = m' ((c.tc : Thread Cert.ReferenceRwkvIdeal.nD Cert.ReferenceRwkvIdeal.τ).loc Cert.ReferenceRwkvIdeal.main_arg0)
          ∧ r.2.mem ((c.tc : Thread Cert.ReferenceRwkvIdeal.nD Cert.ReferenceRwkvIdeal.τ).loc Cert.ReferenceRwkvIdeal.main_arg1) = m' ((c.tc : Thread Cert.ReferenceRwkvIdeal.nD Cert.ReferenceRwkvIdeal.τ).loc Cert.ReferenceRwkvIdeal.main_arg1)
          ∧ r.2.mem ((c.tc : Thread Cert.ReferenceRwkvIdeal.nD Cert.ReferenceRwkvIdeal.τ).loc Cert.ReferenceRwkvIdeal.main_arg2) = m' ((c.tc : Thread Cert.ReferenceRwkvIdeal.nD Cert.ReferenceRwkvIdeal.τ).loc Cert.ReferenceRwkvIdeal.main_arg2)
          ∧ r.2.mem ((c.tc : Thread Cert.ReferenceRwkvIdeal.nD Cert.ReferenceRwkvIdeal.τ).loc Cert.ReferenceRwkvIdeal.main_arg3) = m' ((c.tc : Thread Cert.ReferenceRwkvIdeal.nD Cert.ReferenceRwkvIdeal.τ).loc Cert.ReferenceRwkvIdeal.main_arg3)
          ∧ r.2.mem ((c.tc : Thread Cert.ReferenceRwkvIdeal.nD Cert.ReferenceRwkvIdeal.τ).loc Cert.ReferenceRwkvIdeal.main_arg4) = m' ((c.tc : Thread Cert.ReferenceRwkvIdeal.nD Cert.ReferenceRwkvIdeal.τ).loc Cert.ReferenceRwkvIdeal.main_arg4)
          ∧ r.2.mem ((c.tc : Thread Cert.ReferenceRwkvIdeal.nD Cert.ReferenceRwkvIdeal.τ).loc Cert.ReferenceRwkvIdeal.main_arg5) = m' ((c.tc : Thread Cert.ReferenceRwkvIdeal.nD Cert.ReferenceRwkvIdeal.τ).loc Cert.ReferenceRwkvIdeal.main_arg5)
          ∧ r.2.mem ((c.tc : Thread Cert.ReferenceRwkvIdeal.nD Cert.ReferenceRwkvIdeal.τ).loc Cert.ReferenceRwkvIdeal.main_arg6) = m' ((c.tc : Thread Cert.ReferenceRwkvIdeal.nD Cert.ReferenceRwkvIdeal.τ).loc Cert.ReferenceRwkvIdeal.main_arg6)
          ∧ r.2.mem ((c.tc : Thread Cert.ReferenceRwkvIdeal.nD Cert.ReferenceRwkvIdeal.τ).loc Cert.ReferenceRwkvIdeal.main_arg7) = m' ((c.tc : Thread Cert.ReferenceRwkvIdeal.nD Cert.ReferenceRwkvIdeal.τ).loc Cert.ReferenceRwkvIdeal.main_arg7)
          ∧ r.2.mem ((c.tc : Thread Cert.ReferenceRwkvIdeal.nD Cert.ReferenceRwkvIdeal.τ).loc Cert.ReferenceRwkvIdeal.main_arg8) = m' ((c.tc : Thread Cert.ReferenceRwkvIdeal.nD Cert.ReferenceRwkvIdeal.τ).loc Cert.ReferenceRwkvIdeal.main_arg8)
          ∧ r.2.mem ((c.tc : Thread Cert.ReferenceRwkvIdeal.nD Cert.ReferenceRwkvIdeal.τ).loc Cert.ReferenceRwkvIdeal.main_arg9) = m' ((c.tc : Thread Cert.ReferenceRwkvIdeal.nD Cert.ReferenceRwkvIdeal.τ).loc Cert.ReferenceRwkvIdeal.main_arg9)
          ∧ r.2.mem ((c.tc : Thread Cert.ReferenceRwkvIdeal.nD Cert.ReferenceRwkvIdeal.τ).loc Cert.ReferenceRwkvIdeal.main_arg10) = m' ((c.tc : Thread Cert.ReferenceRwkvIdeal.nD Cert.ReferenceRwkvIdeal.τ).loc Cert.ReferenceRwkvIdeal.main_arg10)
          ∧ r.2.mem ((c.tc : Thread Cert.ReferenceRwkvIdeal.nD Cert.ReferenceRwkvIdeal.τ).loc Cert.ReferenceRwkvIdeal.main_arg11) = m' ((c.tc : Thread Cert.ReferenceRwkvIdeal.nD Cert.ReferenceRwkvIdeal.τ).loc Cert.ReferenceRwkvIdeal.main_arg11)
          ∧ r.2.mem ((c.tc : Thread Cert.ReferenceRwkvIdeal.nD Cert.ReferenceRwkvIdeal.τ).loc Cert.ReferenceRwkvIdeal.main_arg12) = m' ((c.tc : Thread Cert.ReferenceRwkvIdeal.nD Cert.ReferenceRwkvIdeal.τ).loc Cert.ReferenceRwkvIdeal.main_arg12)
          ∧ r.2.mem ((c.tc : Thread Cert.ReferenceRwkvIdeal.nD Cert.ReferenceRwkvIdeal.τ).loc Cert.ReferenceRwkvIdeal.main_arg13) = m' ((c.tc : Thread Cert.ReferenceRwkvIdeal.nD Cert.ReferenceRwkvIdeal.τ).loc Cert.ReferenceRwkvIdeal.main_arg13))

def preserves_KernelPost_KernelPostIdeal : Prop :=
  True

def algebraic_KernelPostIdeal_ReferencePostIdeal [hKernelPostIdeal : Cert.KernelPostIdeal.Facts] [hReferencePostIdeal : Cert.ReferencePostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg)
    (m' : (ℓ : Loc Cert.ReferencePostIdeal.nD Cert.ReferencePostIdeal.τ Cert.ReferencePostIdeal.sig) → Buf (Elt Ideal) ℓ) (g' : Dev Cert.ReferencePostIdeal.nD → PrngReg), Pre_KernelPostIdeal m →
    (∀ c : Dev Cert.KernelPostIdeal.nD,
      m' ((c.tc : Thread Cert.ReferencePostIdeal.nD Cert.ReferencePostIdeal.τ).loc Cert.ReferencePostIdeal.main_arg0) = m ((c.tc : Thread Cert.KernelPostIdeal.nD Cert.KernelPostIdeal.τ).loc Cert.KernelPostIdeal.main_arg0)
      ∧ m' ((c.tc : Thread Cert.ReferencePostIdeal.nD Cert.ReferencePostIdeal.τ).loc Cert.ReferencePostIdeal.main_arg1) = m ((c.tc : Thread Cert.KernelPostIdeal.nD Cert.KernelPostIdeal.τ).loc Cert.KernelPostIdeal.main_arg1)
      ∧ m' ((c.tc : Thread Cert.ReferencePostIdeal.nD Cert.ReferencePostIdeal.τ).loc Cert.ReferencePostIdeal.main_arg2) = m ((c.tc : Thread Cert.KernelPostIdeal.nD Cert.KernelPostIdeal.τ).loc Cert.KernelPostIdeal.main_arg2)
      ∧ m' ((c.tc : Thread Cert.ReferencePostIdeal.nD Cert.ReferencePostIdeal.τ).loc Cert.ReferencePostIdeal.main_arg3) = m ((c.tc : Thread Cert.KernelPostIdeal.nD Cert.KernelPostIdeal.τ).loc Cert.KernelPostIdeal.main_arg3)
      ∧ m' ((c.tc : Thread Cert.ReferencePostIdeal.nD Cert.ReferencePostIdeal.τ).loc Cert.ReferencePostIdeal.main_arg4) = m ((c.tc : Thread Cert.KernelPostIdeal.nD Cert.KernelPostIdeal.τ).loc Cert.KernelPostIdeal.main_arg4)
      ∧ m' ((c.tc : Thread Cert.ReferencePostIdeal.nD Cert.ReferencePostIdeal.τ).loc Cert.ReferencePostIdeal.main_arg5) = m ((c.tc : Thread Cert.KernelPostIdeal.nD Cert.KernelPostIdeal.τ).loc Cert.KernelPostIdeal.main_arg5)
      ∧ m' ((c.tc : Thread Cert.ReferencePostIdeal.nD Cert.ReferencePostIdeal.τ).loc Cert.ReferencePostIdeal.main_arg6) = m ((c.tc : Thread Cert.KernelPostIdeal.nD Cert.KernelPostIdeal.τ).loc Cert.KernelPostIdeal.main_arg6)
      ∧ m' ((c.tc : Thread Cert.ReferencePostIdeal.nD Cert.ReferencePostIdeal.τ).loc Cert.ReferencePostIdeal.main_arg7) = m ((c.tc : Thread Cert.KernelPostIdeal.nD Cert.KernelPostIdeal.τ).loc Cert.KernelPostIdeal.main_arg7)
      ∧ m' ((c.tc : Thread Cert.ReferencePostIdeal.nD Cert.ReferencePostIdeal.τ).loc Cert.ReferencePostIdeal.main_arg8) = m ((c.tc : Thread Cert.KernelPostIdeal.nD Cert.KernelPostIdeal.τ).loc Cert.KernelPostIdeal.main_arg8)
      ∧ m' ((c.tc : Thread Cert.ReferencePostIdeal.nD Cert.ReferencePostIdeal.τ).loc Cert.ReferencePostIdeal.main_arg9) = m ((c.tc : Thread Cert.KernelPostIdeal.nD Cert.KernelPostIdeal.τ).loc Cert.KernelPostIdeal.main_arg9)
      ∧ m' ((c.tc : Thread Cert.ReferencePostIdeal.nD Cert.ReferencePostIdeal.τ).loc Cert.ReferencePostIdeal.main_arg10) = m ((c.tc : Thread Cert.KernelPostIdeal.nD Cert.KernelPostIdeal.τ).loc Cert.KernelPostIdeal.main_arg10)
      ∧ m' ((c.tc : Thread Cert.ReferencePostIdeal.nD Cert.ReferencePostIdeal.τ).loc Cert.ReferencePostIdeal.main_arg11) = m ((c.tc : Thread Cert.KernelPostIdeal.nD Cert.KernelPostIdeal.τ).loc Cert.KernelPostIdeal.main_arg11)
      ∧ m' ((c.tc : Thread Cert.ReferencePostIdeal.nD Cert.ReferencePostIdeal.τ).loc Cert.ReferencePostIdeal.main_arg12) = m ((c.tc : Thread Cert.KernelPostIdeal.nD Cert.KernelPostIdeal.τ).loc Cert.KernelPostIdeal.main_arg12)
      ∧ m' ((c.tc : Thread Cert.ReferencePostIdeal.nD Cert.ReferencePostIdeal.τ).loc Cert.ReferencePostIdeal.main_arg13) = m ((c.tc : Thread Cert.KernelPostIdeal.nD Cert.KernelPostIdeal.τ).loc Cert.KernelPostIdeal.main_arg13)
      ∧ m' ((c.tc : Thread Cert.ReferencePostIdeal.nD Cert.ReferencePostIdeal.τ).loc Cert.ReferencePostIdeal.main_arg14) = m ((c.tc : Thread Cert.KernelPostIdeal.nD Cert.KernelPostIdeal.τ).loc Cert.KernelPostIdeal.main_arg14)
      ∧ m' ((c.tc : Thread Cert.ReferencePostIdeal.nD Cert.ReferencePostIdeal.τ).loc Cert.ReferencePostIdeal.main_arg15) = m ((c.tc : Thread Cert.KernelPostIdeal.nD Cert.KernelPostIdeal.τ).loc Cert.KernelPostIdeal.main_arg15)
      ∧ m' ((c.tc : Thread Cert.ReferencePostIdeal.nD Cert.ReferencePostIdeal.τ).loc Cert.ReferencePostIdeal.main_arg16) = m ((c.tc : Thread Cert.KernelPostIdeal.nD Cert.KernelPostIdeal.τ).loc Cert.KernelPostIdeal.main_arg16)) →
    ∃ (v0 : (c : Dev Cert.KernelPostIdeal.nD) → Buf (Elt Ideal) ((c.tc : Thread Cert.KernelPostIdeal.nD Cert.KernelPostIdeal.τ).loc Cert.KernelPostIdeal.main_v31)),
      θ_run (Cert.KernelPostIdeal.defs (F := Ideal)) (onTc (τ := Cert.KernelPostIdeal.τ) (Cert.KernelPostIdeal.main (F := Ideal))) ⟨m, fun _ => 0, g⟩ (fun r => ∀ c : Dev Cert.KernelPostIdeal.nD,
          r.2.mem ((c.tc : Thread Cert.KernelPostIdeal.nD Cert.KernelPostIdeal.τ).loc Cert.KernelPostIdeal.main_v31) = v0 c
          ∧ r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
          ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
          ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
          ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3)
          ∧ r.2.mem ((c.tc : Thread Cert.KernelPostIdeal.nD Cert.KernelPostIdeal.τ).loc Cert.KernelPostIdeal.main_arg4) = m ((c.tc : Thread Cert.KernelPostIdeal.nD Cert.KernelPostIdeal.τ).loc Cert.KernelPostIdeal.main_arg4)
          ∧ r.2.mem ((c.tc : Thread Cert.KernelPostIdeal.nD Cert.KernelPostIdeal.τ).loc Cert.KernelPostIdeal.main_arg5) = m ((c.tc : Thread Cert.KernelPostIdeal.nD Cert.KernelPostIdeal.τ).loc Cert.KernelPostIdeal.main_arg5)
          ∧ r.2.mem ((c.tc : Thread Cert.KernelPostIdeal.nD Cert.KernelPostIdeal.τ).loc Cert.KernelPostIdeal.main_arg6) = m ((c.tc : Thread Cert.KernelPostIdeal.nD Cert.KernelPostIdeal.τ).loc Cert.KernelPostIdeal.main_arg6)
          ∧ r.2.mem ((c.tc : Thread Cert.KernelPostIdeal.nD Cert.KernelPostIdeal.τ).loc Cert.KernelPostIdeal.main_arg7) = m ((c.tc : Thread Cert.KernelPostIdeal.nD Cert.KernelPostIdeal.τ).loc Cert.KernelPostIdeal.main_arg7)
          ∧ r.2.mem ((c.tc : Thread Cert.KernelPostIdeal.nD Cert.KernelPostIdeal.τ).loc Cert.KernelPostIdeal.main_arg8) = m ((c.tc : Thread Cert.KernelPostIdeal.nD Cert.KernelPostIdeal.τ).loc Cert.KernelPostIdeal.main_arg8)
          ∧ r.2.mem ((c.tc : Thread Cert.KernelPostIdeal.nD Cert.KernelPostIdeal.τ).loc Cert.KernelPostIdeal.main_arg9) = m ((c.tc : Thread Cert.KernelPostIdeal.nD Cert.KernelPostIdeal.τ).loc Cert.KernelPostIdeal.main_arg9)
          ∧ r.2.mem ((c.tc : Thread Cert.KernelPostIdeal.nD Cert.KernelPostIdeal.τ).loc Cert.KernelPostIdeal.main_arg10) = m ((c.tc : Thread Cert.KernelPostIdeal.nD Cert.KernelPostIdeal.τ).loc Cert.KernelPostIdeal.main_arg10)
          ∧ r.2.mem ((c.tc : Thread Cert.KernelPostIdeal.nD Cert.KernelPostIdeal.τ).loc Cert.KernelPostIdeal.main_arg11) = m ((c.tc : Thread Cert.KernelPostIdeal.nD Cert.KernelPostIdeal.τ).loc Cert.KernelPostIdeal.main_arg11)
          ∧ r.2.mem ((c.tc : Thread Cert.KernelPostIdeal.nD Cert.KernelPostIdeal.τ).loc Cert.KernelPostIdeal.main_arg12) = m ((c.tc : Thread Cert.KernelPostIdeal.nD Cert.KernelPostIdeal.τ).loc Cert.KernelPostIdeal.main_arg12)
          ∧ r.2.mem ((c.tc : Thread Cert.KernelPostIdeal.nD Cert.KernelPostIdeal.τ).loc Cert.KernelPostIdeal.main_arg13) = m ((c.tc : Thread Cert.KernelPostIdeal.nD Cert.KernelPostIdeal.τ).loc Cert.KernelPostIdeal.main_arg13)
          ∧ r.2.mem ((c.tc : Thread Cert.KernelPostIdeal.nD Cert.KernelPostIdeal.τ).loc Cert.KernelPostIdeal.main_arg14) = m ((c.tc : Thread Cert.KernelPostIdeal.nD Cert.KernelPostIdeal.τ).loc Cert.KernelPostIdeal.main_arg14)
          ∧ r.2.mem ((c.tc : Thread Cert.KernelPostIdeal.nD Cert.KernelPostIdeal.τ).loc Cert.KernelPostIdeal.main_arg15) = m ((c.tc : Thread Cert.KernelPostIdeal.nD Cert.KernelPostIdeal.τ).loc Cert.KernelPostIdeal.main_arg15)
          ∧ r.2.mem ((c.tc : Thread Cert.KernelPostIdeal.nD Cert.KernelPostIdeal.τ).loc Cert.KernelPostIdeal.main_arg16) = m ((c.tc : Thread Cert.KernelPostIdeal.nD Cert.KernelPostIdeal.τ).loc Cert.KernelPostIdeal.main_arg16))
      ∧ θ_run (Cert.ReferencePostIdeal.defs (F := Ideal)) (onTc (τ := Cert.ReferencePostIdeal.τ) (Cert.ReferencePostIdeal.main (F := Ideal))) ⟨m', fun _ => 0, g'⟩ (fun r => ∀ c : Dev Cert.ReferencePostIdeal.nD,
          r.2.mem ((c.tc : Thread Cert.ReferencePostIdeal.nD Cert.ReferencePostIdeal.τ).loc Cert.ReferencePostIdeal.main_v104) = v0 c
          ∧ r.2.mem ((c.tc : Thread Cert.ReferencePostIdeal.nD Cert.ReferencePostIdeal.τ).loc Cert.ReferencePostIdeal.main_arg0) = m' ((c.tc : Thread Cert.ReferencePostIdeal.nD Cert.ReferencePostIdeal.τ).loc Cert.ReferencePostIdeal.main_arg0)
          ∧ r.2.mem ((c.tc : Thread Cert.ReferencePostIdeal.nD Cert.ReferencePostIdeal.τ).loc Cert.ReferencePostIdeal.main_arg1) = m' ((c.tc : Thread Cert.ReferencePostIdeal.nD Cert.ReferencePostIdeal.τ).loc Cert.ReferencePostIdeal.main_arg1)
          ∧ r.2.mem ((c.tc : Thread Cert.ReferencePostIdeal.nD Cert.ReferencePostIdeal.τ).loc Cert.ReferencePostIdeal.main_arg2) = m' ((c.tc : Thread Cert.ReferencePostIdeal.nD Cert.ReferencePostIdeal.τ).loc Cert.ReferencePostIdeal.main_arg2)
          ∧ r.2.mem ((c.tc : Thread Cert.ReferencePostIdeal.nD Cert.ReferencePostIdeal.τ).loc Cert.ReferencePostIdeal.main_arg3) = m' ((c.tc : Thread Cert.ReferencePostIdeal.nD Cert.ReferencePostIdeal.τ).loc Cert.ReferencePostIdeal.main_arg3)
          ∧ r.2.mem ((c.tc : Thread Cert.ReferencePostIdeal.nD Cert.ReferencePostIdeal.τ).loc Cert.ReferencePostIdeal.main_arg4) = m' ((c.tc : Thread Cert.ReferencePostIdeal.nD Cert.ReferencePostIdeal.τ).loc Cert.ReferencePostIdeal.main_arg4)
          ∧ r.2.mem ((c.tc : Thread Cert.ReferencePostIdeal.nD Cert.ReferencePostIdeal.τ).loc Cert.ReferencePostIdeal.main_arg5) = m' ((c.tc : Thread Cert.ReferencePostIdeal.nD Cert.ReferencePostIdeal.τ).loc Cert.ReferencePostIdeal.main_arg5)
          ∧ r.2.mem ((c.tc : Thread Cert.ReferencePostIdeal.nD Cert.ReferencePostIdeal.τ).loc Cert.ReferencePostIdeal.main_arg6) = m' ((c.tc : Thread Cert.ReferencePostIdeal.nD Cert.ReferencePostIdeal.τ).loc Cert.ReferencePostIdeal.main_arg6)
          ∧ r.2.mem ((c.tc : Thread Cert.ReferencePostIdeal.nD Cert.ReferencePostIdeal.τ).loc Cert.ReferencePostIdeal.main_arg7) = m' ((c.tc : Thread Cert.ReferencePostIdeal.nD Cert.ReferencePostIdeal.τ).loc Cert.ReferencePostIdeal.main_arg7)
          ∧ r.2.mem ((c.tc : Thread Cert.ReferencePostIdeal.nD Cert.ReferencePostIdeal.τ).loc Cert.ReferencePostIdeal.main_arg8) = m' ((c.tc : Thread Cert.ReferencePostIdeal.nD Cert.ReferencePostIdeal.τ).loc Cert.ReferencePostIdeal.main_arg8)
          ∧ r.2.mem ((c.tc : Thread Cert.ReferencePostIdeal.nD Cert.ReferencePostIdeal.τ).loc Cert.ReferencePostIdeal.main_arg9) = m' ((c.tc : Thread Cert.ReferencePostIdeal.nD Cert.ReferencePostIdeal.τ).loc Cert.ReferencePostIdeal.main_arg9)
          ∧ r.2.mem ((c.tc : Thread Cert.ReferencePostIdeal.nD Cert.ReferencePostIdeal.τ).loc Cert.ReferencePostIdeal.main_arg10) = m' ((c.tc : Thread Cert.ReferencePostIdeal.nD Cert.ReferencePostIdeal.τ).loc Cert.ReferencePostIdeal.main_arg10)
          ∧ r.2.mem ((c.tc : Thread Cert.ReferencePostIdeal.nD Cert.ReferencePostIdeal.τ).loc Cert.ReferencePostIdeal.main_arg11) = m' ((c.tc : Thread Cert.ReferencePostIdeal.nD Cert.ReferencePostIdeal.τ).loc Cert.ReferencePostIdeal.main_arg11)
          ∧ r.2.mem ((c.tc : Thread Cert.ReferencePostIdeal.nD Cert.ReferencePostIdeal.τ).loc Cert.ReferencePostIdeal.main_arg12) = m' ((c.tc : Thread Cert.ReferencePostIdeal.nD Cert.ReferencePostIdeal.τ).loc Cert.ReferencePostIdeal.main_arg12)
          ∧ r.2.mem ((c.tc : Thread Cert.ReferencePostIdeal.nD Cert.ReferencePostIdeal.τ).loc Cert.ReferencePostIdeal.main_arg13) = m' ((c.tc : Thread Cert.ReferencePostIdeal.nD Cert.ReferencePostIdeal.τ).loc Cert.ReferencePostIdeal.main_arg13)
          ∧ r.2.mem ((c.tc : Thread Cert.ReferencePostIdeal.nD Cert.ReferencePostIdeal.τ).loc Cert.ReferencePostIdeal.main_arg14) = m' ((c.tc : Thread Cert.ReferencePostIdeal.nD Cert.ReferencePostIdeal.τ).loc Cert.ReferencePostIdeal.main_arg14)
          ∧ r.2.mem ((c.tc : Thread Cert.ReferencePostIdeal.nD Cert.ReferencePostIdeal.τ).loc Cert.ReferencePostIdeal.main_arg15) = m' ((c.tc : Thread Cert.ReferencePostIdeal.nD Cert.ReferencePostIdeal.τ).loc Cert.ReferencePostIdeal.main_arg15)
          ∧ r.2.mem ((c.tc : Thread Cert.ReferencePostIdeal.nD Cert.ReferencePostIdeal.τ).loc Cert.ReferencePostIdeal.main_arg16) = m' ((c.tc : Thread Cert.ReferencePostIdeal.nD Cert.ReferencePostIdeal.τ).loc Cert.ReferencePostIdeal.main_arg16))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)) →
    ∃ (v0 : (c : Dev Cert.KernelInIdeal.nD) → Buf (Elt Ideal) ((c.tc : Thread Cert.KernelInIdeal.nD Cert.KernelInIdeal.τ).loc Cert.KernelInIdeal.main_v12)) (v1 : (c : Dev Cert.KernelInIdeal.nD) → Buf (Elt Ideal) ((c.tc : Thread Cert.KernelInIdeal.nD Cert.KernelInIdeal.τ).loc Cert.KernelInIdeal.main_v13)) (v2 : (c : Dev Cert.KernelInIdeal.nD) → Buf (Elt Ideal) ((c.tc : Thread Cert.KernelInIdeal.nD Cert.KernelInIdeal.τ).loc Cert.KernelInIdeal.main_v6_2)) (v3 : (c : Dev Cert.KernelInIdeal.nD) → Buf (Elt Ideal) ((c.tc : Thread Cert.KernelInIdeal.nD Cert.KernelInIdeal.τ).loc Cert.KernelInIdeal.main_v6_3)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v12) = v0 c
          ∧ r.2.mem ((c.tc : Thread Cert.KernelInIdeal.nD Cert.KernelInIdeal.τ).loc Cert.KernelInIdeal.main_v13) = v1 c
          ∧ r.2.mem ((c.tc : Thread Cert.KernelInIdeal.nD Cert.KernelInIdeal.τ).loc Cert.KernelInIdeal.main_v6_2) = v2 c
          ∧ r.2.mem ((c.tc : Thread Cert.KernelInIdeal.nD Cert.KernelInIdeal.τ).loc Cert.KernelInIdeal.main_v6_3) = v3 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v23) = v0 c
          ∧ r.2.mem ((c.tc : Thread Cert.ReferenceInIdeal.nD Cert.ReferenceInIdeal.τ).loc Cert.ReferenceInIdeal.main_v25) = v1 c
          ∧ r.2.mem ((c.tc : Thread Cert.ReferenceInIdeal.nD Cert.ReferenceInIdeal.τ).loc Cert.ReferenceInIdeal.main_v26) = v2 c
          ∧ r.2.mem ((c.tc : Thread Cert.ReferenceInIdeal.nD Cert.ReferenceInIdeal.τ).loc Cert.ReferenceInIdeal.main_v27) = v3 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3))

def preserves_KernelPostS_KernelPostSIdeal : Prop :=
  True

def algebraic_KernelPostSIdeal_ReferencePostSIdeal [hKernelPostSIdeal : Cert.KernelPostSIdeal.Facts] [hReferencePostSIdeal : Cert.ReferencePostSIdeal.Facts] : Prop :=
  ∀ (m : (ℓ : Loc Cert.KernelPostSIdeal.nD Cert.KernelPostSIdeal.τ Cert.KernelPostSIdeal.sig) → Buf (Elt Ideal) ℓ) (g : Dev Cert.KernelPostSIdeal.nD → PrngReg)
    (m' : (ℓ : Loc Cert.ReferencePostSIdeal.nD Cert.ReferencePostSIdeal.τ Cert.ReferencePostSIdeal.sig) → Buf (Elt Ideal) ℓ) (g' : Dev Cert.ReferencePostSIdeal.nD → PrngReg), Pre_KernelPostSIdeal m →
    (∀ c : Dev Cert.KernelPostSIdeal.nD,
      m' ((c.tc : Thread Cert.ReferencePostSIdeal.nD Cert.ReferencePostSIdeal.τ).loc Cert.ReferencePostSIdeal.main_arg0) = m ((c.tc : Thread Cert.KernelPostSIdeal.nD Cert.KernelPostSIdeal.τ).loc Cert.KernelPostSIdeal.main_arg0)
      ∧ m' ((c.tc : Thread Cert.ReferencePostSIdeal.nD Cert.ReferencePostSIdeal.τ).loc Cert.ReferencePostSIdeal.main_arg1) = m ((c.tc : Thread Cert.KernelPostSIdeal.nD Cert.KernelPostSIdeal.τ).loc Cert.KernelPostSIdeal.main_arg1)
      ∧ m' ((c.tc : Thread Cert.ReferencePostSIdeal.nD Cert.ReferencePostSIdeal.τ).loc Cert.ReferencePostSIdeal.main_arg2) = m ((c.tc : Thread Cert.KernelPostSIdeal.nD Cert.KernelPostSIdeal.τ).loc Cert.KernelPostSIdeal.main_arg2)
      ∧ m' ((c.tc : Thread Cert.ReferencePostSIdeal.nD Cert.ReferencePostSIdeal.τ).loc Cert.ReferencePostSIdeal.main_arg3) = m ((c.tc : Thread Cert.KernelPostSIdeal.nD Cert.KernelPostSIdeal.τ).loc Cert.KernelPostSIdeal.main_arg3)
      ∧ m' ((c.tc : Thread Cert.ReferencePostSIdeal.nD Cert.ReferencePostSIdeal.τ).loc Cert.ReferencePostSIdeal.main_arg4) = m ((c.tc : Thread Cert.KernelPostSIdeal.nD Cert.KernelPostSIdeal.τ).loc Cert.KernelPostSIdeal.main_arg4)
      ∧ m' ((c.tc : Thread Cert.ReferencePostSIdeal.nD Cert.ReferencePostSIdeal.τ).loc Cert.ReferencePostSIdeal.main_arg5) = m ((c.tc : Thread Cert.KernelPostSIdeal.nD Cert.KernelPostSIdeal.τ).loc Cert.KernelPostSIdeal.main_arg5)
      ∧ m' ((c.tc : Thread Cert.ReferencePostSIdeal.nD Cert.ReferencePostSIdeal.τ).loc Cert.ReferencePostSIdeal.main_arg6) = m ((c.tc : Thread Cert.KernelPostSIdeal.nD Cert.KernelPostSIdeal.τ).loc Cert.KernelPostSIdeal.main_arg6)
      ∧ m' ((c.tc : Thread Cert.ReferencePostSIdeal.nD Cert.ReferencePostSIdeal.τ).loc Cert.ReferencePostSIdeal.main_arg7) = m ((c.tc : Thread Cert.KernelPostSIdeal.nD Cert.KernelPostSIdeal.τ).loc Cert.KernelPostSIdeal.main_arg7)
      ∧ m' ((c.tc : Thread Cert.ReferencePostSIdeal.nD Cert.ReferencePostSIdeal.τ).loc Cert.ReferencePostSIdeal.main_arg8) = m ((c.tc : Thread Cert.KernelPostSIdeal.nD Cert.KernelPostSIdeal.τ).loc Cert.KernelPostSIdeal.main_arg8)
      ∧ m' ((c.tc : Thread Cert.ReferencePostSIdeal.nD Cert.ReferencePostSIdeal.τ).loc Cert.ReferencePostSIdeal.main_arg9) = m ((c.tc : Thread Cert.KernelPostSIdeal.nD Cert.KernelPostSIdeal.τ).loc Cert.KernelPostSIdeal.main_arg9)
      ∧ m' ((c.tc : Thread Cert.ReferencePostSIdeal.nD Cert.ReferencePostSIdeal.τ).loc Cert.ReferencePostSIdeal.main_arg10) = m ((c.tc : Thread Cert.KernelPostSIdeal.nD Cert.KernelPostSIdeal.τ).loc Cert.KernelPostSIdeal.main_arg10)
      ∧ m' ((c.tc : Thread Cert.ReferencePostSIdeal.nD Cert.ReferencePostSIdeal.τ).loc Cert.ReferencePostSIdeal.main_arg11) = m ((c.tc : Thread Cert.KernelPostSIdeal.nD Cert.KernelPostSIdeal.τ).loc Cert.KernelPostSIdeal.main_arg11)
      ∧ m' ((c.tc : Thread Cert.ReferencePostSIdeal.nD Cert.ReferencePostSIdeal.τ).loc Cert.ReferencePostSIdeal.main_arg12) = m ((c.tc : Thread Cert.KernelPostSIdeal.nD Cert.KernelPostSIdeal.τ).loc Cert.KernelPostSIdeal.main_arg12)
      ∧ m' ((c.tc : Thread Cert.ReferencePostSIdeal.nD Cert.ReferencePostSIdeal.τ).loc Cert.ReferencePostSIdeal.main_arg13) = m ((c.tc : Thread Cert.KernelPostSIdeal.nD Cert.KernelPostSIdeal.τ).loc Cert.KernelPostSIdeal.main_arg13)
      ∧ m' ((c.tc : Thread Cert.ReferencePostSIdeal.nD Cert.ReferencePostSIdeal.τ).loc Cert.ReferencePostSIdeal.main_arg14) = m ((c.tc : Thread Cert.KernelPostSIdeal.nD Cert.KernelPostSIdeal.τ).loc Cert.KernelPostSIdeal.main_arg14)
      ∧ m' ((c.tc : Thread Cert.ReferencePostSIdeal.nD Cert.ReferencePostSIdeal.τ).loc Cert.ReferencePostSIdeal.main_arg15) = m ((c.tc : Thread Cert.KernelPostSIdeal.nD Cert.KernelPostSIdeal.τ).loc Cert.KernelPostSIdeal.main_arg15)
      ∧ m' ((c.tc : Thread Cert.ReferencePostSIdeal.nD Cert.ReferencePostSIdeal.τ).loc Cert.ReferencePostSIdeal.main_arg16) = m ((c.tc : Thread Cert.KernelPostSIdeal.nD Cert.KernelPostSIdeal.τ).loc Cert.KernelPostSIdeal.main_arg16)) →
    ∃ (v0 : (c : Dev Cert.KernelPostSIdeal.nD) → Buf (Elt Ideal) ((c.tc : Thread Cert.KernelPostSIdeal.nD Cert.KernelPostSIdeal.τ).loc Cert.KernelPostSIdeal.main_v31)),
      θ_run (Cert.KernelPostSIdeal.defs (F := Ideal)) (onTc (τ := Cert.KernelPostSIdeal.τ) (Cert.KernelPostSIdeal.main (F := Ideal))) ⟨m, fun _ => 0, g⟩ (fun r => ∀ c : Dev Cert.KernelPostSIdeal.nD,
          r.2.mem ((c.tc : Thread Cert.KernelPostSIdeal.nD Cert.KernelPostSIdeal.τ).loc Cert.KernelPostSIdeal.main_v31) = v0 c
          ∧ r.2.mem ((c.tc : Thread Cert.KernelPostSIdeal.nD Cert.KernelPostSIdeal.τ).loc Cert.KernelPostSIdeal.main_arg0) = m ((c.tc : Thread Cert.KernelPostSIdeal.nD Cert.KernelPostSIdeal.τ).loc Cert.KernelPostSIdeal.main_arg0)
          ∧ r.2.mem ((c.tc : Thread Cert.KernelPostSIdeal.nD Cert.KernelPostSIdeal.τ).loc Cert.KernelPostSIdeal.main_arg1) = m ((c.tc : Thread Cert.KernelPostSIdeal.nD Cert.KernelPostSIdeal.τ).loc Cert.KernelPostSIdeal.main_arg1)
          ∧ r.2.mem ((c.tc : Thread Cert.KernelPostSIdeal.nD Cert.KernelPostSIdeal.τ).loc Cert.KernelPostSIdeal.main_arg2) = m ((c.tc : Thread Cert.KernelPostSIdeal.nD Cert.KernelPostSIdeal.τ).loc Cert.KernelPostSIdeal.main_arg2)
          ∧ r.2.mem ((c.tc : Thread Cert.KernelPostSIdeal.nD Cert.KernelPostSIdeal.τ).loc Cert.KernelPostSIdeal.main_arg3) = m ((c.tc : Thread Cert.KernelPostSIdeal.nD Cert.KernelPostSIdeal.τ).loc Cert.KernelPostSIdeal.main_arg3)
          ∧ r.2.mem ((c.tc : Thread Cert.KernelPostSIdeal.nD Cert.KernelPostSIdeal.τ).loc Cert.KernelPostSIdeal.main_arg4) = m ((c.tc : Thread Cert.KernelPostSIdeal.nD Cert.KernelPostSIdeal.τ).loc Cert.KernelPostSIdeal.main_arg4)
          ∧ r.2.mem ((c.tc : Thread Cert.KernelPostSIdeal.nD Cert.KernelPostSIdeal.τ).loc Cert.KernelPostSIdeal.main_arg5) = m ((c.tc : Thread Cert.KernelPostSIdeal.nD Cert.KernelPostSIdeal.τ).loc Cert.KernelPostSIdeal.main_arg5)
          ∧ r.2.mem ((c.tc : Thread Cert.KernelPostSIdeal.nD Cert.KernelPostSIdeal.τ).loc Cert.KernelPostSIdeal.main_arg6) = m ((c.tc : Thread Cert.KernelPostSIdeal.nD Cert.KernelPostSIdeal.τ).loc Cert.KernelPostSIdeal.main_arg6)
          ∧ r.2.mem ((c.tc : Thread Cert.KernelPostSIdeal.nD Cert.KernelPostSIdeal.τ).loc Cert.KernelPostSIdeal.main_arg7) = m ((c.tc : Thread Cert.KernelPostSIdeal.nD Cert.KernelPostSIdeal.τ).loc Cert.KernelPostSIdeal.main_arg7)
          ∧ r.2.mem ((c.tc : Thread Cert.KernelPostSIdeal.nD Cert.KernelPostSIdeal.τ).loc Cert.KernelPostSIdeal.main_arg8) = m ((c.tc : Thread Cert.KernelPostSIdeal.nD Cert.KernelPostSIdeal.τ).loc Cert.KernelPostSIdeal.main_arg8)
          ∧ r.2.mem ((c.tc : Thread Cert.KernelPostSIdeal.nD Cert.KernelPostSIdeal.τ).loc Cert.KernelPostSIdeal.main_arg9) = m ((c.tc : Thread Cert.KernelPostSIdeal.nD Cert.KernelPostSIdeal.τ).loc Cert.KernelPostSIdeal.main_arg9)
          ∧ r.2.mem ((c.tc : Thread Cert.KernelPostSIdeal.nD Cert.KernelPostSIdeal.τ).loc Cert.KernelPostSIdeal.main_arg10) = m ((c.tc : Thread Cert.KernelPostSIdeal.nD Cert.KernelPostSIdeal.τ).loc Cert.KernelPostSIdeal.main_arg10)
          ∧ r.2.mem ((c.tc : Thread Cert.KernelPostSIdeal.nD Cert.KernelPostSIdeal.τ).loc Cert.KernelPostSIdeal.main_arg11) = m ((c.tc : Thread Cert.KernelPostSIdeal.nD Cert.KernelPostSIdeal.τ).loc Cert.KernelPostSIdeal.main_arg11)
          ∧ r.2.mem ((c.tc : Thread Cert.KernelPostSIdeal.nD Cert.KernelPostSIdeal.τ).loc Cert.KernelPostSIdeal.main_arg12) = m ((c.tc : Thread Cert.KernelPostSIdeal.nD Cert.KernelPostSIdeal.τ).loc Cert.KernelPostSIdeal.main_arg12)
          ∧ r.2.mem ((c.tc : Thread Cert.KernelPostSIdeal.nD Cert.KernelPostSIdeal.τ).loc Cert.KernelPostSIdeal.main_arg13) = m ((c.tc : Thread Cert.KernelPostSIdeal.nD Cert.KernelPostSIdeal.τ).loc Cert.KernelPostSIdeal.main_arg13)
          ∧ r.2.mem ((c.tc : Thread Cert.KernelPostSIdeal.nD Cert.KernelPostSIdeal.τ).loc Cert.KernelPostSIdeal.main_arg14) = m ((c.tc : Thread Cert.KernelPostSIdeal.nD Cert.KernelPostSIdeal.τ).loc Cert.KernelPostSIdeal.main_arg14)
          ∧ r.2.mem ((c.tc : Thread Cert.KernelPostSIdeal.nD Cert.KernelPostSIdeal.τ).loc Cert.KernelPostSIdeal.main_arg15) = m ((c.tc : Thread Cert.KernelPostSIdeal.nD Cert.KernelPostSIdeal.τ).loc Cert.KernelPostSIdeal.main_arg15)
          ∧ r.2.mem ((c.tc : Thread Cert.KernelPostSIdeal.nD Cert.KernelPostSIdeal.τ).loc Cert.KernelPostSIdeal.main_arg16) = m ((c.tc : Thread Cert.KernelPostSIdeal.nD Cert.KernelPostSIdeal.τ).loc Cert.KernelPostSIdeal.main_arg16))
      ∧ θ_run (Cert.ReferencePostSIdeal.defs (F := Ideal)) (onTc (τ := Cert.ReferencePostSIdeal.τ) (Cert.ReferencePostSIdeal.main (F := Ideal))) ⟨m', fun _ => 0, g'⟩ (fun r => ∀ c : Dev Cert.ReferencePostSIdeal.nD,
          r.2.mem ((c.tc : Thread Cert.ReferencePostSIdeal.nD Cert.ReferencePostSIdeal.τ).loc Cert.ReferencePostSIdeal.main_v104) = v0 c
          ∧ r.2.mem ((c.tc : Thread Cert.ReferencePostSIdeal.nD Cert.ReferencePostSIdeal.τ).loc Cert.ReferencePostSIdeal.main_arg0) = m' ((c.tc : Thread Cert.ReferencePostSIdeal.nD Cert.ReferencePostSIdeal.τ).loc Cert.ReferencePostSIdeal.main_arg0)
          ∧ r.2.mem ((c.tc : Thread Cert.ReferencePostSIdeal.nD Cert.ReferencePostSIdeal.τ).loc Cert.ReferencePostSIdeal.main_arg1) = m' ((c.tc : Thread Cert.ReferencePostSIdeal.nD Cert.ReferencePostSIdeal.τ).loc Cert.ReferencePostSIdeal.main_arg1)
          ∧ r.2.mem ((c.tc : Thread Cert.ReferencePostSIdeal.nD Cert.ReferencePostSIdeal.τ).loc Cert.ReferencePostSIdeal.main_arg2) = m' ((c.tc : Thread Cert.ReferencePostSIdeal.nD Cert.ReferencePostSIdeal.τ).loc Cert.ReferencePostSIdeal.main_arg2)
          ∧ r.2.mem ((c.tc : Thread Cert.ReferencePostSIdeal.nD Cert.ReferencePostSIdeal.τ).loc Cert.ReferencePostSIdeal.main_arg3) = m' ((c.tc : Thread Cert.ReferencePostSIdeal.nD Cert.ReferencePostSIdeal.τ).loc Cert.ReferencePostSIdeal.main_arg3)
          ∧ r.2.mem ((c.tc : Thread Cert.ReferencePostSIdeal.nD Cert.ReferencePostSIdeal.τ).loc Cert.ReferencePostSIdeal.main_arg4) = m' ((c.tc : Thread Cert.ReferencePostSIdeal.nD Cert.ReferencePostSIdeal.τ).loc Cert.ReferencePostSIdeal.main_arg4)
          ∧ r.2.mem ((c.tc : Thread Cert.ReferencePostSIdeal.nD Cert.ReferencePostSIdeal.τ).loc Cert.ReferencePostSIdeal.main_arg5) = m' ((c.tc : Thread Cert.ReferencePostSIdeal.nD Cert.ReferencePostSIdeal.τ).loc Cert.ReferencePostSIdeal.main_arg5)
          ∧ r.2.mem ((c.tc : Thread Cert.ReferencePostSIdeal.nD Cert.ReferencePostSIdeal.τ).loc Cert.ReferencePostSIdeal.main_arg6) = m' ((c.tc : Thread Cert.ReferencePostSIdeal.nD Cert.ReferencePostSIdeal.τ).loc Cert.ReferencePostSIdeal.main_arg6)
          ∧ r.2.mem ((c.tc : Thread Cert.ReferencePostSIdeal.nD Cert.ReferencePostSIdeal.τ).loc Cert.ReferencePostSIdeal.main_arg7) = m' ((c.tc : Thread Cert.ReferencePostSIdeal.nD Cert.ReferencePostSIdeal.τ).loc Cert.ReferencePostSIdeal.main_arg7)
          ∧ r.2.mem ((c.tc : Thread Cert.ReferencePostSIdeal.nD Cert.ReferencePostSIdeal.τ).loc Cert.ReferencePostSIdeal.main_arg8) = m' ((c.tc : Thread Cert.ReferencePostSIdeal.nD Cert.ReferencePostSIdeal.τ).loc Cert.ReferencePostSIdeal.main_arg8)
          ∧ r.2.mem ((c.tc : Thread Cert.ReferencePostSIdeal.nD Cert.ReferencePostSIdeal.τ).loc Cert.ReferencePostSIdeal.main_arg9) = m' ((c.tc : Thread Cert.ReferencePostSIdeal.nD Cert.ReferencePostSIdeal.τ).loc Cert.ReferencePostSIdeal.main_arg9)
          ∧ r.2.mem ((c.tc : Thread Cert.ReferencePostSIdeal.nD Cert.ReferencePostSIdeal.τ).loc Cert.ReferencePostSIdeal.main_arg10) = m' ((c.tc : Thread Cert.ReferencePostSIdeal.nD Cert.ReferencePostSIdeal.τ).loc Cert.ReferencePostSIdeal.main_arg10)
          ∧ r.2.mem ((c.tc : Thread Cert.ReferencePostSIdeal.nD Cert.ReferencePostSIdeal.τ).loc Cert.ReferencePostSIdeal.main_arg11) = m' ((c.tc : Thread Cert.ReferencePostSIdeal.nD Cert.ReferencePostSIdeal.τ).loc Cert.ReferencePostSIdeal.main_arg11)
          ∧ r.2.mem ((c.tc : Thread Cert.ReferencePostSIdeal.nD Cert.ReferencePostSIdeal.τ).loc Cert.ReferencePostSIdeal.main_arg12) = m' ((c.tc : Thread Cert.ReferencePostSIdeal.nD Cert.ReferencePostSIdeal.τ).loc Cert.ReferencePostSIdeal.main_arg12)
          ∧ r.2.mem ((c.tc : Thread Cert.ReferencePostSIdeal.nD Cert.ReferencePostSIdeal.τ).loc Cert.ReferencePostSIdeal.main_arg13) = m' ((c.tc : Thread Cert.ReferencePostSIdeal.nD Cert.ReferencePostSIdeal.τ).loc Cert.ReferencePostSIdeal.main_arg13)
          ∧ r.2.mem ((c.tc : Thread Cert.ReferencePostSIdeal.nD Cert.ReferencePostSIdeal.τ).loc Cert.ReferencePostSIdeal.main_arg14) = m' ((c.tc : Thread Cert.ReferencePostSIdeal.nD Cert.ReferencePostSIdeal.τ).loc Cert.ReferencePostSIdeal.main_arg14)
          ∧ r.2.mem ((c.tc : Thread Cert.ReferencePostSIdeal.nD Cert.ReferencePostSIdeal.τ).loc Cert.ReferencePostSIdeal.main_arg15) = m' ((c.tc : Thread Cert.ReferencePostSIdeal.nD Cert.ReferencePostSIdeal.τ).loc Cert.ReferencePostSIdeal.main_arg15)
          ∧ r.2.mem ((c.tc : Thread Cert.ReferencePostSIdeal.nD Cert.ReferencePostSIdeal.τ).loc Cert.ReferencePostSIdeal.main_arg16) = m' ((c.tc : Thread Cert.ReferencePostSIdeal.nD Cert.ReferencePostSIdeal.τ).loc Cert.ReferencePostSIdeal.main_arg16))

def Claim : Prop :=
  ∃ (hKernelRwkv : Cert.KernelRwkv.Facts) (hKernelRwkvIdeal : Cert.KernelRwkvIdeal.Facts) (hReferenceRwkvIdeal : Cert.ReferenceRwkvIdeal.Facts) (hKernelPost : Cert.KernelPost.Facts) (hKernelPostIdeal : Cert.KernelPostIdeal.Facts) (hReferencePostIdeal : Cert.ReferencePostIdeal.Facts) (hKernelIn : Cert.KernelIn.Facts) (hKernelInIdeal : Cert.KernelInIdeal.Facts) (hReferenceInIdeal : Cert.ReferenceInIdeal.Facts) (hKernelPostS : Cert.KernelPostS.Facts) (hKernelPostSIdeal : Cert.KernelPostSIdeal.Facts) (hReferencePostSIdeal : Cert.ReferencePostSIdeal.Facts),
    quiescent_KernelRwkv (hKernelRwkv := hKernelRwkv)
    ∧ quiescent_KernelRwkvIdeal (hKernelRwkvIdeal := hKernelRwkvIdeal)
    ∧ quiescent_ReferenceRwkvIdeal (hReferenceRwkvIdeal := hReferenceRwkvIdeal)
    ∧ quiescent_KernelPost (hKernelPost := hKernelPost)
    ∧ quiescent_KernelPostIdeal (hKernelPostIdeal := hKernelPostIdeal)
    ∧ quiescent_ReferencePostIdeal (hReferencePostIdeal := hReferencePostIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelPostS (hKernelPostS := hKernelPostS)
    ∧ quiescent_KernelPostSIdeal (hKernelPostSIdeal := hKernelPostSIdeal)
    ∧ quiescent_ReferencePostSIdeal (hReferencePostSIdeal := hReferencePostSIdeal)
    ∧ preserves_KernelRwkv_KernelRwkvIdeal
    ∧ algebraic_KernelRwkvIdeal_ReferenceRwkvIdeal (hKernelRwkvIdeal := hKernelRwkvIdeal) (hReferenceRwkvIdeal := hReferenceRwkvIdeal)
    ∧ preserves_KernelPost_KernelPostIdeal
    ∧ algebraic_KernelPostIdeal_ReferencePostIdeal (hKernelPostIdeal := hKernelPostIdeal) (hReferencePostIdeal := hReferencePostIdeal)
    ∧ preserves_KernelIn_KernelInIdeal
    ∧ algebraic_KernelInIdeal_ReferenceInIdeal (hKernelInIdeal := hKernelInIdeal) (hReferenceInIdeal := hReferenceInIdeal)
    ∧ preserves_KernelPostS_KernelPostSIdeal
    ∧ algebraic_KernelPostSIdeal_ReferencePostSIdeal (hKernelPostSIdeal := hKernelPostSIdeal) (hReferencePostSIdeal := hReferencePostSIdeal)
-- ==== KernelRwkv.lean ====
abbrev S128x1x1792 : Shape := ⟨3, ![128, 1, 1792]⟩
abbrev S1x128x1x1792 : Shape := ⟨4, ![1, 128, 1, 1792]⟩
abbrev S1x128x8x64x64 : Shape := ⟨5, ![1, 128, 8, 64, 64]⟩
abbrev S1x1792 : Shape := ⟨2, ![1, 1792]⟩
abbrev S1x512 : Shape := ⟨2, ![1, 512]⟩
abbrev S1x64x512 : Shape := ⟨3, ![1, 64, 512]⟩
abbrev S1x128x512 : Shape := ⟨3, ![1, 128, 512]⟩
abbrev S1x8x64 : Shape := ⟨3, ![1, 8, 64]⟩
abbrev S64x512 : Shape := ⟨2, ![64, 512]⟩
abbrev S_ : Shape := ⟨0, ![]⟩
abbrev S128x512 : Shape := ⟨2, ![128, 512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1792 : Shape := ⟨1, ![1792]⟩
abbrev S512 : Shape := ⟨1, ![512]⟩
abbrev S8x64 : Shape := ⟨2, ![8, 64]⟩
abbrev S128x1792 : Shape := ⟨2, ![128, 1792]⟩
abbrev S128x8x64x64 : Shape := ⟨4, ![128, 8, 64, 64]⟩
abbrev S8x64x64x128 : Shape := ⟨4, ![8, 64, 64, 128]⟩
abbrev S1x64x64x128 : Shape := ⟨4, ![1, 64, 64, 128]⟩
abbrev S6x512x128 : Shape := ⟨3, ![6, 512, 128]⟩
abbrev S512x128 : Shape := ⟨2, ![512, 128]⟩
abbrev S1x512x128 : Shape := ⟨3, ![1, 512, 128]⟩
abbrev S1x64x128 : Shape := ⟨3, ![1, 64, 128]⟩
abbrev S64x128 : Shape := ⟨2, ![64, 128]⟩
abbrev S1x1x64x128 : Shape := ⟨4, ![1, 1, 64, 128]⟩
abbrev S1x1x128 : Shape := ⟨3, ![1, 1, 128]⟩

abbrev nBuf : Space → Nat
  | .hbm => 76
  | .vmem => 23
  | .smem => 0
  | _ => 0

abbrev bufTy : (tb : Table) → Fin (tcTables nBuf tb) → BufTy
  | .hbm, ⟨0, _⟩ => ⟨S128x1x1792, .f32⟩
  | .hbm, ⟨1, _⟩ => ⟨S1x128x1x1792, .f32⟩
  | .hbm, ⟨2, _⟩ => ⟨S1x128x8x64x64, .f32⟩
  | .hbm, ⟨3, _⟩ => ⟨S1x1792, .f32⟩
  | .hbm, ⟨4, _⟩ => ⟨S1x512, .f32⟩
  | .hbm, ⟨5, _⟩ => ⟨S1x64x512, .f32⟩
  | .hbm, ⟨6, _⟩ => ⟨S1x512, .f32⟩
  | .hbm, ⟨7, _⟩ => ⟨S1x64x512, .f32⟩
  | .hbm, ⟨8, _⟩ => ⟨S1x128x512, .f32⟩
  | .hbm, ⟨9, _⟩ => ⟨S1x512, .f32⟩
  | .hbm, ⟨10, _⟩ => ⟨S1x512, .f32⟩
  | .hbm, ⟨11, _⟩ => ⟨S1x8x64, .f32⟩
  | .hbm, ⟨12, _⟩ => ⟨S1x512, .f32⟩
  | .hbm, ⟨13, _⟩ => ⟨S1x512, .f32⟩
  | .hbm, ⟨14, _⟩ => ⟨S64x512, .f32⟩
  | .hbm, ⟨15, _⟩ => ⟨S_, .f32⟩
  | .hbm, ⟨16, _⟩ => ⟨S64x512, .f32⟩
  | .hbm, ⟨17, _⟩ => ⟨S128x512, .f32⟩
  | .hbm, ⟨18, _⟩ => ⟨S128x512, .bf16⟩
  | .hbm, ⟨19, _⟩ => ⟨S_, .f32⟩
  | .hbm, ⟨20, _⟩ => ⟨S64x512, .f32⟩
  | .hbm, ⟨21, _⟩ => ⟨S64x512, .f32⟩
  | .hbm, ⟨22, _⟩ => ⟨S128x512, .f32⟩
  | .hbm, ⟨23, _⟩ => ⟨S128x512, .bf16⟩
  | .hbm, ⟨24, _⟩ => ⟨S128, .i32⟩
  | .hbm, ⟨25, _⟩ => ⟨S_, .i32⟩
  | .hbm, ⟨26, _⟩ => ⟨S_, .i32⟩
  | .hbm, ⟨27, _⟩ => ⟨S128, .i32⟩
  | .hbm, ⟨28, _⟩ => ⟨S128, .i32⟩
  | .hbm, ⟨29, _⟩ => ⟨S128, .i32⟩
  | .hbm, ⟨30, _⟩ => ⟨S_, .i32⟩
  | .hbm, ⟨31, _⟩ => ⟨S128, .i32⟩
  | .hbm, ⟨32, _⟩ => ⟨S128, .i1⟩
  | .hbm, ⟨33, _⟩ => ⟨S128, .i32⟩
  | .hbm, ⟨34, _⟩ => ⟨S128, .i32⟩
  | .hbm, ⟨35, _⟩ => ⟨S_, .i32⟩
  | .hbm, ⟨36, _⟩ => ⟨S128, .i32⟩
  | .hbm, ⟨37, _⟩ => ⟨S128, .i1⟩
  | .hbm, ⟨38, _⟩ => ⟨S128, .i1⟩
  | .hbm, ⟨39, _⟩ => ⟨S_, .i32⟩
  | .hbm, ⟨40, _⟩ => ⟨S128, .i32⟩
  | .hbm, ⟨41, _⟩ => ⟨S128, .i32⟩
  | .hbm, ⟨42, _⟩ => ⟨S128, .i32⟩
  | .hbm, ⟨43, _⟩ => ⟨S128x1, .i32⟩
  | .hbm, ⟨44, _⟩ => ⟨S1x128, .i32⟩
  | .hbm, ⟨45, _⟩ => ⟨S128x128, .i32⟩
  | .hbm, ⟨46, _⟩ => ⟨S128x128, .i32⟩
  | .hbm, ⟨47, _⟩ => ⟨S128x128, .i1⟩
  | .hbm, ⟨48, _⟩ => ⟨S128x128, .bf16⟩
  | .hbm, ⟨49, _⟩ => ⟨S1792, .f32⟩
  | .hbm, ⟨50, _⟩ => ⟨S1x1792, .f32⟩
  | .hbm, ⟨51, _⟩ => ⟨S512, .f32⟩
  | .hbm, ⟨52, _⟩ => ⟨S1x512, .f32⟩
  | .hbm, ⟨53, _⟩ => ⟨S512, .f32⟩
  | .hbm, ⟨54, _⟩ => ⟨S1x512, .f32⟩
  | .hbm, ⟨55, _⟩ => ⟨S128x512, .f32⟩
  | .hbm, ⟨56, _⟩ => ⟨S128x512, .bf16⟩
  | .hbm, ⟨57, _⟩ => ⟨S512, .f32⟩
  | .hbm, ⟨58, _⟩ => ⟨S1x512, .f32⟩
  | .hbm, ⟨59, _⟩ => ⟨S512, .f32⟩
  | .hbm, ⟨60, _⟩ => ⟨S1x512, .f32⟩
  | .hbm, ⟨61, _⟩ => ⟨S8x64, .f32⟩
  | .hbm, ⟨62, _⟩ => ⟨S1x512, .f32⟩
  | .hbm, ⟨63, _⟩ => ⟨S512, .f32⟩
  | .hbm, ⟨64, _⟩ => ⟨S1x512, .f32⟩
  | .hbm, ⟨65, _⟩ => ⟨S512, .f32⟩
  | .hbm, ⟨66, _⟩ => ⟨S1x512, .f32⟩
  | .hbm, ⟨67, _⟩ => ⟨S128x1792, .f32⟩
  | .hbm, ⟨68, _⟩ => ⟨S128x1x1792, .f32⟩
  | .hbm, ⟨69, _⟩ => ⟨S128x1792, .f32⟩
  | .hbm, ⟨70, _⟩ => ⟨S128x8x64x64, .f32⟩
  | .hbm, ⟨71, _⟩ => ⟨S8x64x64x128, .f32⟩
  | .hbm, ⟨72, _⟩ => ⟨S128x512, .f32⟩
  | .hbm, ⟨73, _⟩ => ⟨S8x64x64x128, .f32⟩
  | .hbm, ⟨74, _⟩ => ⟨S128x8x64x64, .f32⟩
  | .hbm, ⟨75, _⟩ => ⟨S1x128x8x64x64, .f32⟩
  | .local _ .vmem, ⟨0, _⟩ => ⟨S128x1792, .f32⟩
  | .local _ .vmem, ⟨1, _⟩ => ⟨S128x1792, .f32⟩
  | .local _ .vmem, ⟨2, _⟩ => ⟨S1x64x64x128, .f32⟩
  | .local _ .vmem, ⟨3, _⟩ => ⟨S1x64x64x128, .f32⟩
  | .local _ .vmem, ⟨4, _⟩ => ⟨S1x1792, .f32⟩
  | .local _ .vmem, ⟨5, _⟩ => ⟨S1x512, .f32⟩
  | .local _ .vmem, ⟨6, _⟩ => ⟨S128x512, .bf16⟩
  | .local _ .vmem, ⟨7, _⟩ => ⟨S1x512, .f32⟩
  | .local _ .vmem, ⟨8, _⟩ => ⟨S128x512, .bf16⟩
  | .local _ .vmem, ⟨9, _⟩ => ⟨S128x512, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S128x128, .bf16⟩
  | .local _ .vmem, ⟨16, _⟩ => ⟨S128x512, .f32⟩
  | .local _ .vmem, ⟨17, _⟩ => ⟨S1x64x64x128, .f32⟩
  | .local _ .vmem, ⟨18, _⟩ => ⟨S1x64x64x128, .f32⟩
  | .local _ .vmem, ⟨19, _⟩ => ⟨S6x512x128, .f32⟩
  | .local _ .vmem, ⟨20, _⟩ => ⟨S512x128, .f32⟩
  | .local _ .vmem, ⟨21, _⟩ => ⟨S128x512, .f32⟩
  | .local _ .vmem, ⟨22, _⟩ => ⟨S128x512, .f32⟩
  | _, _ => ⟨S128x1x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39_0 : Ref sig .tc := ⟨.hbm, 72, rfl⟩
abbrev main_v39_1 : Ref sig .tc := ⟨.hbm, 73, rfl⟩
abbrev main_v40 : Ref sig .tc := ⟨.hbm, 74, rfl⟩
abbrev main_v41 : Ref sig .tc := ⟨.hbm, 75, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c64_i32 : BitVec 32 := 64#32
  let v3 : BitVec 32 := Scalar.muli arg0 c64_i32
  v3
def k0_off1 (i : grid0.Coords) : Fin 3 → Nat :=
  let c0 : Index := 0#32
  let arg0 : BitVec 32 := BitVec.ofNat 32 (i 0).val
  let c64_i32 : BitVec 32 := 64#32
  let v3 : BitVec 32 := Scalar.muli arg0 c64_i32
  let v4 : BitVec 32 := v3
  let v5 : Index := Scalar.indexCast v4
  let c0_1 : Index := 0#32
  ![0, v5.toNat, 0]
def k0_off2 (i : grid0.Coords) : Fin 3 → Nat :=
  let c1 : Index := 1#32
  let arg0 : BitVec 32 := BitVec.ofNat 32 (i 0).val
  let c64_i32 : BitVec 32 := 64#32
  let v3 : BitVec 32 := Scalar.muli arg0 c64_i32
  let v4 : BitVec 32 := v3
  let v8 : Index := Scalar.indexCast v4
  let c0_2 : Index := 0#32
  ![1, v8.toNat, 0]
def k0_off3 (i : grid0.Coords) : Fin 3 → Nat :=
  let c2 : Index := 2#32
  let arg0 : BitVec 32 := BitVec.ofNat 32 (i 0).val
  let c64_i32 : BitVec 32 := 64#32
  let v3 : BitVec 32 := Scalar.muli arg0 c64_i32
  let v4 : BitVec 32 := v3
  let v11 : Index := Scalar.indexCast v4
  let c0_3 : Index := 0#32
  ![2, v11.toNat, 0]
def k0_off4 (i : grid0.Coords) : Fin 3 → Nat :=
  let c3 : Index := 3#32
  let arg0 : BitVec 32 := BitVec.ofNat 32 (i 0).val
  let c64_i32 : BitVec 32 := 64#32
  let v3 : BitVec 32 := Scalar.muli arg0 c64_i32
  let v4 : BitVec 32 := v3
  let v14 : Index := Scalar.indexCast v4
  let c0_4 : Index := 0#32
  ![3, v14.toNat, 0]
def k0_off5 (i : grid0.Coords) : Fin 3 → Nat :=
  let c4 : Index := 4#32
  let arg0 : BitVec 32 := BitVec.ofNat 32 (i 0).val
  let c64_i32 : BitVec 32 := 64#32
  let v3 : BitVec 32 := Scalar.muli arg0 c64_i32
  let v4 : BitVec 32 := v3
  let v17 : Index := Scalar.indexCast v4
  let c0_5 : Index := 0#32
  ![4, v17.toNat, 0]
@[reducible] def k0_t1_loop : Scf.Loop 32 :=
  let c0_i32_6 : BitVec 32 := 0#32
  let c64_i32_7 : BitVec 32 := 64#32
  let v20 : BitVec 32 := Scalar.addi c0_i32_6 c64_i32_7
  let c1_i32 : BitVec 32 := 1#32
  ⟨c0_i32_6, v20, c1_i32⟩
def k0_off6 (k0_t1 : Fin k0_t1_loop.trips) : Fin 4 → Nat :=
  let c0_10 : Index := 0#32
  let c0_i32_6 : BitVec 32 := 0#32
  let c1_i32 : BitVec 32 := 1#32
  let arg22 : BitVec 32 := Scf.iv c0_i32_6 c1_i32 k0_t1
  let v24 : Index := Scalar.indexCast arg22
  let c0_11 : Index := 0#32
  let c0_12 : Index := 0#32
  ![0, v24.toNat, 0, 0]
def k0_off7 (i : grid0.Coords) (k0_t1 : Fin k0_t1_loop.trips) : Fin 3 → Nat :=
  let c5 : Index := 5#32
  let arg0 : BitVec 32 := BitVec.ofNat 32 (i 0).val
  let c64_i32 : BitVec 32 := 64#32
  let v3 : BitVec 32 := Scalar.muli arg0 c64_i32
  let v4 : BitVec 32 := v3
  let c0_i32_6 : BitVec 32 := 0#32
  let c1_i32 : BitVec 32 := 1#32
  let arg22 : BitVec 32 := Scf.iv c0_i32_6 c1_i32 k0_t1
  let v34 : BitVec 32 := Scalar.addi v4 arg22
  let v35 : Index := Scalar.indexCast v34
  let c0_13 : Index := 0#32
  ![5, v35.toNat, 0]
def k0_off8 (i : grid0.Coords) (k0_t1 : Fin k0_t1_loop.trips) : Fin 2 → Nat :=
  let arg0 : BitVec 32 := BitVec.ofNat 32 (i 0).val
  let c64_i32 : BitVec 32 := 64#32
  let v3 : BitVec 32 := Scalar.muli arg0 c64_i32
  let v4 : BitVec 32 := v3
  let c0_i32_6 : BitVec 32 := 0#32
  let c1_i32 : BitVec 32 := 1#32
  let arg22 : BitVec 32 := Scf.iv c0_i32_6 c1_i32 k0_t1
  let v48 : BitVec 32 := Scalar.addi v4 arg22
  let v49 : Index := Scalar.indexCast v48
  let c0_18 : Index := 0#32
  ![v49.toNat, 0]
def k0_cond2 (i : grid0.Coords) : BitVec 1 :=
  let arg0 : BitVec 32 := BitVec.ofNat 32 (i 0).val
  let c7_i32 : BitVec 32 := 7#32
  let v21 : BitVec 1 := Scalar.cmpi .eq arg0 c7_i32
  let v22 : BitVec 32 := Scalar.extui v21
  let c0_i32_9 : BitVec 32 := 0#32
  let v23 : BitVec 1 := Scalar.cmpi .ne v22 c0_i32_9
  v23

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S128x1792 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1792 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x64x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x64x64x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceRwkvIdeal.lean ====
abbrev S128x1x1792 : Shape := ⟨3, ![128, 1, 1792]⟩
abbrev S1x128x1x1792 : Shape := ⟨4, ![1, 128, 1, 1792]⟩
abbrev S1x128x8x64x64 : Shape := ⟨5, ![1, 128, 8, 64, 64]⟩
abbrev S1x1792 : Shape := ⟨2, ![1, 1792]⟩
abbrev S1x512 : Shape := ⟨2, ![1, 512]⟩
abbrev S1x64x512 : Shape := ⟨3, ![1, 64, 512]⟩
abbrev S1x128x512 : Shape := ⟨3, ![1, 128, 512]⟩
abbrev S1x8x64 : Shape := ⟨3, ![1, 8, 64]⟩
abbrev S128x8x64x64 : Shape := ⟨4, ![128, 8, 64, 64]⟩
abbrev S1792 : Shape := ⟨1, ![1792]⟩
abbrev S1x1x1792 : Shape := ⟨3, ![1, 1, 1792]⟩
abbrev S128x1x512 : Shape := ⟨3, ![128, 1, 512]⟩
abbrev S128x1x64 : Shape := ⟨3, ![128, 1, 64]⟩
abbrev S128x1x128 : Shape := ⟨3, ![128, 1, 128]⟩
abbrev S512 : Shape := ⟨1, ![512]⟩
abbrev S64x512 : Shape := ⟨2, ![64, 512]⟩
abbrev S1x1x512 : Shape := ⟨3, ![1, 1, 512]⟩
abbrev S_ : Shape := ⟨0, ![]⟩
abbrev S128x512 : Shape := ⟨2, ![128, 512]⟩
abbrev S128x1x8x64 : Shape := ⟨4, ![128, 1, 8, 64]⟩
abbrev S128x1x8 : Shape := ⟨3, ![128, 1, 8]⟩
abbrev S128x1x8x1 : Shape := ⟨4, ![128, 1, 8, 1]⟩
abbrev S128x8x64 : Shape := ⟨3, ![128, 8, 64]⟩
abbrev S128x8x1x64 : Shape := ⟨4, ![128, 8, 1, 64]⟩
abbrev S128x8x64x1 : Shape := ⟨4, ![128, 8, 64, 1]⟩
abbrev S8x64 : Shape := ⟨2, ![8, 64]⟩
abbrev S1x1x8x64 : Shape := ⟨4, ![1, 1, 8, 64]⟩

abbrev nBuf : Space → Nat
  | .hbm => 185
  | .vmem => 0
  | .smem => 0
  | _ => 0

abbrev hbmTy0_0 (i : Nat) : BufTy := match i % 128 with
  | 0 => ⟨S128x1x1792, .f32⟩
  | 1 => ⟨S1x128x1x1792, .f32⟩
  | 2 => ⟨S1x128x8x64x64, .f32⟩
  | 3 => ⟨S1x1792, .f32⟩
  | 4 => ⟨S1x512, .f32⟩
  | 5 => ⟨S1x64x512, .f32⟩
  | 6 => ⟨S1x512, .f32⟩
  | 7 => ⟨S1x64x512, .f32⟩
  | 8 => ⟨S1x128x512, .f32⟩
  | 9 => ⟨S1x512, .f32⟩
  | 10 => ⟨S1x512, .f32⟩
  | 11 => ⟨S1x8x64, .f32⟩
  | 12 => ⟨S1x512, .f32⟩
  | 13 => ⟨S1x512, .f32⟩
  | 14 => ⟨S128x1x1792, .f32⟩
  | 15 => ⟨S128x8x64x64, .f32⟩
  | 16 => ⟨S128x1x1792, .f32⟩
  | 17 => ⟨S1792, .f32⟩
  | 18 => ⟨S1x1x1792, .f32⟩
  | 19 => ⟨S128x1x1792, .f32⟩
  | 20 => ⟨S128x1x1792, .f32⟩
  | 21 => ⟨S128x1x1792, .f32⟩
  | 22 => ⟨S128x1x512, .f32⟩
  | 23 => ⟨S128x1x512, .f32⟩
  | 24 => ⟨S128x1x512, .f32⟩
  | 25 => ⟨S128x1x64, .f32⟩
  | 26 => ⟨S128x1x64, .f32⟩
  | 27 => ⟨S128x1x128, .f32⟩
  | 28 => ⟨S512, .f32⟩
  | 29 => ⟨S128x1x64, .f32⟩
  | 30 => ⟨S64x512, .f32⟩
  | 31 => ⟨S128x1x512, .f32⟩
  | 32 => ⟨S1x1x512, .f32⟩
  | 33 => ⟨S128x1x512, .f32⟩
  | 34 => ⟨S128x1x512, .f32⟩
  | 35 => ⟨S128x1x512, .f32⟩
  | 36 => ⟨S_, .f32⟩
  | 37 => ⟨S128x1x512, .f32⟩
  | 38 => ⟨S128x1x512, .f32⟩
  | 39 => ⟨S128x1x512, .f32⟩
  | 40 => ⟨S128x1x512, .f32⟩
  | 41 => ⟨S128x1x512, .i1⟩
  | 42 => ⟨S128x1x512, .f32⟩
  | 43 => ⟨S128x1x512, .f32⟩
  | 44 => ⟨S128x1x512, .f32⟩
  | 45 => ⟨S128x1x512, .f32⟩
  | 46 => ⟨S128x1x512, .f32⟩
  | 47 => ⟨S128x1x512, .f32⟩
  | 48 => ⟨S128x1x512, .f32⟩
  | 49 => ⟨S128x1x512, .f32⟩
  | 50 => ⟨S128x1x512, .f32⟩
  | 51 => ⟨S_, .f32⟩
  | 52 => ⟨S128x1x512, .f32⟩
  | 53 => ⟨S128x1x512, .f32⟩
  | 54 => ⟨S128x1x512, .f32⟩
  | 55 => ⟨S128x1x512, .f32⟩
  | 56 => ⟨S128x1x512, .f32⟩
  | 57 => ⟨S512, .f32⟩
  | 58 => ⟨S64x512, .f32⟩
  | 59 => ⟨S128x1x512, .f32⟩
  | 60 => ⟨S1x1x512, .f32⟩
  | 61 => ⟨S128x1x512, .f32⟩
  | 62 => ⟨S128x1x512, .f32⟩
  | 63 => ⟨S128x1x512, .f32⟩
  | 64 => ⟨S128x1x512, .f32⟩
  | 65 => ⟨S_, .f32⟩
  | 66 => ⟨S128x1x512, .f32⟩
  | 67 => ⟨S128x1x512, .f32⟩
  | 68 => ⟨S_, .f32⟩
  | 69 => ⟨S128x1x512, .f32⟩
  | 70 => ⟨S128x1x512, .f32⟩
  | 71 => ⟨S128x1x128, .f32⟩
  | 72 => ⟨S128x1x128, .f32⟩
  | 73 => ⟨S_, .f32⟩
  | 74 => ⟨S128x1x128, .f32⟩
  | 75 => ⟨S128x1x128, .f32⟩
  | 76 => ⟨S_, .f32⟩
  | 77 => ⟨S128x1x128, .f32⟩
  | 78 => ⟨S128x1x128, .f32⟩
  | 79 => ⟨S128x512, .f32⟩
  | 80 => ⟨S128x1x512, .f32⟩
  | 81 => ⟨S512, .f32⟩
  | 82 => ⟨S1x1x512, .f32⟩
  | 83 => ⟨S128x1x512, .f32⟩
  | 84 => ⟨S128x1x512, .f32⟩
  | 85 => ⟨S128x1x8x64, .f32⟩
  | 86 => ⟨S128x1x8x64, .f32⟩
  | 87 => ⟨S_, .f32⟩
  | 88 => ⟨S128x1x8, .f32⟩
  | 89 => ⟨S128x1x8x1, .f32⟩
  | 90 => ⟨S_, .f32⟩
  | 91 => ⟨S128x1x8x1, .f32⟩
  | 92 => ⟨S128x1x8x1, .f32⟩
  | 93 => ⟨S128x1x8x1, .f32⟩
  | 94 => ⟨S128x1x8x64, .f32⟩
  | 95 => ⟨S128x1x8x64, .f32⟩
  | 96 => ⟨S_, .f32⟩
  | 97 => ⟨S128x1x512, .f32⟩
  | 98 => ⟨S128x1x512, .f32⟩
  | 99 => ⟨S512, .f32⟩
  | 100 => ⟨S1x1x512, .f32⟩
  | 101 => ⟨S128x1x512, .f32⟩
  | 102 => ⟨S128x1x512, .f32⟩
  | 103 => ⟨S_, .f32⟩
  | 104 => ⟨S128x1x512, .f32⟩
  | 105 => ⟨S128x1x512, .f32⟩
  | 106 => ⟨S128x1x512, .f32⟩
  | 107 => ⟨S128x1x8x64, .f32⟩
  | 108 => ⟨S128x1x8x64, .f32⟩
  | 109 => ⟨S128x1x8x64, .f32⟩
  | 110 => ⟨S128x1x8x64, .f32⟩
  | 111 => ⟨S128x1x8x64, .f32⟩
  | 112 => ⟨S128x1x8x64, .f32⟩
  | 113 => ⟨S128x1x8x64, .f32⟩
  | 114 => ⟨S128x8x64, .f32⟩
  | 115 => ⟨S128x8x64, .f32⟩
  | 116 => ⟨S128x8x64, .f32⟩
  | 117 => ⟨S128x8x64, .f32⟩
  | 118 => ⟨S128x8x64, .f32⟩
  | 119 => ⟨S128x8x64, .f32⟩
  | 120 => ⟨S128x8x64, .f32⟩
  | 121 => ⟨S128x8x1x64, .f32⟩
  | 122 => ⟨S128x8x64x64, .f32⟩
  | 123 => ⟨S128x8x64x64, .f32⟩
  | 124 => ⟨S128x8x64x1, .f32⟩
  | 125 => ⟨S128x8x1x64, .f32⟩
  | 126 => ⟨S128x8x64x64, .f32⟩
  | 127 => ⟨S128x8x64x64, .f32⟩
  | _ => ⟨S128x1x1792, .f32⟩

abbrev hbmTy0_1 (i : Nat) : BufTy := match i % 128 with
  | 0 => ⟨S128x8x64x64, .f32⟩
  | 1 => ⟨S128x8x64x64, .f32⟩
  | 2 => ⟨S128x8x64x1, .f32⟩
  | 3 => ⟨S128x8x1x64, .f32⟩
  | 4 => ⟨S128x8x64x64, .f32⟩
  | 5 => ⟨S128x8x64x64, .f32⟩
  | 6 => ⟨S128x8x64x64, .f32⟩
  | 7 => ⟨S128x8x64x64, .f32⟩
  | 8 => ⟨S128x8x64, .f32⟩
  | 9 => ⟨S128x1x8x64, .f32⟩
  | 10 => ⟨S_, .f32⟩
  | 11 => ⟨S128x1x8, .f32⟩
  | 12 => ⟨S128x1x8x1, .f32⟩
  | 13 => ⟨S_, .f32⟩
  | 14 => ⟨S128x1x8x1, .f32⟩
  | 15 => ⟨S128x1x8x1, .f32⟩
  | 16 => ⟨S128x1x8x64, .f32⟩
  | 17 => ⟨S128x1x8x64, .f32⟩
  | 18 => ⟨S128x1x8x64, .f32⟩
  | 19 => ⟨S_, .f32⟩
  | 20 => ⟨S128x1x8, .f32⟩
  | 21 => ⟨S128x1x8x1, .f32⟩
  | 22 => ⟨S_, .f32⟩
  | 23 => ⟨S128x1x8x1, .f32⟩
  | 24 => ⟨S128x1x8x1, .f32⟩
  | 25 => ⟨S128x1x8x64, .f32⟩
  | 26 => ⟨S128x1x8x64, .f32⟩
  | 27 => ⟨S_, .f32⟩
  | 28 => ⟨S128x1x8x1, .f32⟩
  | 29 => ⟨S128x1x8x1, .f32⟩
  | 30 => ⟨S128x1x8x1, .f32⟩
  | 31 => ⟨S128x1x8x64, .f32⟩
  | 32 => ⟨S128x1x8x64, .f32⟩
  | 33 => ⟨S128x1x512, .f32⟩
  | 34 => ⟨S512, .f32⟩
  | 35 => ⟨S1x1x512, .f32⟩
  | 36 => ⟨S128x1x512, .f32⟩
  | 37 => ⟨S128x1x512, .f32⟩
  | 38 => ⟨S512, .f32⟩
  | 39 => ⟨S1x1x512, .f32⟩
  | 40 => ⟨S128x1x512, .f32⟩
  | 41 => ⟨S128x1x512, .f32⟩
  | 42 => ⟨S128x1x8x64, .f32⟩
  | 43 => ⟨S8x64, .f32⟩
  | 44 => ⟨S1x1x8x64, .f32⟩
  | 45 => ⟨S128x1x8x64, .f32⟩
  | 46 => ⟨S128x1x8x64, .f32⟩
  | 47 => ⟨S_, .f32⟩
  | 48 => ⟨S128x1x8, .f32⟩
  | 49 => ⟨S128x1x8x1, .f32⟩
  | 50 => ⟨S128x1x8x64, .f32⟩
  | 51 => ⟨S128x1x8x64, .f32⟩
  | 52 => ⟨S128x1x512, .f32⟩
  | 53 => ⟨S128x1x512, .f32⟩
  | 54 => ⟨S128x1x512, .f32⟩
  | 55 => ⟨S128x512, .f32⟩
  | 56 => ⟨S1x128x8x64x64, .f32⟩
  | _ => ⟨S128x1x1792, .f32⟩

abbrev hbmTy (i : Nat) : BufTy := match i / 128 with
  | 0 => hbmTy0_0 i
  | 1 => hbmTy0_1 i
  | _ => ⟨S128x1x1792, .f32⟩

abbrev bufTy : (tb : Table) → Fin (tcTables nBuf tb) → BufTy
  | .hbm, ⟨i, _⟩ => hbmTy i
  | _, _ => ⟨S128x1x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call0_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_v22 : Ref sig .tc := ⟨.hbm, 49, rfl⟩
abbrev main_v23 : Ref sig .tc := ⟨.hbm, 50, rfl⟩
abbrev main_cst : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_0 : Ref sig .tc := ⟨.hbm, 65, rfl⟩
abbrev main_v37 : Ref sig .tc := ⟨.hbm, 66, rfl⟩
abbrev main_v38 : Ref sig .tc := ⟨.hbm, 67, rfl⟩
abbrev main_cst_1 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_2 : Ref sig .tc := ⟨.hbm, 73, rfl⟩
abbrev main_v43 : Ref sig .tc := ⟨.hbm, 74, rfl⟩
abbrev main_v44 : Ref sig .tc := ⟨.hbm, 75, rfl⟩
abbrev main_cst_3 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_4 : Ref sig .tc := ⟨.hbm, 87, rfl⟩
abbrev main_v55 : Ref sig .tc := ⟨.hbm, 88, rfl⟩
abbrev main_v56 : Ref sig .tc := ⟨.hbm, 89, rfl⟩
abbrev main_cst_5 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_6 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_7 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_8 : Ref sig .tc := ⟨.hbm, 138, rfl⟩
abbrev main_v102 : Ref sig .tc := ⟨.hbm, 139, rfl⟩
abbrev main_v103 : Ref sig .tc := ⟨.hbm, 140, rfl⟩
abbrev main_cst_9 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_10 : Ref sig .tc := ⟨.hbm, 147, rfl⟩
abbrev main_v109 : Ref sig .tc := ⟨.hbm, 148, rfl⟩
abbrev main_v110 : Ref sig .tc := ⟨.hbm, 149, rfl⟩
abbrev main_cst_11 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_12 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_cst_13 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩

abbrev nD : Nat := 1
abbrev τ : Topo := Topo.v7x

variable {F : FTy → Type} [FloatOps F]
-- ==== KernelPost.lean ====
abbrev S8x2048x1024 : Shape := ⟨3, ![8, 2048, 1024]⟩
abbrev S8x2048x512 : Shape := ⟨3, ![8, 2048, 512]⟩
abbrev S1x8x2048x256 : Shape := ⟨4, ![1, 8, 2048, 256]⟩
abbrev S1x1024 : Shape := ⟨2, ![1, 1024]⟩
abbrev S1x1024x5896 : Shape := ⟨3, ![1, 1024, 5896]⟩
abbrev S1x512x1024 : Shape := ⟨3, ![1, 512, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1024 : Shape := ⟨1, ![1024]⟩
abbrev S1024x5896 : Shape := ⟨2, ![1024, 5896]⟩
abbrev S1024x2048 : Shape := ⟨2, ![1024, 2048]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S256x1024 : Shape := ⟨2, ![256, 1024]⟩
abbrev S16384x1024 : Shape := ⟨2, ![16384, 1024]⟩
abbrev S16384x512 : Shape := ⟨2, ![16384, 512]⟩
abbrev S8x2048x256 : Shape := ⟨3, ![8, 2048, 256]⟩
abbrev S16384x256 : Shape := ⟨2, ![16384, 256]⟩
abbrev S512x512 : Shape := ⟨2, ![512, 512]⟩
abbrev S512x256 : Shape := ⟨2, ![512, 256]⟩
abbrev S256x512 : Shape := ⟨2, ![256, 512]⟩
abbrev S256 : Shape := ⟨1, ![256]⟩
abbrev S256x1 : Shape := ⟨2, ![256, 1]⟩
abbrev S256x2048 : Shape := ⟨2, ![256, 2048]⟩
abbrev S256x256 : Shape := ⟨2, ![256, 256]⟩
abbrev S256x2816 : Shape := ⟨2, ![256, 2816]⟩

abbrev nBuf : Space → Nat
  | .hbm => 49
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S1x8x2048x256, .f32⟩
  | .hbm, ⟨4, _⟩ => ⟨S1x1024, .f32⟩
  | .hbm, ⟨5, _⟩ => ⟨S1x1024x5896, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024x2816, .f32⟩
  | .hbm, ⟨11, _⟩ => ⟨S1x1024x2816, .f32⟩
  | .hbm, ⟨12, _⟩ => ⟨S1x2816x1024, .f32⟩
  | .hbm, ⟨13, _⟩ => ⟨S1x1024, .f32⟩
  | .hbm, ⟨14, _⟩ => ⟨S1x1024x1024, .f32⟩
  | .hbm, ⟨15, _⟩ => ⟨S1x256x1024, .f32⟩
  | .hbm, ⟨16, _⟩ => ⟨S1024, .f32⟩
  | .hbm, ⟨17, _⟩ => ⟨S1024x5896, .f32⟩
  | .hbm, ⟨18, _⟩ => ⟨S1024x2048, .f32⟩
  | .hbm, ⟨19, _⟩ => ⟨S1024x2048, .bf16⟩
  | .hbm, ⟨20, _⟩ => ⟨S1024, .f32⟩
  | .hbm, ⟨21, _⟩ => ⟨S1x1024, .f32⟩
  | .hbm, ⟨22, _⟩ => ⟨S512x1024, .f32⟩
  | .hbm, ⟨23, _⟩ => ⟨S512x1024, .bf16⟩
  | .hbm, ⟨24, _⟩ => ⟨S512x1024, .f32⟩
  | .hbm, ⟨25, _⟩ => ⟨S512x1024, .bf16⟩
  | .hbm, ⟨26, _⟩ => ⟨S1024x1024, .f32⟩
  | .hbm, ⟨27, _⟩ => ⟨S1024x1024, .bf16⟩
  | .hbm, ⟨28, _⟩ => ⟨S1024, .f32⟩
  | .hbm, ⟨29, _⟩ => ⟨S1x1024, .f32⟩
  | .hbm, ⟨30, _⟩ => ⟨S1024x2816, .f32⟩
  | .hbm, ⟨31, _⟩ => ⟨S1024x2816, .bf16⟩
  | .hbm, ⟨32, _⟩ => ⟨S1024x2816, .f32⟩
  | .hbm, ⟨33, _⟩ => ⟨S1024x2816, .bf16⟩
  | .hbm, ⟨34, _⟩ => ⟨S2816x1024, .f32⟩
  | .hbm, ⟨35, _⟩ => ⟨S2816x1024, .bf16⟩
  | .hbm, ⟨36, _⟩ => ⟨S1024, .f32⟩
  | .hbm, ⟨37, _⟩ => ⟨S1x1024, .f32⟩
  | .hbm, ⟨38, _⟩ => ⟨S1024x1024, .f32⟩
  | .hbm, ⟨39, _⟩ => ⟨S1024x1024, .bf16⟩
  | .hbm, ⟨40, _⟩ => ⟨S256x1024, .f32⟩
  | .hbm, ⟨41, _⟩ => ⟨S256x1024, .bf16⟩
  | .hbm, ⟨42, _⟩ => ⟨S1x1024, .f32⟩
  | .hbm, ⟨43, _⟩ => ⟨S16384x1024, .f32⟩
  | .hbm, ⟨44, _⟩ => ⟨S16384x512, .f32⟩
  | .hbm, ⟨45, _⟩ => ⟨S16384x512, .f32⟩
  | .hbm, ⟨46, _⟩ => ⟨S8x2048x256, .f32⟩
  | .hbm, ⟨47, _⟩ => ⟨S16384x256, .f32⟩
  | .hbm, ⟨48, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S1x1024, .f32⟩
  | .local _ .vmem, ⟨9, _⟩ => ⟨S1024x2048, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x2816, .bf16⟩
  | .local _ .vmem, ⟨15, _⟩ => ⟨S1024x2816, .bf16⟩
  | .local _ .vmem, ⟨16, _⟩ => ⟨S2816x1024, .bf16⟩
  | .local _ .vmem, ⟨17, _⟩ => ⟨S1x1024, .f32⟩
  | .local _ .vmem, ⟨18, _⟩ => ⟨S1024x1024, .bf16⟩
  | .local _ .vmem, ⟨19, _⟩ => ⟨S256x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg17_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem17_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== KernelPostIdeal.lean ====
abbrev S8x2048x1024 : Shape := ⟨3, ![8, 2048, 1024]⟩
abbrev S8x2048x512 : Shape := ⟨3, ![8, 2048, 512]⟩
abbrev S1x8x2048x256 : Shape := ⟨4, ![1, 8, 2048, 256]⟩
abbrev S1x1024 : Shape := ⟨2, ![1, 1024]⟩
abbrev S1x1024x5896 : Shape := ⟨3, ![1, 1024, 5896]⟩
abbrev S1x512x1024 : Shape := ⟨3, ![1, 512, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1024 : Shape := ⟨1, ![1024]⟩
abbrev S1024x5896 : Shape := ⟨2, ![1024, 5896]⟩
abbrev S1024x2048 : Shape := ⟨2, ![1024, 2048]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S256x1024 : Shape := ⟨2, ![256, 1024]⟩
abbrev S16384x1024 : Shape := ⟨2, ![16384, 1024]⟩
abbrev S16384x512 : Shape := ⟨2, ![16384, 512]⟩
abbrev S8x2048x256 : Shape := ⟨3, ![8, 2048, 256]⟩
abbrev S16384x256 : Shape := ⟨2, ![16384, 256]⟩
abbrev S512x512 : Shape := ⟨2, ![512, 512]⟩
abbrev S512x256 : Shape := ⟨2, ![512, 256]⟩
abbrev S256x512 : Shape := ⟨2, ![256, 512]⟩
abbrev S256 : Shape := ⟨1, ![256]⟩
abbrev S256x1 : Shape := ⟨2, ![256, 1]⟩
abbrev S256x2048 : Shape := ⟨2, ![256, 2048]⟩
abbrev S256x256 : Shape := ⟨2, ![256, 256]⟩
abbrev S256x2816 : Shape := ⟨2, ![256, 2816]⟩

abbrev nBuf : Space → Nat
  | .hbm => 49
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S1x8x2048x256, .f32⟩
  | .hbm, ⟨4, _⟩ => ⟨S1x1024, .f32⟩
  | .hbm, ⟨5, _⟩ => ⟨S1x1024x5896, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024x2816, .f32⟩
  | .hbm, ⟨11, _⟩ => ⟨S1x1024x2816, .f32⟩
  | .hbm, ⟨12, _⟩ => ⟨S1x2816x1024, .f32⟩
  | .hbm, ⟨13, _⟩ => ⟨S1x1024, .f32⟩
  | .hbm, ⟨14, _⟩ => ⟨S1x1024x1024, .f32⟩
  | .hbm, ⟨15, _⟩ => ⟨S1x256x1024, .f32⟩
  | .hbm, ⟨16, _⟩ => ⟨S1024, .f32⟩
  | .hbm, ⟨17, _⟩ => ⟨S1024x5896, .f32⟩
  | .hbm, ⟨18, _⟩ => ⟨S1024x2048, .f32⟩
  | .hbm, ⟨19, _⟩ => ⟨S1024x2048, .bf16⟩
  | .hbm, ⟨20, _⟩ => ⟨S1024, .f32⟩
  | .hbm, ⟨21, _⟩ => ⟨S1x1024, .f32⟩
  | .hbm, ⟨22, _⟩ => ⟨S512x1024, .f32⟩
  | .hbm, ⟨23, _⟩ => ⟨S512x1024, .bf16⟩
  | .hbm, ⟨24, _⟩ => ⟨S512x1024, .f32⟩
  | .hbm, ⟨25, _⟩ => ⟨S512x1024, .bf16⟩
  | .hbm, ⟨26, _⟩ => ⟨S1024x1024, .f32⟩
  | .hbm, ⟨27, _⟩ => ⟨S1024x1024, .bf16⟩
  | .hbm, ⟨28, _⟩ => ⟨S1024, .f32⟩
  | .hbm, ⟨29, _⟩ => ⟨S1x1024, .f32⟩
  | .hbm, ⟨30, _⟩ => ⟨S1024x2816, .f32⟩
  | .hbm, ⟨31, _⟩ => ⟨S1024x2816, .bf16⟩
  | .hbm, ⟨32, _⟩ => ⟨S1024x2816, .f32⟩
  | .hbm, ⟨33, _⟩ => ⟨S1024x2816, .bf16⟩
  | .hbm, ⟨34, _⟩ => ⟨S2816x1024, .f32⟩
  | .hbm, ⟨35, _⟩ => ⟨S2816x1024, .bf16⟩
  | .hbm, ⟨36, _⟩ => ⟨S1024, .f32⟩
  | .hbm, ⟨37, _⟩ => ⟨S1x1024, .f32⟩
  | .hbm, ⟨38, _⟩ => ⟨S1024x1024, .f32⟩
  | .hbm, ⟨39, _⟩ => ⟨S1024x1024, .bf16⟩
  | .hbm, ⟨40, _⟩ => ⟨S256x1024, .f32⟩
  | .hbm, ⟨41, _⟩ => ⟨S256x1024, .bf16⟩
  | .hbm, ⟨42, _⟩ => ⟨S1x1024, .f32⟩
  | .hbm, ⟨43, _⟩ => ⟨S16384x1024, .f32⟩
  | .hbm, ⟨44, _⟩ => ⟨S16384x512, .f32⟩
  | .hbm, ⟨45, _⟩ => ⟨S16384x512, .f32⟩
  | .hbm, ⟨46, _⟩ => ⟨S8x2048x256, .f32⟩
  | .hbm, ⟨47, _⟩ => ⟨S16384x256, .f32⟩
  | .hbm, ⟨48, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S1x1024, .f32⟩
  | .local _ .vmem, ⟨9, _⟩ => ⟨S1024x2048, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x2816, .bf16⟩
  | .local _ .vmem, ⟨15, _⟩ => ⟨S1024x2816, .bf16⟩
  | .local _ .vmem, ⟨16, _⟩ => ⟨S2816x1024, .bf16⟩
  | .local _ .vmem, ⟨17, _⟩ => ⟨S1x1024, .f32⟩
  | .local _ .vmem, ⟨18, _⟩ => ⟨S1024x1024, .bf16⟩
  | .local _ .vmem, ⟨19, _⟩ => ⟨S256x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg17_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem17_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferencePostIdeal.lean ====
abbrev S8x2048x1024 : Shape := ⟨3, ![8, 2048, 1024]⟩
abbrev S8x2048x512 : Shape := ⟨3, ![8, 2048, 512]⟩
abbrev S1x8x2048x256 : Shape := ⟨4, ![1, 8, 2048, 256]⟩
abbrev S1x1024 : Shape := ⟨2, ![1, 1024]⟩
abbrev S1x1024x5896 : Shape := ⟨3, ![1, 1024, 5896]⟩
abbrev S1x512x1024 : Shape := ⟨3, ![1, 512, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x5896 : Shape := ⟨2, ![1024, 5896]⟩
abbrev S8x2048x5896 : Shape := ⟨3, ![8, 2048, 5896]⟩
abbrev S8x2048x2048 : Shape := ⟨3, ![8, 2048, 2048]⟩
abbrev S512x1024 : Shape := ⟨2, ![512, 1024]⟩
abbrev S1024x1024 : Shape := ⟨2, ![1024, 1024]⟩
abbrev S1024x2816 : Shape := ⟨2, ![1024, 2816]⟩
abbrev S8x2048x2816 : Shape := ⟨3, ![8, 2048, 2816]⟩
abbrev S2816x1024 : Shape := ⟨2, ![2816, 1024]⟩
abbrev S8x2048x256 : Shape := ⟨3, ![8, 2048, 256]⟩
abbrev S256x1024 : Shape := ⟨2, ![256, 1024]⟩
abbrev S16384x1024 : Shape := ⟨2, ![16384, 1024]⟩

abbrev nBuf : Space → Nat
  | .hbm => 148
  | .vmem => 0
  | .smem => 0
  | _ => 0

abbrev hbmTy0_0 (i : Nat) : BufTy := match i % 128 with
  | 0 => ⟨S8x2048x1024, .f32⟩
  | 1 => ⟨S8x2048x512, .f32⟩
  | 2 => ⟨S8x2048x512, .f32⟩
  | 3 => ⟨S1x8x2048x256, .f32⟩
  | 4 => ⟨S1x1024, .f32⟩
  | 5 => ⟨S1x1024x5896, .f32⟩
  | 6 => ⟨S1x512x1024, .f32⟩
  | 7 => ⟨S1x512x1024, .f32⟩
  | 8 => ⟨S1x1024x1024, .f32⟩
  | 9 => ⟨S1x1024, .f32⟩
  | 10 => ⟨S1x1024x2816, .f32⟩
  | 11 => ⟨S1x1024x2816, .f32⟩
  | 12 => ⟨S1x2816x1024, .f32⟩
  | 13 => ⟨S1x1024, .f32⟩
  | 14 => ⟨S1x1024x1024, .f32⟩
  | 15 => ⟨S1x256x1024, .f32⟩
  | 16 => ⟨S1024, .f32⟩
  | 17 => ⟨S1024, .f32⟩
  | 18 => ⟨S8x2048x1024, .f32⟩
  | 19 => ⟨S_, .f32⟩
  | 20 => ⟨S8x2048, .f32⟩
  | 21 => ⟨S8x2048x1, .f32⟩
  | 22 => ⟨S_, .f32⟩
  | 23 => ⟨S8x2048x1, .f32⟩
  | 24 => ⟨S8x2048x1, .f32⟩
  | 25 => ⟨S_, .f32⟩
  | 26 => ⟨S8x2048x1, .f32⟩
  | 27 => ⟨S8x2048x1, .f32⟩
  | 28 => ⟨S8x2048x1, .f32⟩
  | 29 => ⟨S8x2048x1024, .f32⟩
  | 30 => ⟨S8x2048x1024, .f32⟩
  | 31 => ⟨S1x1x1024, .f32⟩
  | 32 => ⟨S8x2048x1024, .f32⟩
  | 33 => ⟨S8x2048x1024, .f32⟩
  | 34 => ⟨S1024x5896, .f32⟩
  | 35 => ⟨S8x2048x5896, .f32⟩
  | 36 => ⟨S8x2048x2048, .f32⟩
  | 37 => ⟨S8x2048x1024, .f32⟩
  | 38 => ⟨S8x2048x1024, .f32⟩
  | 39 => ⟨S8x2048x1024, .f32⟩
  | 40 => ⟨S_, .f32⟩
  | 41 => ⟨S8x2048x1024, .f32⟩
  | 42 => ⟨S8x2048x1024, .f32⟩
  | 43 => ⟨S_, .f32⟩
  | 44 => ⟨S8x2048x1024, .f32⟩
  | 45 => ⟨S8x2048x1024, .f32⟩
  | 46 => ⟨S8x2048x1024, .f32⟩
  | 47 => ⟨S8x2048x1024, .f32⟩
  | 48 => ⟨S8x2048x1024, .f32⟩
  | 49 => ⟨S_, .f32⟩
  | 50 => ⟨S8x2048x1024, .f32⟩
  | 51 => ⟨S8x2048x1024, .f32⟩
  | 52 => ⟨S_, .f32⟩
  | 53 => ⟨S8x2048x1024, .f32⟩
  | 54 => ⟨S8x2048x1024, .f32⟩
  | 55 => ⟨S512x1024, .f32⟩
  | 56 => ⟨S8x2048x1024, .f32⟩
  | 57 => ⟨S8x2048x1024, .f32⟩
  | 58 => ⟨S512x1024, .f32⟩
  | 59 => ⟨S8x2048x1024, .f32⟩
  | 60 => ⟨S8x2048x1024, .f32⟩
  | 61 => ⟨S8x2048x1024, .f32⟩
  | 62 => ⟨S1024x1024, .f32⟩
  | 63 => ⟨S8x2048x1024, .f32⟩
  | 64 => ⟨S8x2048x1024, .f32⟩
  | 65 => ⟨S1024, .f32⟩
  | 66 => ⟨S8x2048x1024, .f32⟩
  | 67 => ⟨S_, .f32⟩
  | 68 => ⟨S8x2048, .f32⟩
  | 69 => ⟨S8x2048x1, .f32⟩
  | 70 => ⟨S_, .f32⟩
  | 71 => ⟨S8x2048x1, .f32⟩
  | 72 => ⟨S8x2048x1, .f32⟩
  | 73 => ⟨S_, .f32⟩
  | 74 => ⟨S8x2048x1, .f32⟩
  | 75 => ⟨S8x2048x1, .f32⟩
  | 76 => ⟨S8x2048x1, .f32⟩
  | 77 => ⟨S8x2048x1024, .f32⟩
  | 78 => ⟨S8x2048x1024, .f32⟩
  | 79 => ⟨S1x1x1024, .f32⟩
  | 80 => ⟨S8x2048x1024, .f32⟩
  | 81 => ⟨S8x2048x1024, .f32⟩
  | 82 => ⟨S1024x2816, .f32⟩
  | 83 => ⟨S8x2048x2816, .f32⟩
  | 84 => ⟨S8x2048x2816, .f32⟩
  | 85 => ⟨S8x2048x2816, .f32⟩
  | 86 => ⟨S_, .f32⟩
  | 87 => ⟨S8x2048x2816, .f32⟩
  | 88 => ⟨S8x2048x2816, .f32⟩
  | 89 => ⟨S_, .f32⟩
  | 90 => ⟨S8x2048x2816, .f32⟩
  | 91 => ⟨S8x2048x2816, .f32⟩
  | 92 => ⟨S8x2048x2816, .f32⟩
  | 93 => ⟨S1024x2816, .f32⟩
  | 94 => ⟨S8x2048x2816, .f32⟩
  | 95 => ⟨S8x2048x2816, .f32⟩
  | 96 => ⟨S2816x1024, .f32⟩
  | 97 => ⟨S8x2048x1024, .f32⟩
  | 98 => ⟨S8x2048x1024, .f32⟩
  | 99 => ⟨S1024, .f32⟩
  | 100 => ⟨S8x2048x1024, .f32⟩
  | 101 => ⟨S_, .f32⟩
  | 102 => ⟨S8x2048, .f32⟩
  | 103 => ⟨S8x2048x1, .f32⟩
  | 104 => ⟨S_, .f32⟩
  | 105 => ⟨S8x2048x1, .f32⟩
  | 106 => ⟨S8x2048x1, .f32⟩
  | 107 => ⟨S_, .f32⟩
  | 108 => ⟨S8x2048x1, .f32⟩
  | 109 => ⟨S8x2048x1, .f32⟩
  | 110 => ⟨S8x2048x1, .f32⟩
  | 111 => ⟨S8x2048x1024, .f32⟩
  | 112 => ⟨S8x2048x1024, .f32⟩
  | 113 => ⟨S1x1x1024, .f32⟩
  | 114 => ⟨S8x2048x1024, .f32⟩
  | 115 => ⟨S8x2048x1024, .f32⟩
  | 116 => ⟨S1024x1024, .f32⟩
  | 117 => ⟨S8x2048x1024, .f32⟩
  | 118 => ⟨S8x2048x1024, .f32⟩
  | 119 => ⟨S8x2048x1024, .f32⟩
  | 120 => ⟨S_, .f32⟩
  | 121 => ⟨S8x2048x1024, .f32⟩
  | 122 => ⟨S8x2048x1024, .f32⟩
  | 123 => ⟨S_, .f32⟩
  | 124 => ⟨S8x2048x1024, .f32⟩
  | 125 => ⟨S8x2048x1024, .f32⟩
  | 126 => ⟨S8x2048x256, .f32⟩
  | 127 => ⟨S256x1024, .f32⟩
  | _ => ⟨S8x2048x1024, .f32⟩

abbrev hbmTy0_1 (i : Nat) : BufTy := match i % 128 with
  | 0 => ⟨S8x2048x1024, .f32⟩
  | 1 => ⟨S8x2048x1024, .f32⟩
  | 2 => ⟨S8x2048x1024, .f32⟩
  | 3 => ⟨S8x2048x1024, .f32⟩
  | 4 => ⟨S_, .f32⟩
  | 5 => ⟨S8x2048, .f32⟩
  | 6 => ⟨S8x2048x1, .f32⟩
  | 7 => ⟨S_, .f32⟩
  | 8 => ⟨S8x2048x1, .f32⟩
  | 9 => ⟨S8x2048x1, .f32⟩
  | 10 => ⟨S_, .f32⟩
  | 11 => ⟨S8x2048x1, .f32⟩
  | 12 => ⟨S8x2048x1, .f32⟩
  | 13 => ⟨S8x2048x1, .f32⟩
  | 14 => ⟨S8x2048x1024, .f32⟩
  | 15 => ⟨S8x2048x1024, .f32⟩
  | 16 => ⟨S1x1x1024, .f32⟩
  | 17 => ⟨S8x2048x1024, .f32⟩
  | 18 => ⟨S8x2048x1024, .f32⟩
  | 19 => ⟨S16384x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_cst_5 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_6 : Ref sig .tc := ⟨.hbm, 67, rfl⟩
abbrev main_v43 : Ref sig .tc := ⟨.hbm, 68, rfl⟩
abbrev main_v44 : Ref sig .tc := ⟨.hbm, 69, rfl⟩
abbrev main_cst_7 : Ref sig .tc := ⟨.hbm, 70, rfl⟩
abbrev main_v45 : Ref sig .tc := ⟨.hbm, 71, rfl⟩
abbrev main_v46 : Ref sig .tc := ⟨.hbm, 72, rfl⟩
abbrev main_cst_8 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call0_v0 : Ref sig .tc := ⟨.hbm, 84, rfl⟩
abbrev main_call0_v1 : Ref sig .tc := ⟨.hbm, 85, rfl⟩
abbrev main_call0_cst : Ref sig .tc := ⟨.hbm, 86, rfl⟩
abbrev main_call0_v2 : Ref sig .tc := ⟨.hbm, 87, rfl⟩
abbrev main_call0_v3 : Ref sig .tc := ⟨.hbm, 88, rfl⟩
abbrev main_call0_cst_0 : Ref sig .tc := ⟨.hbm, 89, rfl⟩
abbrev main_call0_v4 : Ref sig .tc := ⟨.hbm, 90, rfl⟩
abbrev main_call0_v5 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_9 : Ref sig .tc := ⟨.hbm, 101, rfl⟩
abbrev main_v66 : Ref sig .tc := ⟨.hbm, 102, rfl⟩
abbrev main_v67 : Ref sig .tc := ⟨.hbm, 103, rfl⟩
abbrev main_cst_10 : Ref sig .tc := ⟨.hbm, 104, rfl⟩
abbrev main_v68 : Ref sig .tc := ⟨.hbm, 105, rfl⟩
abbrev main_v69 : Ref sig .tc := ⟨.hbm, 106, rfl⟩
abbrev main_cst_11 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_12 : Ref sig .tc := ⟨.hbm, 120, rfl⟩
abbrev main_v82 : Ref sig .tc := ⟨.hbm, 121, rfl⟩
abbrev main_v83 : Ref sig .tc := ⟨.hbm, 122, rfl⟩
abbrev main_cst_13 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_14 : Ref sig .tc := ⟨.hbm, 132, rfl⟩
abbrev main_v92 : Ref sig .tc := ⟨.hbm, 133, rfl⟩
abbrev main_v93 : Ref sig .tc := ⟨.hbm, 134, rfl⟩
abbrev main_cst_15 : Ref sig .tc := ⟨.hbm, 135, rfl⟩
abbrev main_v94 : Ref sig .tc := ⟨.hbm, 136, rfl⟩
abbrev main_v95 : Ref sig .tc := ⟨.hbm, 137, rfl⟩
abbrev main_cst_16 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩

abbrev nD : Nat := 1
abbrev τ : Topo := Topo.v7x

variable {F : FTy → Type} [FloatOps F]
-- ==== KernelIn.lean ====
abbrev S128x1x1024 : Shape := ⟨3, ![128, 1, 1024]⟩
abbrev S1x128x3x1536 : Shape := ⟨4, ![1, 128, 3, 1536]⟩
abbrev S1x1024 : Shape := ⟨2, ![1, 1024]⟩
abbrev S1x1024x5896 : Shape := ⟨3, ![1, 1024, 5896]⟩
abbrev S1024x5896 : Shape := ⟨2, ![1024, 5896]⟩
abbrev S1024x3968 : Shape := ⟨2, ![1024, 3968]⟩
abbrev S128x1024 : Shape := ⟨2, ![128, 1024]⟩
abbrev S1024 : Shape := ⟨1, ![1024]⟩
abbrev S128x1792 : Shape := ⟨2, ![128, 1792]⟩
abbrev S128x1536 : Shape := ⟨2, ![128, 1536]⟩
abbrev S128x512 : Shape := ⟨2, ![128, 512]⟩
abbrev S128x128 : Shape := ⟨2, ![128, 128]⟩
abbrev S128 : Shape := ⟨1, ![128]⟩
abbrev S128x1 : Shape := ⟨2, ![128, 1]⟩
abbrev S1024x1792 : Shape := ⟨2, ![1024, 1792]⟩
abbrev S1024x1536 : Shape := ⟨2, ![1024, 1536]⟩
abbrev S1024x512 : Shape := ⟨2, ![1024, 512]⟩
abbrev S1024x128 : Shape := ⟨2, ![1024, 128]⟩
abbrev S128x3x1536 : Shape := ⟨3, ![128, 3, 1536]⟩
abbrev S128x4608 : Shape := ⟨2, ![128, 4608]⟩
abbrev S128x3072 : Shape := ⟨2, ![128, 3072]⟩
abbrev S1x128x1x1792 : Shape := ⟨4, ![1, 128, 1, 1792]⟩

abbrev nBuf : Space → Nat
  | .hbm => 21
  | .vmem => 7
  | .smem => 0
  | _ => 0

abbrev bufTy : (tb : Table) → Fin (tcTables nBuf tb) → BufTy
  | .hbm, ⟨0, _⟩ => ⟨S128x1x1024, .f32⟩
  | .hbm, ⟨1, _⟩ => ⟨S1x128x3x1536, .f32⟩
  | .hbm, ⟨2, _⟩ => ⟨S1x1024, .f32⟩
  | .hbm, ⟨3, _⟩ => ⟨S1x1024x5896, .f32⟩
  | .hbm, ⟨4, _⟩ => ⟨S1024x5896, .f32⟩
  | .hbm, ⟨5, _⟩ => ⟨S1024x3968, .f32⟩
  | .hbm, ⟨6, _⟩ => ⟨S1024x3968, .bf16⟩
  | .hbm, ⟨7, _⟩ => ⟨S128x1024, .f32⟩
  | .hbm, ⟨8, _⟩ => ⟨S1024, .f32⟩
  | .hbm, ⟨9, _⟩ => ⟨S1x1024, .f32⟩
  | .hbm, ⟨10, _⟩ => ⟨S128x1792, .f32⟩
  | .hbm, ⟨11, _⟩ => ⟨S128x1536, .f32⟩
  | .hbm, ⟨12, _⟩ => ⟨S128x512, .f32⟩
  | .hbm, ⟨13, _⟩ => ⟨S128x128, .f32⟩
  | .hbm, ⟨14, _⟩ => ⟨S128x3x1536, .f32⟩
  | .hbm, ⟨15, _⟩ => ⟨S128x4608, .f32⟩
  | .hbm, ⟨16, _⟩ => ⟨S128x3072, .f32⟩
  | .hbm, ⟨17, _⟩ => ⟨S128x4608, .f32⟩
  | .hbm, ⟨18, _⟩ => ⟨S128x3x1536, .f32⟩
  | .hbm, ⟨19, _⟩ => ⟨S1x128x1x1792, .f32⟩
  | .hbm, ⟨20, _⟩ => ⟨S1x128x3x1536, .f32⟩
  | .local _ .vmem, ⟨0, _⟩ => ⟨S128x1024, .f32⟩
  | .local _ .vmem, ⟨1, _⟩ => ⟨S1x1024, .f32⟩
  | .local _ .vmem, ⟨2, _⟩ => ⟨S1024x3968, .bf16⟩
  | .local _ .vmem, ⟨3, _⟩ => ⟨S128x1792, .f32⟩
  | .local _ .vmem, ⟨4, _⟩ => ⟨S128x1536, .f32⟩
  | .local _ .vmem, ⟨5, _⟩ => ⟨S128x512, .f32⟩
  | .local _ .vmem, ⟨6, _⟩ => ⟨S128x128, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3968 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceInIdeal.lean ====
abbrev S128x1x1024 : Shape := ⟨3, ![128, 1, 1024]⟩
abbrev S1x128x3x1536 : Shape := ⟨4, ![1, 128, 3, 1536]⟩
abbrev S1x1024 : Shape := ⟨2, ![1, 1024]⟩
abbrev S1x1024x5896 : Shape := ⟨3, ![1, 1024, 5896]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S1024x5896 : Shape := ⟨2, ![1024, 5896]⟩
abbrev S128x1x5896 : Shape := ⟨3, ![128, 1, 5896]⟩
abbrev S128x1x1792 : Shape := ⟨3, ![128, 1, 1792]⟩
abbrev S128x1x2056 : Shape := ⟨3, ![128, 1, 2056]⟩
abbrev S128x1x1536 : Shape := ⟨3, ![128, 1, 1536]⟩
abbrev S128x1x512 : Shape := ⟨3, ![128, 1, 512]⟩
abbrev S128x1x128 : Shape := ⟨3, ![128, 1, 128]⟩
abbrev S128x3x1536 : Shape := ⟨3, ![128, 3, 1536]⟩
abbrev S128x4x1536 : Shape := ⟨3, ![128, 4, 1536]⟩
abbrev S1x128x1x1792 : Shape := ⟨4, ![1, 128, 1, 1792]⟩
abbrev S128x512 : Shape := ⟨2, ![128, 512]⟩
abbrev S128x128 : Shape := ⟨2, ![128, 128]⟩

abbrev nBuf : Space → Nat
  | .hbm => 35
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1x128x3x1536, .f32⟩
  | .hbm, ⟨2, _⟩ => ⟨S1x1024, .f32⟩
  | .hbm, ⟨3, _⟩ => ⟨S1x1024x5896, .f32⟩
  | .hbm, ⟨4, _⟩ => ⟨S1024, .f32⟩
  | .hbm, ⟨5, _⟩ => ⟨S128x1x1024, .f32⟩
  | .hbm, ⟨6, _⟩ => ⟨S_, .f32⟩
  | .hbm, ⟨7, _⟩ => ⟨S128x1, .f32⟩
  | .hbm, ⟨8, _⟩ => ⟨S128x1x1, .f32⟩
  | .hbm, ⟨9, _⟩ => ⟨S_, .f32⟩
  | .hbm, ⟨10, _⟩ => ⟨S128x1x1, .f32⟩
  | .hbm, ⟨11, _⟩ => ⟨S128x1x1, .f32⟩
  | .hbm, ⟨12, _⟩ => ⟨S_, .f32⟩
  | .hbm, ⟨13, _⟩ => ⟨S128x1x1, .f32⟩
  | .hbm, ⟨14, _⟩ => ⟨S128x1x1, .f32⟩
  | .hbm, ⟨15, _⟩ => ⟨S128x1x1, .f32⟩
  | .hbm, ⟨16, _⟩ => ⟨S128x1x1024, .f32⟩
  | .hbm, ⟨17, _⟩ => ⟨S128x1x1024, .f32⟩
  | .hbm, ⟨18, _⟩ => ⟨S1x1x1024, .f32⟩
  | .hbm, ⟨19, _⟩ => ⟨S128x1x1024, .f32⟩
  | .hbm, ⟨20, _⟩ => ⟨S128x1x1024, .f32⟩
  | .hbm, ⟨21, _⟩ => ⟨S1024x5896, .f32⟩
  | .hbm, ⟨22, _⟩ => ⟨S128x1x5896, .f32⟩
  | .hbm, ⟨23, _⟩ => ⟨S128x1x1792, .f32⟩
  | .hbm, ⟨24, _⟩ => ⟨S128x1x2056, .f32⟩
  | .hbm, ⟨25, _⟩ => ⟨S128x1x1536, .f32⟩
  | .hbm, ⟨26, _⟩ => ⟨S128x1x512, .f32⟩
  | .hbm, ⟨27, _⟩ => ⟨S128x1x128, .f32⟩
  | .hbm, ⟨28, _⟩ => ⟨S128x3x1536, .f32⟩
  | .hbm, ⟨29, _⟩ => ⟨S128x4x1536, .f32⟩
  | .hbm, ⟨30, _⟩ => ⟨S1x128x1x1792, .f32⟩
  | .hbm, ⟨31, _⟩ => ⟨S128x3x1536, .f32⟩
  | .hbm, ⟨32, _⟩ => ⟨S1x128x3x1536, .f32⟩
  | .hbm, ⟨33, _⟩ => ⟨S128x512, .f32⟩
  | .hbm, ⟨34, _⟩ => ⟨S128x128, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== KernelPostS.lean ====
abbrev S128x1x1024 : Shape := ⟨3, ![128, 1, 1024]⟩
abbrev S128x1x512 : Shape := ⟨3, ![128, 1, 512]⟩
abbrev S1x128x1x256 : Shape := ⟨4, ![1, 128, 1, 256]⟩
abbrev S1x1024 : Shape := ⟨2, ![1, 1024]⟩
abbrev S1x1024x5896 : Shape := ⟨3, ![1, 1024, 5896]⟩
abbrev S1x512x1024 : Shape := ⟨3, ![1, 512, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1024 : Shape := ⟨1, ![1024]⟩
abbrev S1024x5896 : Shape := ⟨2, ![1024, 5896]⟩
abbrev S1024x2048 : Shape := ⟨2, ![1024, 2048]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S256x1024 : Shape := ⟨2, ![256, 1024]⟩
abbrev S128x1024 : Shape := ⟨2, ![128, 1024]⟩
abbrev S128x512 : Shape := ⟨2, ![128, 512]⟩
abbrev S128x1x256 : Shape := ⟨3, ![128, 1, 256]⟩
abbrev S128x256 : Shape := ⟨2, ![128, 256]⟩
abbrev S128 : Shape := ⟨1, ![128]⟩
abbrev S128x1 : Shape := ⟨2, ![128, 1]⟩
abbrev S128x2048 : Shape := ⟨2, ![128, 2048]⟩
abbrev S128x2816 : Shape := ⟨2, ![128, 2816]⟩

abbrev nBuf : Space → Nat
  | .hbm => 49
  | .vmem => 18
  | .smem => 0
  | _ => 0

abbrev bufTy : (tb : Table) → Fin (tcTables nBuf tb) → BufTy
  | .hbm, ⟨0, _⟩ => ⟨S128x1x1024, .f32⟩
  | .hbm, ⟨1, _⟩ => ⟨S128x1x512, .f32⟩
  | .hbm, ⟨2, _⟩ => ⟨S128x1x512, .f32⟩
  | .hbm, ⟨3, _⟩ => ⟨S1x128x1x256, .f32⟩
  | .hbm, ⟨4, _⟩ => ⟨S1x1024, .f32⟩
  | .hbm, ⟨5, _⟩ => ⟨S1x1024x5896, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024x2816, .f32⟩
  | .hbm, ⟨11, _⟩ => ⟨S1x1024x2816, .f32⟩
  | .hbm, ⟨12, _⟩ => ⟨S1x2816x1024, .f32⟩
  | .hbm, ⟨13, _⟩ => ⟨S1x1024, .f32⟩
  | .hbm, ⟨14, _⟩ => ⟨S1x1024x1024, .f32⟩
  | .hbm, ⟨15, _⟩ => ⟨S1x256x1024, .f32⟩
  | .hbm, ⟨16, _⟩ => ⟨S1024, .f32⟩
  | .hbm, ⟨17, _⟩ => ⟨S1024x5896, .f32⟩
  | .hbm, ⟨18, _⟩ => ⟨S1024x2048, .f32⟩
  | .hbm, ⟨19, _⟩ => ⟨S1024x2048, .bf16⟩
  | .hbm, ⟨20, _⟩ => ⟨S1024, .f32⟩
  | .hbm, ⟨21, _⟩ => ⟨S1x1024, .f32⟩
  | .hbm, ⟨22, _⟩ => ⟨S512x1024, .f32⟩
  | .hbm, ⟨23, _⟩ => ⟨S512x1024, .bf16⟩
  | .hbm, ⟨24, _⟩ => ⟨S512x1024, .f32⟩
  | .hbm, ⟨25, _⟩ => ⟨S512x1024, .bf16⟩
  | .hbm, ⟨26, _⟩ => ⟨S1024x1024, .f32⟩
  | .hbm, ⟨27, _⟩ => ⟨S1024x1024, .bf16⟩
  | .hbm, ⟨28, _⟩ => ⟨S1024, .f32⟩
  | .hbm, ⟨29, _⟩ => ⟨S1x1024, .f32⟩
  | .hbm, ⟨30, _⟩ => ⟨S1024x2816, .f32⟩
  | .hbm, ⟨31, _⟩ => ⟨S1024x2816, .bf16⟩
  | .hbm, ⟨32, _⟩ => ⟨S1024x2816, .f32⟩
  | .hbm, ⟨33, _⟩ => ⟨S1024x2816, .bf16⟩
  | .hbm, ⟨34, _⟩ => ⟨S2816x1024, .f32⟩
  | .hbm, ⟨35, _⟩ => ⟨S2816x1024, .bf16⟩
  | .hbm, ⟨36, _⟩ => ⟨S1024, .f32⟩
  | .hbm, ⟨37, _⟩ => ⟨S1x1024, .f32⟩
  | .hbm, ⟨38, _⟩ => ⟨S1024x1024, .f32⟩
  | .hbm, ⟨39, _⟩ => ⟨S1024x1024, .bf16⟩
  | .hbm, ⟨40, _⟩ => ⟨S256x1024, .f32⟩
  | .hbm, ⟨41, _⟩ => ⟨S256x1024, .bf16⟩
  | .hbm, ⟨42, _⟩ => ⟨S1x1024, .f32⟩
  | .hbm, ⟨43, _⟩ => ⟨S128x1024, .f32⟩
  | .hbm, ⟨44, _⟩ => ⟨S128x512, .f32⟩
  | .hbm, ⟨45, _⟩ => ⟨S128x512, .f32⟩
  | .hbm, ⟨46, _⟩ => ⟨S128x1x256, .f32⟩
  | .hbm, ⟨47, _⟩ => ⟨S128x256, .f32⟩
  | .hbm, ⟨48, _⟩ => ⟨S128x1024, .f32⟩
  | .local _ .vmem, ⟨0, _⟩ => ⟨S128x1024, .f32⟩
  | .local _ .vmem, ⟨1, _⟩ => ⟨S128x512, .f32⟩
  | .local _ .vmem, ⟨2, _⟩ => ⟨S128x512, .f32⟩
  | .local _ .vmem, ⟨3, _⟩ => ⟨S128x256, .f32⟩
  | .local _ .vmem, ⟨4, _⟩ => ⟨S1x1024, .f32⟩
  | .local _ .vmem, ⟨5, _⟩ => ⟨S1024x2048, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S1x1024, .f32⟩
  | .local _ .vmem, ⟨14, _⟩ => ⟨S1024x1024, .bf16⟩
  | .local _ .vmem, ⟨15, _⟩ => ⟨S256x1024, .bf16⟩
  | .local _ .vmem, ⟨16, _⟩ => ⟨S1x1024, .f32⟩
  | .local _ .vmem, ⟨17, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]
-- ==== ReferencePostSIdeal.lean ====
abbrev S128x1x1024 : Shape := ⟨3, ![128, 1, 1024]⟩
abbrev S128x1x512 : Shape := ⟨3, ![128, 1, 512]⟩
abbrev S1x128x1x256 : Shape := ⟨4, ![1, 128, 1, 256]⟩
abbrev S1x1024 : Shape := ⟨2, ![1, 1024]⟩
abbrev S1x1024x5896 : Shape := ⟨3, ![1, 1024, 5896]⟩
abbrev S1x512x1024 : Shape := ⟨3, ![1, 512, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S1024x5896 : Shape := ⟨2, ![1024, 5896]⟩
abbrev S128x1x5896 : Shape := ⟨3, ![128, 1, 5896]⟩
abbrev S128x1x2048 : Shape := ⟨3, ![128, 1, 2048]⟩
abbrev S512x1024 : Shape := ⟨2, ![512, 1024]⟩
abbrev S1024x1024 : Shape := ⟨2, ![1024, 1024]⟩
abbrev S1024x2816 : Shape := ⟨2, ![1024, 2816]⟩
abbrev S128x1x2816 : Shape := ⟨3, ![128, 1, 2816]⟩
abbrev S2816x1024 : Shape := ⟨2, ![2816, 1024]⟩
abbrev S128x1x256 : Shape := ⟨3, ![128, 1, 256]⟩
abbrev S256x1024 : Shape := ⟨2, ![256, 1024]⟩
abbrev S128x1024 : Shape := ⟨2, ![128, 1024]⟩

abbrev nBuf : Space → Nat
  | .hbm => 148
  | .vmem => 0
  | .smem => 0
  | _ => 0

abbrev hbmTy0_0 (i : Nat) : BufTy := match i % 128 with
  | 0 => ⟨S128x1x1024, .f32⟩
  | 1 => ⟨S128x1x512, .f32⟩
  | 2 => ⟨S128x1x512, .f32⟩
  | 3 => ⟨S1x128x1x256, .f32⟩
  | 4 => ⟨S1x1024, .f32⟩
  | 5 => ⟨S1x1024x5896, .f32⟩
  | 6 => ⟨S1x512x1024, .f32⟩
  | 7 => ⟨S1x512x1024, .f32⟩
  | 8 => ⟨S1x1024x1024, .f32⟩
  | 9 => ⟨S1x1024, .f32⟩
  | 10 => ⟨S1x1024x2816, .f32⟩
  | 11 => ⟨S1x1024x2816, .f32⟩
  | 12 => ⟨S1x2816x1024, .f32⟩
  | 13 => ⟨S1x1024, .f32⟩
  | 14 => ⟨S1x1024x1024, .f32⟩
  | 15 => ⟨S1x256x1024, .f32⟩
  | 16 => ⟨S1024, .f32⟩
  | 17 => ⟨S1024, .f32⟩
  | 18 => ⟨S128x1x1024, .f32⟩
  | 19 => ⟨S_, .f32⟩
  | 20 => ⟨S128x1, .f32⟩
  | 21 => ⟨S128x1x1, .f32⟩
  | 22 => ⟨S_, .f32⟩
  | 23 => ⟨S128x1x1, .f32⟩
  | 24 => ⟨S128x1x1, .f32⟩
  | 25 => ⟨S_, .f32⟩
  | 26 => ⟨S128x1x1, .f32⟩
  | 27 => ⟨S128x1x1, .f32⟩
  | 28 => ⟨S128x1x1, .f32⟩
  | 29 => ⟨S128x1x1024, .f32⟩
  | 30 => ⟨S128x1x1024, .f32⟩
  | 31 => ⟨S1x1x1024, .f32⟩
  | 32 => ⟨S128x1x1024, .f32⟩
  | 33 => ⟨S128x1x1024, .f32⟩
  | 34 => ⟨S1024x5896, .f32⟩
  | 35 => ⟨S128x1x5896, .f32⟩
  | 36 => ⟨S128x1x2048, .f32⟩
  | 37 => ⟨S128x1x1024, .f32⟩
  | 38 => ⟨S128x1x1024, .f32⟩
  | 39 => ⟨S128x1x1024, .f32⟩
  | 40 => ⟨S_, .f32⟩
  | 41 => ⟨S128x1x1024, .f32⟩
  | 42 => ⟨S128x1x1024, .f32⟩
  | 43 => ⟨S_, .f32⟩
  | 44 => ⟨S128x1x1024, .f32⟩
  | 45 => ⟨S128x1x1024, .f32⟩
  | 46 => ⟨S128x1x1024, .f32⟩
  | 47 => ⟨S128x1x1024, .f32⟩
  | 48 => ⟨S128x1x1024, .f32⟩
  | 49 => ⟨S_, .f32⟩
  | 50 => ⟨S128x1x1024, .f32⟩
  | 51 => ⟨S128x1x1024, .f32⟩
  | 52 => ⟨S_, .f32⟩
  | 53 => ⟨S128x1x1024, .f32⟩
  | 54 => ⟨S128x1x1024, .f32⟩
  | 55 => ⟨S512x1024, .f32⟩
  | 56 => ⟨S128x1x1024, .f32⟩
  | 57 => ⟨S128x1x1024, .f32⟩
  | 58 => ⟨S512x1024, .f32⟩
  | 59 => ⟨S128x1x1024, .f32⟩
  | 60 => ⟨S128x1x1024, .f32⟩
  | 61 => ⟨S128x1x1024, .f32⟩
  | 62 => ⟨S1024x1024, .f32⟩
  | 63 => ⟨S128x1x1024, .f32⟩
  | 64 => ⟨S128x1x1024, .f32⟩
  | 65 => ⟨S1024, .f32⟩
  | 66 => ⟨S128x1x1024, .f32⟩
  | 67 => ⟨S_, .f32⟩
  | 68 => ⟨S128x1, .f32⟩
  | 69 => ⟨S128x1x1, .f32⟩
  | 70 => ⟨S_, .f32⟩
  | 71 => ⟨S128x1x1, .f32⟩
  | 72 => ⟨S128x1x1, .f32⟩
  | 73 => ⟨S_, .f32⟩
  | 74 => ⟨S128x1x1, .f32⟩
  | 75 => ⟨S128x1x1, .f32⟩
  | 76 => ⟨S128x1x1, .f32⟩
  | 77 => ⟨S128x1x1024, .f32⟩
  | 78 => ⟨S128x1x1024, .f32⟩
  | 79 => ⟨S1x1x1024, .f32⟩
  | 80 => ⟨S128x1x1024, .f32⟩
  | 81 => ⟨S128x1x1024, .f32⟩
  | 82 => ⟨S1024x2816, .f32⟩
  | 83 => ⟨S128x1x2816, .f32⟩
  | 84 => ⟨S128x1x2816, .f32⟩
  | 85 => ⟨S128x1x2816, .f32⟩
  | 86 => ⟨S_, .f32⟩
  | 87 => ⟨S128x1x2816, .f32⟩
  | 88 => ⟨S128x1x2816, .f32⟩
  | 89 => ⟨S_, .f32⟩
  | 90 => ⟨S128x1x2816, .f32⟩
  | 91 => ⟨S128x1x2816, .f32⟩
  | 92 => ⟨S128x1x2816, .f32⟩
  | 93 => ⟨S1024x2816, .f32⟩
  | 94 => ⟨S128x1x2816, .f32⟩
  | 95 => ⟨S128x1x2816, .f32⟩
  | 96 => ⟨S2816x1024, .f32⟩
  | 97 => ⟨S128x1x1024, .f32⟩
  | 98 => ⟨S128x1x1024, .f32⟩
  | 99 => ⟨S1024, .f32⟩
  | 100 => ⟨S128x1x1024, .f32⟩
  | 101 => ⟨S_, .f32⟩
  | 102 => ⟨S128x1, .f32⟩
  | 103 => ⟨S128x1x1, .f32⟩
  | 104 => ⟨S_, .f32⟩
  | 105 => ⟨S128x1x1, .f32⟩
  | 106 => ⟨S128x1x1, .f32⟩
  | 107 => ⟨S_, .f32⟩
  | 108 => ⟨S128x1x1, .f32⟩
  | 109 => ⟨S128x1x1, .f32⟩
  | 110 => ⟨S128x1x1, .f32⟩
  | 111 => ⟨S128x1x1024, .f32⟩
  | 112 => ⟨S128x1x1024, .f32⟩
  | 113 => ⟨S1x1x1024, .f32⟩
  | 114 => ⟨S128x1x1024, .f32⟩
  | 115 => ⟨S128x1x1024, .f32⟩
  | 116 => ⟨S1024x1024, .f32⟩
  | 117 => ⟨S128x1x1024, .f32⟩
  | 118 => ⟨S128x1x1024, .f32⟩
  | 119 => ⟨S128x1x1024, .f32⟩
  | 120 => ⟨S_, .f32⟩
  | 121 => ⟨S128x1x1024, .f32⟩
  | 122 => ⟨S128x1x1024, .f32⟩
  | 123 => ⟨S_, .f32⟩
  | 124 => ⟨S128x1x1024, .f32⟩
  | 125 => ⟨S128x1x1024, .f32⟩
  | 126 => ⟨S128x1x256, .f32⟩
  | 127 => ⟨S256x1024, .f32⟩
  | _ => ⟨S128x1x1024, .f32⟩

abbrev hbmTy0_1 (i : Nat) : BufTy := match i % 128 with
  | 0 => ⟨S128x1x1024, .f32⟩
  | 1 => ⟨S128x1x1024, .f32⟩
  | 2 => ⟨S128x1x1024, .f32⟩
  | 3 => ⟨S128x1x1024, .f32⟩
  | 4 => ⟨S_, .f32⟩
  | 5 => ⟨S128x1, .f32⟩
  | 6 => ⟨S128x1x1, .f32⟩
  | 7 => ⟨S_, .f32⟩
  | 8 => ⟨S128x1x1, .f32⟩
  | 9 => ⟨S128x1x1, .f32⟩
  | 10 => ⟨S_, .f32⟩
  | 11 => ⟨S128x1x1, .f32⟩
  | 12 => ⟨S128x1x1, .f32⟩
  | 13 => ⟨S128x1x1, .f32⟩
  | 14 => ⟨S128x1x1024, .f32⟩
  | 15 => ⟨S128x1x1024, .f32⟩
  | 16 => ⟨S1x1x1024, .f32⟩
  | 17 => ⟨S128x1x1024, .f32⟩
  | 18 => ⟨S128x1x1024, .f32⟩
  | 19 => ⟨S128x1024, .f32⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_cst_5 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_6 : Ref sig .tc := ⟨.hbm, 67, rfl⟩
abbrev main_v43 : Ref sig .tc := ⟨.hbm, 68, rfl⟩
abbrev main_v44 : Ref sig .tc := ⟨.hbm, 69, rfl⟩
abbrev main_cst_7 : Ref sig .tc := ⟨.hbm, 70, rfl⟩
abbrev main_v45 : Ref sig .tc := ⟨.hbm, 71, rfl⟩
abbrev main_v46 : Ref sig .tc := ⟨.hbm, 72, rfl⟩
abbrev main_cst_8 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call0_v0 : Ref sig .tc := ⟨.hbm, 84, rfl⟩
abbrev main_call0_v1 : Ref sig .tc := ⟨.hbm, 85, rfl⟩
abbrev main_call0_cst : Ref sig .tc := ⟨.hbm, 86, rfl⟩
abbrev main_call0_v2 : Ref sig .tc := ⟨.hbm, 87, rfl⟩
abbrev main_call0_v3 : Ref sig .tc := ⟨.hbm, 88, rfl⟩
abbrev main_call0_cst_0 : Ref sig .tc := ⟨.hbm, 89, rfl⟩
abbrev main_call0_v4 : Ref sig .tc := ⟨.hbm, 90, rfl⟩
abbrev main_call0_v5 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_9 : Ref sig .tc := ⟨.hbm, 101, rfl⟩
abbrev main_v66 : Ref sig .tc := ⟨.hbm, 102, rfl⟩
abbrev main_v67 : Ref sig .tc := ⟨.hbm, 103, rfl⟩
abbrev main_cst_10 : Ref sig .tc := ⟨.hbm, 104, rfl⟩
abbrev main_v68 : Ref sig .tc := ⟨.hbm, 105, rfl⟩
abbrev main_v69 : Ref sig .tc := ⟨.hbm, 106, rfl⟩
abbrev main_cst_11 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_12 : Ref sig .tc := ⟨.hbm, 120, rfl⟩
abbrev main_v82 : Ref sig .tc := ⟨.hbm, 121, rfl⟩
abbrev main_v83 : Ref sig .tc := ⟨.hbm, 122, rfl⟩
abbrev main_cst_13 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_14 : Ref sig .tc := ⟨.hbm, 132, rfl⟩
abbrev main_v92 : Ref sig .tc := ⟨.hbm, 133, rfl⟩
abbrev main_v93 : Ref sig .tc := ⟨.hbm, 134, rfl⟩
abbrev main_cst_15 : Ref sig .tc := ⟨.hbm, 135, rfl⟩
abbrev main_v94 : Ref sig .tc := ⟨.hbm, 136, rfl⟩
abbrev main_v95 : Ref sig .tc := ⟨.hbm, 137, rfl⟩
abbrev main_cst_16 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩

abbrev nD : Nat := 1
abbrev τ : Topo := Topo.v7x

variable {F : FTy → Type} [FloatOps F]
-- ==== Proof.Rwkv.Trip.lean ====
/- One head of the recurrence: what the loop over the 64 state rows leaves in the state block and in the rows of y, read at an index. -/
module

public import proofs.«01_k».proof.Proof.Gen.KernelRwkvIdeal.Loops
public import Idealize.ShloMosaic.Lib.WritesUnit
public import Idealize.ShloMosaic.Lib.Pointwise
public import Idealize.ShloMosaic.Lib.Pipeline.FrameBody

@[expose] public section

set_option maxRecDepth 16384

noncomputable section

namespace Cert.KernelRwkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem off6_eq (k : Fin k0_t1_loop.trips) : k0_off6 k = ![0, k.val, 0, 0] := by
  have hk : k.val < 64 := Nat.lt_of_lt_of_le k.isLt k0_t1_abs.2.1
  have : ((0#32 + BitVec.ofNat 32 k.val * 1#32 : BitVec 32)).toNat = k.val := by
    simp only [BitVec.toNat_add, BitVec.toNat_mul, BitVec.toNat_ofNat]; omega
  exact congrArg (fun n => ![0, n, 0, 0]) this

theorem off8_eq (i : grid0.Coords) (k : Fin k0_t1_loop.trips) : k0_off8 i k = ![64 * (i 0).val + k.val, 0] := by
  have hk : k.val < 64 := Nat.lt_of_lt_of_le k.isLt k0_t1_abs.2.1
  have hi : (i 0).val < 8 := (i 0).isLt
  have : ((BitVec.ofNat 32 (i 0).val * 64#32 + (0#32 + BitVec.ofNat 32 k.val * 1#32) : BitVec 32)).toNat = 64 * (i 0).val + k.val := by
    simp only [BitVec.toNat_add, BitVec.toNat_mul, BitVec.toNat_ofNat]; omega
  exact congrArg (fun n => ![n, 0]) this

/-- Row `k` of the new state of head `i`, from the head's rows of the stored transposes. -/
def stTrip (v6 v9 v12 v15 v18 : Vec F S1x64x128 .f32) (st : Vec F S1x64x64x128 .f32) (tr : Vec F S6x512x128 .f32) (i : grid0.Coords) (k : Fin k0_t1_loop.trips) : FVec F S1x1x64x128 .f32 :=
  k0_pay2 v6 v9 v12 v15 (View.ld (Val := Elt F) (e' := .f32) st (Rect.unit (s := S1x64x64x128) (k0_off6 k) S1x1x64x128.size (k0_off6_inb k)))
    (View.ld (Val := Elt F) (e' := .f32) tr (Rect.unit (s := S6x512x128) (k0_off7 i k) S1x1x128.size (k0_off7_inb i k)))

/-- Row `k` of head `i`'s y. -/
def yTrip (v6 v9 v12 v15 v18 : Vec F S1x64x128 .f32) (st : Vec F S1x64x64x128 .f32) (tr : Vec F S6x512x128 .f32) (i : grid0.Coords) (k : Fin k0_t1_loop.trips) : FVec F S1x128 .f32 :=
  k0_pay3 v6 v9 v12 v15 v18 (View.ld (Val := Elt F) (e' := .f32) st (Rect.unit (s := S1x64x64x128) (k0_off6 k) S1x1x64x128.size (k0_off6_inb k)))
    (View.ld (Val := Elt F) (e' := .f32) tr (Rect.unit (s := S6x512x128) (k0_off7 i k) S1x1x128.size (k0_off7_inb i k)))

theorem trip_arg17 (𝒱 : Variants) (c : Dev nD) (bd : Option 𝒱.V) (i : grid0.Coords) (arg1 : Memref sig .tc .vmem S128x1792 .f32) (harg1 : arg1.IsWhole) (arg2 : Memref sig .tc .vmem S128x1792 .f32) (harg2 : arg2.IsWhole) (arg3 : Memref sig .tc .vmem S1x64x64x128 .f32) (harg3 : arg3.IsWhole) (arg4 : Memref sig .tc .vmem S1x1792 .f32) (harg4 : arg4.IsWhole) (arg5 : Memref sig .tc .vmem S1x512 .f32) (harg5 : arg5.IsWhole) (arg6 : Memref sig .tc .vmem S128x512 .bf16) (harg6 : arg6.IsWhole) (arg7 : Memref sig .tc .vmem S1x512 .f32) (harg7 : arg7.IsWhole) (arg8 : Memref sig .tc .vmem S128x512 .bf16) (harg8 : arg8.IsWhole) (arg9 : Memref sig .tc .vmem S128x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S128x128 .bf16) (harg15 : arg15.IsWhole) (arg16 : Memref sig .tc .vmem S128x512 .f32) (harg16 : arg16.IsWhole) (arg17 : Memref sig .tc .vmem S1x64x64x128 .f32) (harg17 : arg17.IsWhole) (arg18 : Memref sig .tc .vmem S6x512x128 .f32) (harg18 : arg18.IsWhole) (arg19 : Memref sig .tc .vmem S512x128 .f32) (harg19 : arg19.IsWhole) (arg20 : Memref sig .tc .vmem S128x512 .f32) (harg20 : arg20.IsWhole) (arg21 : Memref sig .tc .vmem S128x512 .f32) (harg21 : arg21.IsWhole) (v6 v9 v12 v15 v18 : Vec F S1x64x128 .f32) (X3 : BufTy.Contents (Elt F) arg3.view.ty) (X18 : BufTy.Contents (Elt F) arg18.view.ty) (k : Fin k0_t1_loop.trips) :
    (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v9 v12 v15 v18 X3 X18 k).1
      = [⟨Rect.unit (s := S1x64x64x128) (k0_off6 k) S1x1x64x128.size (k0_off6_inb k), stTrip v6 v9 v12 v15 v18 (arg3.view.read (Elt F) X3) (arg18.view.read (Elt F) X18) i k⟩] := by
  unfold tripL_k0_t1 trip_k0_t1
  rfl

theorem trip_arg19 (𝒱 : Variants) (c : Dev nD) (bd : Option 𝒱.V) (i : grid0.Coords) (arg1 : Memref sig .tc .vmem S128x1792 .f32) (harg1 : arg1.IsWhole) (arg2 : Memref sig .tc .vmem S128x1792 .f32) (harg2 : arg2.IsWhole) (arg3 : Memref sig .tc .vmem S1x64x64x128 .f32) (harg3 : arg3.IsWhole) (arg4 : Memref sig .tc .vmem S1x1792 .f32) (harg4 : arg4.IsWhole) (arg5 : Memref sig .tc .vmem S1x512 .f32) (harg5 : arg5.IsWhole) (arg6 : Memref sig .tc .vmem S128x512 .bf16) (harg6 : arg6.IsWhole) (arg7 : Memref sig .tc .vmem S1x512 .f32) (harg7 : arg7.IsWhole) (arg8 : Memref sig .tc .vmem S128x512 .bf16) (harg8 : arg8.IsWhole) (arg9 : Memref sig .tc .vmem S128x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S128x128 .bf16) (harg15 : arg15.IsWhole) (arg16 : Memref sig .tc .vmem S128x512 .f32) (harg16 : arg16.IsWhole) (arg17 : Memref sig .tc .vmem S1x64x64x128 .f32) (harg17 : arg17.IsWhole) (arg18 : Memref sig .tc .vmem S6x512x128 .f32) (harg18 : arg18.IsWhole) (arg19 : Memref sig .tc .vmem S512x128 .f32) (harg19 : arg19.IsWhole) (arg20 : Memref sig .tc .vmem S128x512 .f32) (harg20 : arg20.IsWhole) (arg21 : Memref sig .tc .vmem S128x512 .f32) (harg21 : arg21.IsWhole) (v6 v9 v12 v15 v18 : Vec F S1x64x128 .f32) (X3 : BufTy.Contents (Elt F) arg3.view.ty) (X18 : BufTy.Contents (Elt F) arg18.view.ty) (k : Fin k0_t1_loop.trips) :
    (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v9 v12 v15 v18 X3 X18 k).2
      = [⟨Rect.unit (s := S512x128) (k0_off8 i k) S1x128.size (k0_off8_inb i k), yTrip v6 v9 v12 v15 v18 (arg3.view.read (Elt F) X3) (arg18.view.read (Elt F) X18) i k⟩] := by
  unfold tripL_k0_t1 trip_k0_t1
  rfl

/-- The new state of head `i`: row `k` at first coordinate `k`. -/
def stOut (v6 v9 v12 v15 v18 : Vec F S1x64x128 .f32) (st : Vec F S1x64x64x128 .f32) (tr : Vec F S6x512x128 .f32) (i : grid0.Coords) : Vec F S1x64x64x128 .f32 :=
  fun y => stTrip v6 v9 v12 v15 v18 st tr i ⟨(y 1).val, (y 1).isLt⟩ (ix4 0 0 (y 2) (y 3))

/-- y after head `i`: rows `64 i ≤ r < 64 i + 64` are the head's, the others as before. -/
def yOut (v6 v9 v12 v15 v18 : Vec F S1x64x128 .f32) (st : Vec F S1x64x64x128 .f32) (tr : Vec F S6x512x128 .f32) (i : grid0.Coords) (y0 : Vec F S512x128 .f32) : Vec F S512x128 .f32 :=
  fun y => if h : 64 * (i 0).val ≤ (y 0).val ∧ (y 0).val < 64 * (i 0).val + 64 then
      yTrip v6 v9 v12 v15 v18 st tr i ⟨(y 0).val - 64 * (i 0).val, by show _ < 64; omega⟩ (ix2 0 (y 1))
    else y0 y

theorem read17_lt (𝒱 : Variants) (c : Dev nD) (bd : Option 𝒱.V) (i : grid0.Coords) (arg1 : Memref sig .tc .vmem S128x1792 .f32) (harg1 : arg1.IsWhole) (arg2 : Memref sig .tc .vmem S128x1792 .f32) (harg2 : arg2.IsWhole) (arg3 : Memref sig .tc .vmem S1x64x64x128 .f32) (harg3 : arg3.IsWhole) (arg4 : Memref sig .tc .vmem S1x1792 .f32) (harg4 : arg4.IsWhole) (arg5 : Memref sig .tc .vmem S1x512 .f32) (harg5 : arg5.IsWhole) (arg6 : Memref sig .tc .vmem S128x512 .bf16) (harg6 : arg6.IsWhole) (arg7 : Memref sig .tc .vmem S1x512 .f32) (harg7 : arg7.IsWhole) (arg8 : Memref sig .tc .vmem S128x512 .bf16) (harg8 : arg8.IsWhole) (arg9 : Memref sig .tc .vmem S128x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S128x128 .bf16) (harg15 : arg15.IsWhole) (arg16 : Memref sig .tc .vmem S128x512 .f32) (harg16 : arg16.IsWhole) (arg17 : Memref sig .tc .vmem S1x64x64x128 .f32) (harg17 : arg17.IsWhole) (arg18 : Memref sig .tc .vmem S6x512x128 .f32) (harg18 : arg18.IsWhole) (arg19 : Memref sig .tc .vmem S512x128 .f32) (harg19 : arg19.IsWhole) (arg20 : Memref sig .tc .vmem S128x512 .f32) (harg20 : arg20.IsWhole) (arg21 : Memref sig .tc .vmem S128x512 .f32) (harg21 : arg21.IsWhole) (v6 v9 v12 v15 v18 : Vec F S1x64x128 .f32) (X3 : BufTy.Contents (Elt F) arg3.view.ty) (X18 : BufTy.Contents (Elt F) arg18.view.ty) (G : BufTy.Contents (Elt F) arg17.view.ty) (n : ℕ) (hn : n ≤ k0_t1_loop.trips)
    (y : S1x64x64x128.Idx) (hy : (y 1).val < n) :
    arg17.view.read (Elt F) (arg17.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v9 v12 v15 v18 X3 X18 n).1) y = stOut v6 v9 v12 v15 v18 (arg3.view.read (Elt F) X3) (arg18.view.read (Elt F) X18) i y := by
  induction n with
  | zero => omega
  | succ n ih =>
    have e := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v9 v12 v15 v18 X3 X18 ⟨n, hn⟩
    rw [show (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v9 v12 v15 v18 X3 X18 (n + 1)) = _ from e, trip_arg17]
    by_cases h : (y 1).val = n
    · have hk : (⟨n, hn⟩ : Fin k0_t1_loop.trips) = ⟨(y 1).val, (y 1).isLt⟩ := Fin.ext h.symm
      refine (View.read_writes_cons_unit_of_mem arg17.view G _ _ _ y (ix4 0 0 (y 2) (y 3)) (off6_eq _) ?_).trans ?_
      · intro a
        fin_cases a
        · have := (y 0).isLt; show (y 0).val = 0 + 0; have h1 : (y 0).val < 1 := this; omega
        · show (y 1).val = n + 0; omega
        · show (y 2).val = 0 + (y 2).val; omega
        · show (y 3).val = 0 + (y 3).val; omega
      · rw [hk]; rfl
    · refine (View.read_writes_cons_unit_of_not_mem arg17.view G _ _ _ y (off6_eq _) 1 ?_).trans (ih (by omega) (by omega))
      left; show (y 1).val < n; omega

theorem read17 (𝒱 : Variants) (c : Dev nD) (bd : Option 𝒱.V) (i : grid0.Coords) (arg1 : Memref sig .tc .vmem S128x1792 .f32) (harg1 : arg1.IsWhole) (arg2 : Memref sig .tc .vmem S128x1792 .f32) (harg2 : arg2.IsWhole) (arg3 : Memref sig .tc .vmem S1x64x64x128 .f32) (harg3 : arg3.IsWhole) (arg4 : Memref sig .tc .vmem S1x1792 .f32) (harg4 : arg4.IsWhole) (arg5 : Memref sig .tc .vmem S1x512 .f32) (harg5 : arg5.IsWhole) (arg6 : Memref sig .tc .vmem S128x512 .bf16) (harg6 : arg6.IsWhole) (arg7 : Memref sig .tc .vmem S1x512 .f32) (harg7 : arg7.IsWhole) (arg8 : Memref sig .tc .vmem S128x512 .bf16) (harg8 : arg8.IsWhole) (arg9 : Memref sig .tc .vmem S128x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S128x128 .bf16) (harg15 : arg15.IsWhole) (arg16 : Memref sig .tc .vmem S128x512 .f32) (harg16 : arg16.IsWhole) (arg17 : Memref sig .tc .vmem S1x64x64x128 .f32) (harg17 : arg17.IsWhole) (arg18 : Memref sig .tc .vmem S6x512x128 .f32) (harg18 : arg18.IsWhole) (arg19 : Memref sig .tc .vmem S512x128 .f32) (harg19 : arg19.IsWhole) (arg20 : Memref sig .tc .vmem S128x512 .f32) (harg20 : arg20.IsWhole) (arg21 : Memref sig .tc .vmem S128x512 .f32) (harg21 : arg21.IsWhole) (v6 v9 v12 v15 v18 : Vec F S1x64x128 .f32) (X3 : BufTy.Contents (Elt F) arg3.view.ty) (X18 : BufTy.Contents (Elt F) arg18.view.ty) (G : BufTy.Contents (Elt F) arg17.view.ty) :
    arg17.view.read (Elt F) (arg17.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v9 v12 v15 v18 X3 X18 k0_t1_loop.trips).1) = stOut v6 v9 v12 v15 v18 (arg3.view.read (Elt F) X3) (arg18.view.read (Elt F) X18) i :=
  funext fun y => read17_lt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v9 v12 v15 v18 X3 X18 G _ le_rfl y (y 1).isLt

theorem read19_lt (𝒱 : Variants) (c : Dev nD) (bd : Option 𝒱.V) (i : grid0.Coords) (arg1 : Memref sig .tc .vmem S128x1792 .f32) (harg1 : arg1.IsWhole) (arg2 : Memref sig .tc .vmem S128x1792 .f32) (harg2 : arg2.IsWhole) (arg3 : Memref sig .tc .vmem S1x64x64x128 .f32) (harg3 : arg3.IsWhole) (arg4 : Memref sig .tc .vmem S1x1792 .f32) (harg4 : arg4.IsWhole) (arg5 : Memref sig .tc .vmem S1x512 .f32) (harg5 : arg5.IsWhole) (arg6 : Memref sig .tc .vmem S128x512 .bf16) (harg6 : arg6.IsWhole) (arg7 : Memref sig .tc .vmem S1x512 .f32) (harg7 : arg7.IsWhole) (arg8 : Memref sig .tc .vmem S128x512 .bf16) (harg8 : arg8.IsWhole) (arg9 : Memref sig .tc .vmem S128x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S128x128 .bf16) (harg15 : arg15.IsWhole) (arg16 : Memref sig .tc .vmem S128x512 .f32) (harg16 : arg16.IsWhole) (arg17 : Memref sig .tc .vmem S1x64x64x128 .f32) (harg17 : arg17.IsWhole) (arg18 : Memref sig .tc .vmem S6x512x128 .f32) (harg18 : arg18.IsWhole) (arg19 : Memref sig .tc .vmem S512x128 .f32) (harg19 : arg19.IsWhole) (arg20 : Memref sig .tc .vmem S128x512 .f32) (harg20 : arg20.IsWhole) (arg21 : Memref sig .tc .vmem S128x512 .f32) (harg21 : arg21.IsWhole) (v6 v9 v12 v15 v18 : Vec F S1x64x128 .f32) (X3 : BufTy.Contents (Elt F) arg3.view.ty) (X18 : BufTy.Contents (Elt F) arg18.view.ty) (G : BufTy.Contents (Elt F) arg19.view.ty) (n : ℕ) (hn : n ≤ k0_t1_loop.trips)
    (y : S512x128.Idx) :
    arg19.view.read (Elt F) (arg19.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v9 v12 v15 v18 X3 X18 n).2) y
      = if 64 * (i 0).val ≤ (y 0).val ∧ (y 0).val < 64 * (i 0).val + n then yOut v6 v9 v12 v15 v18 (arg3.view.read (Elt F) X3) (arg18.view.read (Elt F) X18) i (arg19.view.read (Elt F) G) y
        else arg19.view.read (Elt F) G y := by
  induction n with
  | zero => rw [if_neg (by omega)]; rfl
  | succ n ih =>
    have hn64 : n < 64 := hn
    have e := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v9 v12 v15 v18 X3 X18 ⟨n, hn⟩
    rw [show (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v9 v12 v15 v18 X3 X18 (n + 1)) = _ from e, trip_arg19]
    by_cases h : (y 0).val = 64 * (i 0).val + n
    · have hk : (⟨n, hn⟩ : Fin k0_t1_loop.trips) = ⟨(y 0).val - 64 * (i 0).val, by show _ < 64; omega⟩ := Fin.ext (by show n = (y 0).val - 64 * (i 0).val; omega)
      refine (View.read_writes_cons_unit_of_mem arg19.view G _ _ _ y (ix2 0 (y 1)) (off8_eq i _) ?_).trans ?_
      · intro a
        fin_cases a
        · show (y 0).val = 64 * (i 0).val + n + 0; omega
        · show (y 1).val = 0 + (y 1).val; omega
      · rw [if_pos (by omega)]; unfold yOut; rw [dif_pos (by omega), hk]; rfl
    · refine (View.read_writes_cons_unit_of_not_mem arg19.view G _ _ _ y (off8_eq i _) 0 ?_).trans ((ih (by omega)).trans ?_)
      · show (y 0).val < 64 * (i 0).val + n ∨ 64 * (i 0).val + n + 1 ≤ (y 0).val; omega
      · by_cases h2 : 64 * (i 0).val ≤ (y 0).val ∧ (y 0).val < 64 * (i 0).val + n
        · rw [if_pos h2, if_pos (by omega)]
        · rw [if_neg h2, if_neg (by omega)]

theorem read19 (𝒱 : Variants) (c : Dev nD) (bd : Option 𝒱.V) (i : grid0.Coords) (arg1 : Memref sig .tc .vmem S128x1792 .f32) (harg1 : arg1.IsWhole) (arg2 : Memref sig .tc .vmem S128x1792 .f32) (harg2 : arg2.IsWhole) (arg3 : Memref sig .tc .vmem S1x64x64x128 .f32) (harg3 : arg3.IsWhole) (arg4 : Memref sig .tc .vmem S1x1792 .f32) (harg4 : arg4.IsWhole) (arg5 : Memref sig .tc .vmem S1x512 .f32) (harg5 : arg5.IsWhole) (arg6 : Memref sig .tc .vmem S128x512 .bf16) (harg6 : arg6.IsWhole) (arg7 : Memref sig .tc .vmem S1x512 .f32) (harg7 : arg7.IsWhole) (arg8 : Memref sig .tc .vmem S128x512 .bf16) (harg8 : arg8.IsWhole) (arg9 : Memref sig .tc .vmem S128x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S128x128 .bf16) (harg15 : arg15.IsWhole) (arg16 : Memref sig .tc .vmem S128x512 .f32) (harg16 : arg16.IsWhole) (arg17 : Memref sig .tc .vmem S1x64x64x128 .f32) (harg17 : arg17.IsWhole) (arg18 : Memref sig .tc .vmem S6x512x128 .f32) (harg18 : arg18.IsWhole) (arg19 : Memref sig .tc .vmem S512x128 .f32) (harg19 : arg19.IsWhole) (arg20 : Memref sig .tc .vmem S128x512 .f32) (harg20 : arg20.IsWhole) (arg21 : Memref sig .tc .vmem S128x512 .f32) (harg21 : arg21.IsWhole) (v6 v9 v12 v15 v18 : Vec F S1x64x128 .f32) (X3 : BufTy.Contents (Elt F) arg3.view.ty) (X18 : BufTy.Contents (Elt F) arg18.view.ty) (G : BufTy.Contents (Elt F) arg19.view.ty) :
    arg19.view.read (Elt F) (arg19.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v9 v12 v15 v18 X3 X18 k0_t1_loop.trips).2)
      = yOut v6 v9 v12 v15 v18 (arg3.view.read (Elt F) X3) (arg18.view.read (Elt F) X18) i (arg19.view.read (Elt F) G) := by
  funext y
  rw [read19_lt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v6 v9 v12 v15 v18 X3 X18 G _ le_rfl y]
  have ht : k0_t1_loop.trips = 64 := rfl
  rw [ht]
  split
  · rfl
  · next h => unfold yOut; rw [dif_neg h]

/-- The five row blocks of head `i`, loaded from the stored transposes. -/
abbrev row1 (tr : Vec F S6x512x128 .f32) (i : grid0.Coords) : Vec F S1x64x128 .f32 := View.ld (Val := Elt F) (e' := .f32) tr (Rect.unit (s := S6x512x128) (k0_off1 i) S1x64x128.size (k0_off1_inb i))
abbrev row2 (tr : Vec F S6x512x128 .f32) (i : grid0.Coords) : Vec F S1x64x128 .f32 := View.ld (Val := Elt F) (e' := .f32) tr (Rect.unit (s := S6x512x128) (k0_off2 i) S1x64x128.size (k0_off2_inb i))
abbrev row3 (tr : Vec F S6x512x128 .f32) (i : grid0.Coords) : Vec F S1x64x128 .f32 := View.ld (Val := Elt F) (e' := .f32) tr (Rect.unit (s := S6x512x128) (k0_off3 i) S1x64x128.size (k0_off3_inb i))
abbrev row4 (tr : Vec F S6x512x128 .f32) (i : grid0.Coords) : Vec F S1x64x128 .f32 := View.ld (Val := Elt F) (e' := .f32) tr (Rect.unit (s := S6x512x128) (k0_off4 i) S1x64x128.size (k0_off4_inb i))
abbrev row5 (tr : Vec F S6x512x128 .f32) (i : grid0.Coords) : Vec F S1x64x128 .f32 := View.ld (Val := Elt F) (e' := .f32) tr (Rect.unit (s := S6x512x128) (k0_off5 i) S1x64x128.size (k0_off5_inb i))

/-- The state block head `i` writes. -/
def stHead (st : Vec F S1x64x64x128 .f32) (tr : Vec F S6x512x128 .f32) (i : grid0.Coords) : Vec F S1x64x64x128 .f32 :=
  stOut (row1 tr i) (row2 tr i) (row3 tr i) (row4 tr i) (row5 tr i) st tr i

/-- The rows of y after head `i`. -/
def yHead (st : Vec F S1x64x64x128 .f32) (tr : Vec F S6x512x128 .f32) (i : grid0.Coords) (y0 : Vec F S512x128 .f32) : Vec F S512x128 .f32 :=
  yOut (row1 tr i) (row2 tr i) (row3 tr i) (row4 tr i) (row5 tr i) st tr i y0

end Cert.KernelRwkvIdeal.Gen

end
-- ==== Proof.Rwkv.Rows.lean ====
/- What the first head stores for the whole row, and what the last one closes it with. -/
module

public import proofs.«01_k».proof.Proof.Rwkv.Trip

@[expose] public section

set_option maxRecDepth 16384

noncomputable section

namespace Cert.KernelRwkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Six slabs, one per first coordinate. -/
def slab (p0 p1 p2 p3 p4 p5 : FVec F S1x512x128 .f32) : Vec F S6x512x128 .f32 := fun y =>
  if (y 0).val = 0 then p0 (ix3 0 (y 1) (y 2)) else if (y 0).val = 1 then p1 (ix3 0 (y 1) (y 2)) else
  if (y 0).val = 2 then p2 (ix3 0 (y 1) (y 2)) else if (y 0).val = 3 then p3 (ix3 0 (y 1) (y 2)) else
  if (y 0).val = 4 then p4 (ix3 0 (y 1) (y 2)) else p5 (ix3 0 (y 1) (y 2))

theorem read_slab {sp : Space} (v : View sig .tc sp S6x512x128 .f32) (f : v.ty.Contents (Elt F)) (p0 p1 p2 p3 p4 p5 : FVec F S1x512x128 .f32) :
    v.read (Elt F) (v.writes (Elt F) f [⟨Rect.unit (s := S6x512x128) ![5, 0, 0] S1x512x128.size inb_S6x512x128_S1x512x128_5_0_0, p5⟩,
      ⟨Rect.unit (s := S6x512x128) ![4, 0, 0] S1x512x128.size inb_S6x512x128_S1x512x128_4_0_0, p4⟩,
      ⟨Rect.unit (s := S6x512x128) ![3, 0, 0] S1x512x128.size inb_S6x512x128_S1x512x128_3_0_0, p3⟩,
      ⟨Rect.unit (s := S6x512x128) ![2, 0, 0] S1x512x128.size inb_S6x512x128_S1x512x128_2_0_0, p2⟩,
      ⟨Rect.unit (s := S6x512x128) ![1, 0, 0] S1x512x128.size inb_S6x512x128_S1x512x128_1_0_0, p1⟩,
      ⟨Rect.unit (s := S6x512x128) ![0, 0, 0] S1x512x128.size inb_S6x512x128_S1x512x128_0_0_0, p0⟩]) = slab p0 p1 p2 p3 p4 p5 := by
  funext y
  have h6 : (y 0).val < 6 := (y 0).isLt
  unfold slab
  by_cases h5 : (y 0).val = 5
  · refine (View.read_writes_cons_unit_of_mem v f _ _ _ y (ix3 0 (y 1) (y 2)) rfl ?_).trans ?_
    · intro a
      fin_cases a
      · show (y 0).val = 5 + 0; omega
      · show (y 1).val = 0 + (y 1).val; omega
      · show (y 2).val = 0 + (y 2).val; omega
    · rw [if_neg (by omega)]; rw [if_neg (by omega)]; rw [if_neg (by omega)]; rw [if_neg (by omega)]; rw [if_neg (by omega)]; rfl
  refine (View.read_writes_cons_unit_of_not_mem v f _ _ _ y rfl 0 (by show (y 0).val < 5 ∨ 5 + 1 ≤ (y 0).val; omega)).trans ?_
  by_cases h4 : (y 0).val = 4
  · refine (View.read_writes_cons_unit_of_mem v f _ _ _ y (ix3 0 (y 1) (y 2)) rfl ?_).trans ?_
    · intro a
      fin_cases a
      · show (y 0).val = 4 + 0; omega
      · show (y 1).val = 0 + (y 1).val; omega
      · show (y 2).val = 0 + (y 2).val; omega
    · rw [if_neg (by omega)]; rw [if_neg (by omega)]; rw [if_neg (by omega)]; rw [if_neg (by omega)]; rw [if_pos h4]; rfl
  refine (View.read_writes_cons_unit_of_not_mem v f _ _ _ y rfl 0 (by show (y 0).val < 4 ∨ 4 + 1 ≤ (y 0).val; omega)).trans ?_
  by_cases h3 : (y 0).val = 3
  · refine (View.read_writes_cons_unit_of_mem v f _ _ _ y (ix3 0 (y 1) (y 2)) rfl ?_).trans ?_
    · intro a
      fin_cases a
      · show (y 0).val = 3 + 0; omega
      · show (y 1).val = 0 + (y 1).val; omega
      · show (y 2).val = 0 + (y 2).val; omega
    · rw [if_neg (by omega)]; rw [if_neg (by omega)]; rw [if_neg (by omega)]; rw [if_pos h3]; rfl
  refine (View.read_writes_cons_unit_of_not_mem v f _ _ _ y rfl 0 (by show (y 0).val < 3 ∨ 3 + 1 ≤ (y 0).val; omega)).trans ?_
  by_cases h2 : (y 0).val = 2
  · refine (View.read_writes_cons_unit_of_mem v f _ _ _ y (ix3 0 (y 1) (y 2)) rfl ?_).trans ?_
    · intro a
      fin_cases a
      · show (y 0).val = 2 + 0; omega
      · show (y 1).val = 0 + (y 1).val; omega
      · show (y 2).val = 0 + (y 2).val; omega
    · rw [if_neg (by omega)]; rw [if_neg (by omega)]; rw [if_pos h2]; rfl
  refine (View.read_writes_cons_unit_of_not_mem v f _ _ _ y rfl 0 (by show (y 0).val < 2 ∨ 2 + 1 ≤ (y 0).val; omega)).trans ?_
  by_cases h1 : (y 0).val = 1
  · refine (View.read_writes_cons_unit_of_mem v f _ _ _ y (ix3 0 (y 1) (y 2)) rfl ?_).trans ?_
    · intro a
      fin_cases a
      · show (y 0).val = 1 + 0; omega
      · show (y 1).val = 0 + (y 1).val; omega
      · show (y 2).val = 0 + (y 2).val; omega
    · rw [if_neg (by omega)]; rw [if_pos h1]; rfl
  refine (View.read_writes_cons_unit_of_not_mem v f _ _ _ y rfl 0 (by show (y 0).val < 1 ∨ 1 + 1 ≤ (y 0).val; omega)).trans ?_
  have h0 : (y 0).val = 0 := by omega
  refine (View.read_writes_cons_unit_of_mem v f _ _ _ y (ix3 0 (y 1) (y 2)) rfl ?_).trans ?_
  · intro a
    fin_cases a
    · show (y 0).val = 0 + 0; omega
    · show (y 1).val = 0 + (y 1).val; omega
    · show (y 2).val = 0 + (y 2).val; omega
  · rw [if_pos h0]; rfl

/-- The six row blocks the first head stores, each transposed: `−kk`, the decay, `kk·a`, `k`, `r` and `v`. -/
def trOf (x0 : Vec F S128x1792 .f32) (x1 : Vec F S128x1792 .f32) (x3 : Vec F S1x1792 .f32) (x4 : Vec F S1x512 .f32) (x5 : Vec F S128x512 .bf16) (x6 : Vec F S1x512 .f32) (x7 : Vec F S128x512 .bf16) (x8 : Vec F S128x512 .bf16) (x9 : Vec F S1x512 .f32) (x10 : Vec F S1x512 .f32) (x11 : Vec F S1x512 .f32) (x14 : Vec F S128x128 .bf16) : Vec F S6x512x128 .f32 :=
  let v24 := (View.ld (Val := Elt F) (e' := .f32) x0 (Rect.unit (s := S128x1792) ![0, 0] S128x1792.size inb_S128x1792_S128x1792_0_0))
  let v26 := (View.ld (Val := Elt F) (e' := .f32) x1 (Rect.unit (s := S128x1792) ![0, 0] S128x1792.size inb_S128x1792_S128x1792_0_0))
  let v28 := (View.ld (Val := Elt F) (e' := .f32) x3 (Rect.unit (s := S1x1792) ![0, 0] S1x1792.size inb_S1x1792_S1x1792_0_0))
  let v30 := (View.ld (Val := Elt F) (e' := .f32) x4 (Rect.unit (s := S1x512) ![0, 0] S1x512.size inb_S1x512_S1x512_0_0))
  let v32 := (View.ld (Val := Elt F) (e' := .bf16) x5 (Rect.unit (s := S128x512) ![0, 0] S128x512.size inb_S128x512_S128x512_0_0))
  let v34 := (View.ld (Val := Elt F) (e' := .f32) x6 (Rect.unit (s := S1x512) ![0, 0] S1x512.size inb_S1x512_S1x512_0_0))
  let v36 := (View.ld (Val := Elt F) (e' := .bf16) x7 (Rect.unit (s := S128x512) ![0, 0] S128x512.size inb_S128x512_S128x512_0_0))
  let v38 := (View.ld (Val := Elt F) (e' := .bf16) x8 (Rect.unit (s := S128x512) ![0, 0] S128x512.size inb_S128x512_S128x512_0_0))
  let v40 := (View.ld (Val := Elt F) (e' := .f32) x9 (Rect.unit (s := S1x512) ![0, 0] S1x512.size inb_S1x512_S1x512_0_0))
  let v42 := (View.ld (Val := Elt F) (e' := .f32) x10 (Rect.unit (s := S1x512) ![0, 0] S1x512.size inb_S1x512_S1x512_0_0))
  let v44 := (View.ld (Val := Elt F) (e' := .f32) x11 (Rect.unit (s := S1x512) ![0, 0] S1x512.size inb_S1x512_S1x512_0_0))
  let v46 := (View.ld (Val := Elt F) (e' := .bf16) x14 (Rect.unit (s := S128x128) ![0, 0] S128x128.size inb_S128x128_S128x128_0_0))
  let v31 := k0_pay5 v30
  let v33 := k0_pay6 v32
  let v35 := k0_pay7 v34
  let v37 := k0_pay8 v36
  let v39 := k0_pay9 v38
  let v41 := k0_pay10 v40
  let v43 := k0_pay11 v42
  let v45 := k0_pay12 v44
  let v47 := k0_pay13 v46
  let v52 := k0_pay15 v24 v26 v28
  let v53 := k0_pay16 v24 v26 v28
  let v54 := k0_pay17 v24 v26 v28
  let v55 := k0_pay18 v24 v26 v28
  let v56 := k0_pay19 v24 v26 v28
  let v58 := k0_pay20 v24 v26 v28
  let cst : FVec F S128x512 .f32 := constant S128x512 .f32 0x00000000#32
  let v61 := k0_pay21 v37 v55
  let v70 := k0_pay22 v39 v56
  let v72 := k0_pay23 v41 v53
  let v86 := k0_pay24 v41 v47 v53
  let v102 := k0_pay25 v31 v33 v58 cst
  let v103 : FVec F S128x512 .f32 := k0_pay26 (F := F)
  slab (k0_pay34 (k0_pay33 v72 v86)) (k0_pay35 (k0_pay31 v102 v103)) (k0_pay36 (k0_pay32 v35 v61 v72 v86)) (k0_pay37 (k0_pay29 v35 v43 v53 v61)) (k0_pay38 v52) (k0_pay39 v54)

/-- The gate the first head stores. -/
def gOf (x0 : Vec F S128x1792 .f32) (x1 : Vec F S128x1792 .f32) (x3 : Vec F S1x1792 .f32) (x4 : Vec F S1x512 .f32) (x5 : Vec F S128x512 .bf16) (x6 : Vec F S1x512 .f32) (x7 : Vec F S128x512 .bf16) (x8 : Vec F S128x512 .bf16) (x9 : Vec F S1x512 .f32) (x10 : Vec F S1x512 .f32) (x11 : Vec F S1x512 .f32) (x14 : Vec F S128x128 .bf16) : Vec F S128x512 .f32 :=
  let v24 := (View.ld (Val := Elt F) (e' := .f32) x0 (Rect.unit (s := S128x1792) ![0, 0] S128x1792.size inb_S128x1792_S128x1792_0_0))
  let v26 := (View.ld (Val := Elt F) (e' := .f32) x1 (Rect.unit (s := S128x1792) ![0, 0] S128x1792.size inb_S128x1792_S128x1792_0_0))
  let v28 := (View.ld (Val := Elt F) (e' := .f32) x3 (Rect.unit (s := S1x1792) ![0, 0] S1x1792.size inb_S1x1792_S1x1792_0_0))
  let v30 := (View.ld (Val := Elt F) (e' := .f32) x4 (Rect.unit (s := S1x512) ![0, 0] S1x512.size inb_S1x512_S1x512_0_0))
  let v32 := (View.ld (Val := Elt F) (e' := .bf16) x5 (Rect.unit (s := S128x512) ![0, 0] S128x512.size inb_S128x512_S128x512_0_0))
  let v34 := (View.ld (Val := Elt F) (e' := .f32) x6 (Rect.unit (s := S1x512) ![0, 0] S1x512.size inb_S1x512_S1x512_0_0))
  let v36 := (View.ld (Val := Elt F) (e' := .bf16) x7 (Rect.unit (s := S128x512) ![0, 0] S128x512.size inb_S128x512_S128x512_0_0))
  let v38 := (View.ld (Val := Elt F) (e' := .bf16) x8 (Rect.unit (s := S128x512) ![0, 0] S128x512.size inb_S128x512_S128x512_0_0))
  let v40 := (View.ld (Val := Elt F) (e' := .f32) x9 (Rect.unit (s := S1x512) ![0, 0] S1x512.size inb_S1x512_S1x512_0_0))
  let v42 := (View.ld (Val := Elt F) (e' := .f32) x10 (Rect.unit (s := S1x512) ![0, 0] S1x512.size inb_S1x512_S1x512_0_0))
  let v44 := (View.ld (Val := Elt F) (e' := .f32) x11 (Rect.unit (s := S1x512) ![0, 0] S1x512.size inb_S1x512_S1x512_0_0))
  let v46 := (View.ld (Val := Elt F) (e' := .bf16) x14 (Rect.unit (s := S128x128) ![0, 0] S128x128.size inb_S128x128_S128x128_0_0))
  let v31 := k0_pay5 v30
  let v33 := k0_pay6 v32
  let v35 := k0_pay7 v34
  let v37 := k0_pay8 v36
  let v39 := k0_pay9 v38
  let v41 := k0_pay10 v40
  let v43 := k0_pay11 v42
  let v45 := k0_pay12 v44
  let v47 := k0_pay13 v46
  let v52 := k0_pay15 v24 v26 v28
  let v53 := k0_pay16 v24 v26 v28
  let v54 := k0_pay17 v24 v26 v28
  let v55 := k0_pay18 v24 v26 v28
  let v56 := k0_pay19 v24 v26 v28
  let v58 := k0_pay20 v24 v26 v28
  let cst : FVec F S128x512 .f32 := constant S128x512 .f32 0x00000000#32
  let v61 := k0_pay21 v37 v55
  let v70 := k0_pay22 v39 v56
  let v72 := k0_pay23 v41 v53
  let v86 := k0_pay24 v41 v47 v53
  let v102 := k0_pay25 v31 v33 v58 cst
  let v103 : FVec F S128x512 .f32 := k0_pay26 (F := F)
  k0_pay40 v70

/-- The bonus the first head stores. -/
def bonusOf (x0 : Vec F S128x1792 .f32) (x1 : Vec F S128x1792 .f32) (x3 : Vec F S1x1792 .f32) (x4 : Vec F S1x512 .f32) (x5 : Vec F S128x512 .bf16) (x6 : Vec F S1x512 .f32) (x7 : Vec F S128x512 .bf16) (x8 : Vec F S128x512 .bf16) (x9 : Vec F S1x512 .f32) (x10 : Vec F S1x512 .f32) (x11 : Vec F S1x512 .f32) (x14 : Vec F S128x128 .bf16) : Vec F S128x512 .f32 :=
  let v24 := (View.ld (Val := Elt F) (e' := .f32) x0 (Rect.unit (s := S128x1792) ![0, 0] S128x1792.size inb_S128x1792_S128x1792_0_0))
  let v26 := (View.ld (Val := Elt F) (e' := .f32) x1 (Rect.unit (s := S128x1792) ![0, 0] S128x1792.size inb_S128x1792_S128x1792_0_0))
  let v28 := (View.ld (Val := Elt F) (e' := .f32) x3 (Rect.unit (s := S1x1792) ![0, 0] S1x1792.size inb_S1x1792_S1x1792_0_0))
  let v30 := (View.ld (Val := Elt F) (e' := .f32) x4 (Rect.unit (s := S1x512) ![0, 0] S1x512.size inb_S1x512_S1x512_0_0))
  let v32 := (View.ld (Val := Elt F) (e' := .bf16) x5 (Rect.unit (s := S128x512) ![0, 0] S128x512.size inb_S128x512_S128x512_0_0))
  let v34 := (View.ld (Val := Elt F) (e' := .f32) x6 (Rect.unit (s := S1x512) ![0, 0] S1x512.size inb_S1x512_S1x512_0_0))
  let v36 := (View.ld (Val := Elt F) (e' := .bf16) x7 (Rect.unit (s := S128x512) ![0, 0] S128x512.size inb_S128x512_S128x512_0_0))
  let v38 := (View.ld (Val := Elt F) (e' := .bf16) x8 (Rect.unit (s := S128x512) ![0, 0] S128x512.size inb_S128x512_S128x512_0_0))
  let v40 := (View.ld (Val := Elt F) (e' := .f32) x9 (Rect.unit (s := S1x512) ![0, 0] S1x512.size inb_S1x512_S1x512_0_0))
  let v42 := (View.ld (Val := Elt F) (e' := .f32) x10 (Rect.unit (s := S1x512) ![0, 0] S1x512.size inb_S1x512_S1x512_0_0))
  let v44 := (View.ld (Val := Elt F) (e' := .f32) x11 (Rect.unit (s := S1x512) ![0, 0] S1x512.size inb_S1x512_S1x512_0_0))
  let v46 := (View.ld (Val := Elt F) (e' := .bf16) x14 (Rect.unit (s := S128x128) ![0, 0] S128x128.size inb_S128x128_S128x128_0_0))
  let v31 := k0_pay5 v30
  let v33 := k0_pay6 v32
  let v35 := k0_pay7 v34
  let v37 := k0_pay8 v36
  let v39 := k0_pay9 v38
  let v41 := k0_pay10 v40
  let v43 := k0_pay11 v42
  let v45 := k0_pay12 v44
  let v47 := k0_pay13 v46
  let v52 := k0_pay15 v24 v26 v28
  let v53 := k0_pay16 v24 v26 v28
  let v54 := k0_pay17 v24 v26 v28
  let v55 := k0_pay18 v24 v26 v28
  let v56 := k0_pay19 v24 v26 v28
  let v58 := k0_pay20 v24 v26 v28
  let cst : FVec F S128x512 .f32 := constant S128x512 .f32 0x00000000#32
  let v61 := k0_pay21 v37 v55
  let v70 := k0_pay22 v39 v56
  let v72 := k0_pay23 v41 v53
  let v86 := k0_pay24 v41 v47 v53
  let v102 := k0_pay25 v31 v33 v58 cst
  let v103 : FVec F S128x512 .f32 := k0_pay26 (F := F)
  k0_pay41 (k0_pay30 v35 v43 v45 v47 v52 v53 v54 v61)

/-- The closing of the row: the group norm of y over each head, the bonus and the gate. -/
def oaOf (y : Vec F S512x128 .f32) (b g : Vec F S128x512 .f32) (x12 : Vec F S1x512 .f32) (x13 : Vec F S1x512 .f32) (x14 : Vec F S128x128 .bf16) : Vec F S128x512 .f32 :=
  let v24 := (View.ld (Val := Elt F) (e' := .f32) y (Rect.unit (s := S512x128) ![0, 0] S512x128.size inb_S512x128_S512x128_0_0))
  let v26 := (View.ld (Val := Elt F) (e' := .f32) b (Rect.unit (s := S128x512) ![0, 0] S128x512.size inb_S128x512_S128x512_0_0))
  let v27 := (View.ld (Val := Elt F) (e' := .f32) g (Rect.unit (s := S128x512) ![0, 0] S128x512.size inb_S128x512_S128x512_0_0))
  let v28 := (View.ld (Val := Elt F) (e' := .f32) x12 (Rect.unit (s := S1x512) ![0, 0] S1x512.size inb_S1x512_S1x512_0_0))
  let v30 := (View.ld (Val := Elt F) (e' := .f32) x13 (Rect.unit (s := S1x512) ![0, 0] S1x512.size inb_S1x512_S1x512_0_0))
  let v32 := (View.ld (Val := Elt F) (e' := .bf16) x14 (Rect.unit (s := S128x128) ![0, 0] S128x128.size inb_S128x128_S128x128_0_0))
  k0_pay4 v26 v27 (k0_pay42 v28) (k0_pay43 v30) (k0_pay45 v24 v32) (k0_pay47 v24 v32) (k0_pay48 v24 v32) (k0_pay49 v24 v32) (k0_pay50 v24 v32)

end Cert.KernelRwkvIdeal.Gen

end
-- ==== Proof.Rwkv.RunMid.lean ====
/- The body of one grid point of the decode recurrence, run for each of its three cases: the first head, which also prepares the rows of the step, a head in the middle, and the last, which also closes the row. -/
module

public import proofs.«01_k».proof.Proof.Rwkv.Trip
public import proofs.«01_k».proof.Proof.Gen.KernelRwkvIdeal.Frame

@[expose] public section

set_option maxRecDepth 16384

noncomputable section

namespace Cert.KernelRwkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3132000 in
/-- A head that is neither the first nor the last. -/
theorem run_mid (c : Dev nD) (i : grid0.Coords) (hc0 : ¬(Scalar.cmpi .ne (Scalar.extui (Scalar.cmpi .eq (BitVec.ofNat 32 (i 0).val) 0#32) : BitVec 32) 0#32 = 1#1)) (hc1 : ¬(k0_cond2 i = 1#1)) (arg1 : Memref sig .tc .vmem S128x1792 .f32) (harg1 : arg1.IsWhole) (arg2 : Memref sig .tc .vmem S128x1792 .f32) (harg2 : arg2.IsWhole) (arg3 : Memref sig .tc .vmem S1x64x64x128 .f32) (harg3 : arg3.IsWhole) (arg4 : Memref sig .tc .vmem S1x1792 .f32) (harg4 : arg4.IsWhole) (arg5 : Memref sig .tc .vmem S1x512 .f32) (harg5 : arg5.IsWhole) (arg6 : Memref sig .tc .vmem S128x512 .bf16) (harg6 : arg6.IsWhole) (arg7 : Memref sig .tc .vmem S1x512 .f32) (harg7 : arg7.IsWhole) (arg8 : Memref sig .tc .vmem S128x512 .bf16) (harg8 : arg8.IsWhole) (arg9 : Memref sig .tc .vmem S128x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S128x128 .bf16) (harg15 : arg15.IsWhole) (arg16 : Memref sig .tc .vmem S128x512 .f32) (harg16 : arg16.IsWhole) (arg17 : Memref sig .tc .vmem S1x64x64x128 .f32) (harg17 : arg17.IsWhole) (arg18 : Memref sig .tc .vmem S6x512x128 .f32) (harg18 : arg18.IsWhole) (arg19 : Memref sig .tc .vmem S512x128 .f32) (harg19 : arg19.IsWhole) (arg20 : Memref sig .tc .vmem S128x512 .f32) (harg20 : arg20.IsWhole) (arg21 : Memref sig .tc .vmem S128x512 .f32) (harg21 : arg21.IsWhole)
    (x0 : Vec F S128x1792 .f32) (x1 : Vec F S128x1792 .f32) (x2 : Vec F S1x64x64x128 .f32) (x3 : Vec F S1x1792 .f32) (x4 : Vec F S1x512 .f32) (x5 : Vec F S128x512 .bf16) (x6 : Vec F S1x512 .f32) (x7 : Vec F S128x512 .bf16) (x8 : Vec F S128x512 .bf16) (x9 : Vec F S1x512 .f32) (x10 : Vec F S1x512 .f32) (x11 : Vec F S1x512 .f32) (x12 : Vec F S1x512 .f32) (x13 : Vec F S1x512 .f32) (x14 : Vec F S128x128 .bf16) (d15 : Vec F S128x512 .f32) (d16 : Vec F S1x64x64x128 .f32) (s0 : Vec F S6x512x128 .f32) (s1 : Vec F S512x128 .f32) (s2 s3 : Vec F S128x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare d15 ∗ owns (c : Thread nD τ) arg17 fullShare d16 ∗ owns (c : Thread nD τ) arg18 fullShare s0 ∗ owns (c : Thread nD τ) arg19 fullShare s1 ∗ owns (c : Thread nD τ) arg20 fullShare s2 ∗ owns (c : Thread nD τ) arg21 fullShare s3 ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare d15 ∗ owns (c : Thread nD τ) arg17 fullShare (stHead x2 s0 i) ∗ owns (c : Thread nD τ) arg18 fullShare s0 ∗ owns (c : Thread nD τ) arg19 fullShare (yHead x2 s0 i s1) ∗ owns (c : Thread nD τ) arg20 fullShare s2 ∗ owns (c : Thread nD τ) arg21 fullShare s3) -∗ K ⟨⟩))
      ⊢ wp frame (wpE (defs₀ (F := F)) Variants.none c none) E (cc0_decode_rwkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_decode_rwkv_eq_skeleton]; unfold cc0_decode_rwkv_skel
  simp only [k0_part1_eq_skeleton, k0_part2_eq_skeleton, k0_part3_eq_skeleton, k0_part4_eq_skeleton, k0_part5_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21
  sl_exec (disch := first | sl_exact hc0 | sl_exact hc1)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; exact harg13.read_unread _
  isplitl [H14]
  · iexists _; isplitr; swap; · iexact H14
    ipureintro; exact harg14.read_unread _
  isplitl [H15]
  · iexists _; isplitr; swap; · iexact H15
    ipureintro; exact harg15.read_unread _
  isplitl [H16]
  · iexists _; isplitr; swap; · iexact H16
    ipureintro; exact harg16.read_unread _
  isplitl [H17]
  · iexists _; isplitr; swap; · iexact H17
    ipureintro; exact (read17 ..).trans (by simp only [harg3.read_unread, harg18.read_unread, View.readAt_eq_ld]; rfl)
  isplitl [H18]
  · iexists _; isplitr; swap; · iexact H18
    ipureintro; exact harg18.read_unread _
  isplitl [H19]
  · iexists _; isplitr; swap; · iexact H19
    ipureintro; exact (read19 ..).trans (by simp only [harg3.read_unread, harg18.read_unread, harg19.read_unread, View.readAt_eq_ld]; rfl)
  isplitl [H20]
  · iexists _; isplitr; swap; · iexact H20
    ipureintro; exact harg20.read_unread _
  · iexists _; isplitr; swap; · iexact H21
    ipureintro; exact harg21.read_unread _

end Cert.KernelRwkvIdeal.Gen

end
-- ==== Proof.Rwkv.RunFirst.lean ====
/- The body of the decode recurrence at the first head, which also prepares the rows of the step. -/
module

public import proofs.«01_k».proof.Proof.Rwkv.Rows
public import proofs.«01_k».proof.Proof.Rwkv.RunMid
public import Idealize.ShloMosaic.Lib.VecWindow

@[expose] public section

set_option maxRecDepth 16384

noncomputable section

namespace Cert.KernelRwkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3132000 in
/-- The first head. -/
theorem run_first (c : Dev nD) (i : grid0.Coords) (hc0 : Scalar.cmpi .ne (Scalar.extui (Scalar.cmpi .eq (BitVec.ofNat 32 (i 0).val) 0#32) : BitVec 32) 0#32 = 1#1) (hc1 : ¬(k0_cond2 i = 1#1)) (arg1 : Memref sig .tc .vmem S128x1792 .f32) (harg1 : arg1.IsWhole) (arg2 : Memref sig .tc .vmem S128x1792 .f32) (harg2 : arg2.IsWhole) (arg3 : Memref sig .tc .vmem S1x64x64x128 .f32) (harg3 : arg3.IsWhole) (arg4 : Memref sig .tc .vmem S1x1792 .f32) (harg4 : arg4.IsWhole) (arg5 : Memref sig .tc .vmem S1x512 .f32) (harg5 : arg5.IsWhole) (arg6 : Memref sig .tc .vmem S128x512 .bf16) (harg6 : arg6.IsWhole) (arg7 : Memref sig .tc .vmem S1x512 .f32) (harg7 : arg7.IsWhole) (arg8 : Memref sig .tc .vmem S128x512 .bf16) (harg8 : arg8.IsWhole) (arg9 : Memref sig .tc .vmem S128x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S128x128 .bf16) (harg15 : arg15.IsWhole) (arg16 : Memref sig .tc .vmem S128x512 .f32) (harg16 : arg16.IsWhole) (arg17 : Memref sig .tc .vmem S1x64x64x128 .f32) (harg17 : arg17.IsWhole) (arg18 : Memref sig .tc .vmem S6x512x128 .f32) (harg18 : arg18.IsWhole) (arg19 : Memref sig .tc .vmem S512x128 .f32) (harg19 : arg19.IsWhole) (arg20 : Memref sig .tc .vmem S128x512 .f32) (harg20 : arg20.IsWhole) (arg21 : Memref sig .tc .vmem S128x512 .f32) (harg21 : arg21.IsWhole)
    (x0 : Vec F S128x1792 .f32) (x1 : Vec F S128x1792 .f32) (x2 : Vec F S1x64x64x128 .f32) (x3 : Vec F S1x1792 .f32) (x4 : Vec F S1x512 .f32) (x5 : Vec F S128x512 .bf16) (x6 : Vec F S1x512 .f32) (x7 : Vec F S128x512 .bf16) (x8 : Vec F S128x512 .bf16) (x9 : Vec F S1x512 .f32) (x10 : Vec F S1x512 .f32) (x11 : Vec F S1x512 .f32) (x12 : Vec F S1x512 .f32) (x13 : Vec F S1x512 .f32) (x14 : Vec F S128x128 .bf16) (d15 : Vec F S128x512 .f32) (d16 : Vec F S1x64x64x128 .f32) (s0 : Vec F S6x512x128 .f32) (s1 : Vec F S512x128 .f32) (s2 s3 : Vec F S128x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare d15 ∗ owns (c : Thread nD τ) arg17 fullShare d16 ∗ owns (c : Thread nD τ) arg18 fullShare s0 ∗ owns (c : Thread nD τ) arg19 fullShare s1 ∗ owns (c : Thread nD τ) arg20 fullShare s2 ∗ owns (c : Thread nD τ) arg21 fullShare s3 ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare d15 ∗ owns (c : Thread nD τ) arg17 fullShare (stHead x2 (trOf x0 x1 x3 x4 x5 x6 x7 x8 x9 x10 x11 x14) i) ∗ owns (c : Thread nD τ) arg18 fullShare (trOf x0 x1 x3 x4 x5 x6 x7 x8 x9 x10 x11 x14) ∗ owns (c : Thread nD τ) arg19 fullShare (yHead x2 (trOf x0 x1 x3 x4 x5 x6 x7 x8 x9 x10 x11 x14) i s1) ∗ owns (c : Thread nD τ) arg20 fullShare (gOf x0 x1 x3 x4 x5 x6 x7 x8 x9 x10 x11 x14) ∗ owns (c : Thread nD τ) arg21 fullShare (bonusOf x0 x1 x3 x4 x5 x6 x7 x8 x9 x10 x11 x14)) -∗ K ⟨⟩))
      ⊢ wp frame (wpE (defs₀ (F := F)) Variants.none c none) E (cc0_decode_rwkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_decode_rwkv_eq_skeleton]; unfold cc0_decode_rwkv_skel
  simp only [k0_part1_eq_skeleton, k0_part2_eq_skeleton, k0_part3_eq_skeleton, k0_part4_eq_skeleton, k0_part5_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21
  sl_exec (disch := first | sl_exact hc0 | sl_exact hc1)
  sl_step
  iapply Hk
  have eST : ∀ X3 t3, arg3.view.read (Elt F) X3 = t3 → ∀ X18 t18, arg18.view.read (Elt F) X18 = t18 →
      stOut (arg18.view.readAt (Elt F) (Rect.unit (s := S6x512x128) (k0_off1 i) S1x64x128.size (k0_off1_inb i)) X18) (arg18.view.readAt (Elt F) (Rect.unit (s := S6x512x128) (k0_off2 i) S1x64x128.size (k0_off2_inb i)) X18) (arg18.view.readAt (Elt F) (Rect.unit (s := S6x512x128) (k0_off3 i) S1x64x128.size (k0_off3_inb i)) X18) (arg18.view.readAt (Elt F) (Rect.unit (s := S6x512x128) (k0_off4 i) S1x64x128.size (k0_off4_inb i)) X18) (arg18.view.readAt (Elt F) (Rect.unit (s := S6x512x128) (k0_off5 i) S1x64x128.size (k0_off5_inb i)) X18) (arg3.view.read (Elt F) X3) (arg18.view.read (Elt F) X18) i = stHead t3 t18 i := by
    rintro _ _ rfl _ _ rfl; rfl
  have eY : ∀ X3 t3, arg3.view.read (Elt F) X3 = t3 → ∀ X18 t18, arg18.view.read (Elt F) X18 = t18 → ∀ X19 t19, arg19.view.read (Elt F) X19 = t19 →
      yOut (arg18.view.readAt (Elt F) (Rect.unit (s := S6x512x128) (k0_off1 i) S1x64x128.size (k0_off1_inb i)) X18) (arg18.view.readAt (Elt F) (Rect.unit (s := S6x512x128) (k0_off2 i) S1x64x128.size (k0_off2_inb i)) X18) (arg18.view.readAt (Elt F) (Rect.unit (s := S6x512x128) (k0_off3 i) S1x64x128.size (k0_off3_inb i)) X18) (arg18.view.readAt (Elt F) (Rect.unit (s := S6x512x128) (k0_off4 i) S1x64x128.size (k0_off4_inb i)) X18) (arg18.view.readAt (Elt F) (Rect.unit (s := S6x512x128) (k0_off5 i) S1x64x128.size (k0_off5_inb i)) X18) (arg3.view.read (Elt F) X3) (arg18.view.read (Elt F) X18) i (arg19.view.read (Elt F) X19) = yHead t3 t18 i t19 := by
    rintro _ _ rfl _ _ rfl _ _ rfl; rfl
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; exact harg13.read_unread _
  isplitl [H14]
  · iexists _; isplitr; swap; · iexact H14
    ipureintro; exact harg14.read_unread _
  isplitl [H15]
  · iexists _; isplitr; swap; · iexact H15
    ipureintro; exact harg15.read_unread _
  isplitl [H16]
  · iexists _; isplitr; swap; · iexact H16
    ipureintro; exact harg16.read_unread _
  isplitl [H17]
  · iexists _; isplitr; swap; · iexact H17
    ipureintro; exact (read17 ..).trans (eST _ _ hf3 _ _ ((read_slab ..).trans ((rfl : _ = trOf (arg1.view.read (Elt F) (harg1.unread x0)) (arg2.view.read (Elt F) (harg2.unread x1)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8)) (arg10.view.read (Elt F) (harg10.unread x9)) (arg11.view.read (Elt F) (harg11.unread x10)) (arg12.view.read (Elt F) (harg12.unread x11)) (arg15.view.read (Elt F) (harg15.unread x14))).trans (by simp only [hf1, hf2, hf4, hf5, hf6, hf7, hf8, hf9, hf10, hf11, hf12, hf15]))))
  isplitl [H18]
  · iexists _; isplitr; swap; · iexact H18
    ipureintro; exact ((read_slab ..).trans ((rfl : _ = trOf (arg1.view.read (Elt F) (harg1.unread x0)) (arg2.view.read (Elt F) (harg2.unread x1)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8)) (arg10.view.read (Elt F) (harg10.unread x9)) (arg11.view.read (Elt F) (harg11.unread x10)) (arg12.view.read (Elt F) (harg12.unread x11)) (arg15.view.read (Elt F) (harg15.unread x14))).trans (by simp only [hf1, hf2, hf4, hf5, hf6, hf7, hf8, hf9, hf10, hf11, hf12, hf15])))
  isplitl [H19]
  · iexists _; isplitr; swap; · iexact H19
    ipureintro; exact (read19 ..).trans (eY _ _ hf3 _ _ ((read_slab ..).trans ((rfl : _ = trOf (arg1.view.read (Elt F) (harg1.unread x0)) (arg2.view.read (Elt F) (harg2.unread x1)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8)) (arg10.view.read (Elt F) (harg10.unread x9)) (arg11.view.read (Elt F) (harg11.unread x10)) (arg12.view.read (Elt F) (harg12.unread x11)) (arg15.view.read (Elt F) (harg15.unread x14))).trans (by simp only [hf1, hf2, hf4, hf5, hf6, hf7, hf8, hf9, hf10, hf11, hf12, hf15]))) _ _ hf19)
  isplitl [H20]
  · iexists _; isplitr; swap; · iexact H20
    ipureintro; exact (View.read_writes_full ..).trans ((rfl : _ = gOf (arg1.view.read (Elt F) (harg1.unread x0)) (arg2.view.read (Elt F) (harg2.unread x1)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8)) (arg10.view.read (Elt F) (harg10.unread x9)) (arg11.view.read (Elt F) (harg11.unread x10)) (arg12.view.read (Elt F) (harg12.unread x11)) (arg15.view.read (Elt F) (harg15.unread x14))).trans (by simp only [hf1, hf2, hf4, hf5, hf6, hf7, hf8, hf9, hf10, hf11, hf12, hf15]))
  · iexists _; isplitr; swap; · iexact H21
    ipureintro; exact (View.read_writes_full ..).trans ((rfl : _ = bonusOf (arg1.view.read (Elt F) (harg1.unread x0)) (arg2.view.read (Elt F) (harg2.unread x1)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8)) (arg10.view.read (Elt F) (harg10.unread x9)) (arg11.view.read (Elt F) (harg11.unread x10)) (arg12.view.read (Elt F) (harg12.unread x11)) (arg15.view.read (Elt F) (harg15.unread x14))).trans (by simp only [hf1, hf2, hf4, hf5, hf6, hf7, hf8, hf9, hf10, hf11, hf12, hf15]))

end Cert.KernelRwkvIdeal.Gen

end
-- ==== Proof.Rwkv.RunLast.lean ====
/- The body of the decode recurrence at the last head, which also closes the row. -/
module

public import proofs.«01_k».proof.Proof.Rwkv.Rows
public import proofs.«01_k».proof.Proof.Rwkv.RunMid
public import Idealize.ShloMosaic.Lib.VecWindow

@[expose] public section

set_option maxRecDepth 16384

noncomputable section

namespace Cert.KernelRwkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3132000 in
/-- The last head. -/
theorem run_last (c : Dev nD) (i : grid0.Coords) (hc0 : ¬(Scalar.cmpi .ne (Scalar.extui (Scalar.cmpi .eq (BitVec.ofNat 32 (i 0).val) 0#32) : BitVec 32) 0#32 = 1#1)) (hc1 : k0_cond2 i = 1#1) (arg1 : Memref sig .tc .vmem S128x1792 .f32) (harg1 : arg1.IsWhole) (arg2 : Memref sig .tc .vmem S128x1792 .f32) (harg2 : arg2.IsWhole) (arg3 : Memref sig .tc .vmem S1x64x64x128 .f32) (harg3 : arg3.IsWhole) (arg4 : Memref sig .tc .vmem S1x1792 .f32) (harg4 : arg4.IsWhole) (arg5 : Memref sig .tc .vmem S1x512 .f32) (harg5 : arg5.IsWhole) (arg6 : Memref sig .tc .vmem S128x512 .bf16) (harg6 : arg6.IsWhole) (arg7 : Memref sig .tc .vmem S1x512 .f32) (harg7 : arg7.IsWhole) (arg8 : Memref sig .tc .vmem S128x512 .bf16) (harg8 : arg8.IsWhole) (arg9 : Memref sig .tc .vmem S128x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S128x128 .bf16) (harg15 : arg15.IsWhole) (arg16 : Memref sig .tc .vmem S128x512 .f32) (harg16 : arg16.IsWhole) (arg17 : Memref sig .tc .vmem S1x64x64x128 .f32) (harg17 : arg17.IsWhole) (arg18 : Memref sig .tc .vmem S6x512x128 .f32) (harg18 : arg18.IsWhole) (arg19 : Memref sig .tc .vmem S512x128 .f32) (harg19 : arg19.IsWhole) (arg20 : Memref sig .tc .vmem S128x512 .f32) (harg20 : arg20.IsWhole) (arg21 : Memref sig .tc .vmem S128x512 .f32) (harg21 : arg21.IsWhole)
    (x0 : Vec F S128x1792 .f32) (x1 : Vec F S128x1792 .f32) (x2 : Vec F S1x64x64x128 .f32) (x3 : Vec F S1x1792 .f32) (x4 : Vec F S1x512 .f32) (x5 : Vec F S128x512 .bf16) (x6 : Vec F S1x512 .f32) (x7 : Vec F S128x512 .bf16) (x8 : Vec F S128x512 .bf16) (x9 : Vec F S1x512 .f32) (x10 : Vec F S1x512 .f32) (x11 : Vec F S1x512 .f32) (x12 : Vec F S1x512 .f32) (x13 : Vec F S1x512 .f32) (x14 : Vec F S128x128 .bf16) (d15 : Vec F S128x512 .f32) (d16 : Vec F S1x64x64x128 .f32) (s0 : Vec F S6x512x128 .f32) (s1 : Vec F S512x128 .f32) (s2 s3 : Vec F S128x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare d15 ∗ owns (c : Thread nD τ) arg17 fullShare d16 ∗ owns (c : Thread nD τ) arg18 fullShare s0 ∗ owns (c : Thread nD τ) arg19 fullShare s1 ∗ owns (c : Thread nD τ) arg20 fullShare s2 ∗ owns (c : Thread nD τ) arg21 fullShare s3 ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (oaOf (yHead x2 s0 i s1) s3 s2 x12 x13 x14) ∗ owns (c : Thread nD τ) arg17 fullShare (stHead x2 s0 i) ∗ owns (c : Thread nD τ) arg18 fullShare s0 ∗ owns (c : Thread nD τ) arg19 fullShare (yHead x2 s0 i s1) ∗ owns (c : Thread nD τ) arg20 fullShare s2 ∗ owns (c : Thread nD τ) arg21 fullShare s3) -∗ K ⟨⟩))
      ⊢ wp frame (wpE (defs₀ (F := F)) Variants.none c none) E (cc0_decode_rwkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_decode_rwkv_eq_skeleton]; unfold cc0_decode_rwkv_skel
  simp only [k0_part1_eq_skeleton, k0_part2_eq_skeleton, k0_part3_eq_skeleton, k0_part4_eq_skeleton, k0_part5_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21
  sl_exec (disch := first | sl_exact hc0 | sl_exact hc1)
  sl_step
  iapply Hk
  have eOA : ∀ X19 y, arg19.view.read (Elt F) X19 = y →
      oaOf (arg19.view.read (Elt F) X19) (arg21.view.read (Elt F) (harg21.unread s3)) (arg20.view.read (Elt F) (harg20.unread s2))
        (arg13.view.read (Elt F) (harg13.unread x12)) (arg14.view.read (Elt F) (harg14.unread x13)) (arg15.view.read (Elt F) (harg15.unread x14)) = oaOf y s3 s2 x12 x13 x14 := by
    rintro _ _ rfl; simp only [hf21, hf20, hf13, hf14, hf15]
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; exact harg13.read_unread _
  isplitl [H14]
  · iexists _; isplitr; swap; · iexact H14
    ipureintro; exact harg14.read_unread _
  isplitl [H15]
  · iexists _; isplitr; swap; · iexact H15
    ipureintro; exact harg15.read_unread _
  isplitl [H16]
  · iexists _; isplitr; swap; · iexact H16
    ipureintro; exact (View.read_writes_full ..).trans (eOA _ _ ((read19 ..).trans (by simp only [harg3.read_unread, harg18.read_unread, harg19.read_unread, View.readAt_eq_ld]; rfl)))
  isplitl [H17]
  · iexists _; isplitr; swap; · iexact H17
    ipureintro; exact (read17 ..).trans (by simp only [harg3.read_unread, harg18.read_unread, View.readAt_eq_ld]; rfl)
  isplitl [H18]
  · iexists _; isplitr; swap; · iexact H18
    ipureintro; exact harg18.read_unread _
  isplitl [H19]
  · iexists _; isplitr; swap; · iexact H19
    ipureintro; exact (read19 ..).trans (by simp only [harg3.read_unread, harg18.read_unread, harg19.read_unread, View.readAt_eq_ld]; rfl)
  isplitl [H20]
  · iexists _; isplitr; swap; · iexact H20
    ipureintro; exact harg20.read_unread _
  · iexists _; isplitr; swap; · iexact H21
    ipureintro; exact harg21.read_unread _

end Cert.KernelRwkvIdeal.Gen

end
-- ==== Proof.Rwkv.Body.lean ====
/- The decode recurrence at every grid point: what the four carried buffers hold between the heads, the body obligation, and the run of the whole launch. -/
module

public import proofs.«01_k».proof.Proof.Rwkv.RunFirst
public import proofs.«01_k».proof.Proof.Rwkv.RunLast
public import Idealize.ShloMosaic.Lib.WordCmp
public import Idealize.ShloMosaic.Lib.Claim

@[expose] public section

set_option maxRecDepth 16384

noncomputable section

namespace Cert.KernelRwkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem coord0 (t : Fin cfg0.N) : (grid0.coords t 0).val = t.val := by
  have ht : t.val < 8 := Nat.lt_of_lt_of_eq t.isLt N_0
  have e0 : (grid0.coords t 0).val = t.val / 1 % 8 := Pipeline.Grid.coords_val t 0 (by decide) rfl
  omega

/-- The first branch's condition. -/
abbrev condA (i : grid0.Coords) : Prop := Scalar.cmpi .ne (Scalar.extui (Scalar.cmpi .eq (BitVec.ofNat 32 (i 0).val) 0#32) : BitVec 32) 0#32 = 1#1

theorem hcondA : ∀ t : Fin cfg0.N, condA (grid0.coords t) ↔ t.val = 0 :=
  (fun t => by
    have ht : t.val < 8 := Nat.lt_of_lt_of_eq t.isLt N_0
    have e0 : (grid0.coords t 0).val = t.val := coord0 t
    simp only [condA, e0]
    word_cmp
   : ∀ t : Fin grid0.N, condA (grid0.coords t) ↔ t.val = 0)

theorem hcondB : ∀ t : Fin cfg0.N, k0_cond2 (grid0.coords t) = 1#1 ↔ t.val = 7 :=
  (fun t => by
    have ht : t.val < 8 := Nat.lt_of_lt_of_eq t.isLt N_0
    have e0 : (grid0.coords t 0).val = t.val := coord0 t
    simp only [k0_cond2, e0]
    word_cmp
   : ∀ t : Fin grid0.N, k0_cond2 (grid0.coords t) = 1#1 ↔ t.val = 7)

/-- The row blocks of the step, the gate and the bonus, as the first head stores them. -/
def trC (c : Dev nD) : Vec F S6x512x128 .f32 := trOf (iblk m c 0 t0_0) (iblk m c 1 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 14 t0_0)
def gC (c : Dev nD) : Vec F S128x512 .f32 := gOf (iblk m c 0 t0_0) (iblk m c 1 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 14 t0_0)
def bonusC (c : Dev nD) : Vec F S128x512 .f32 := bonusOf (iblk m c 0 t0_0) (iblk m c 1 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 14 t0_0)

/-- The rows of y, the one of head `h` and state row `k` at `64 h + k`. -/
def yRows (c : Dev nD) : Vec F S512x128 .f32 := fun y =>
  let t : Fin cfg0.N := ⟨(y 0).val / 64, by have h : (y 0).val < 512 := (y 0).isLt; have : cfg0.N = 8 := N_0; omega⟩
  let i := grid0.coords t
  yTrip (row1 (trC m c) i) (row2 (trC m c) i) (row3 (trC m c) i) (row4 (trC m c) i) (row5 (trC m c) i) (iblk m c 2 t) (trC m c) i
    ⟨(y 0).val % 64, Nat.mod_lt _ (by decide)⟩ (ix2 0 (y 1))

/-- The rows of y before head `n`, over what the buffer held at first. -/
def yPart (c : Dev nD) (n : ℕ) (y0 : Vec F S512x128 .f32) : Vec F S512x128 .f32 := fun y =>
  if (y 0).val < 64 * n then yRows m c y else y0 y

theorem yPart_zero (c : Dev nD) (y0 : Vec F S512x128 .f32) : yPart m c 0 y0 = y0 := by
  funext y; unfold yPart; rw [if_neg (by omega)]

theorem yPart_last (c : Dev nD) (y0 : Vec F S512x128 .f32) : yPart m c 8 y0 = yRows m c := by
  funext y; unfold yPart; rw [if_pos (by have h : (y 0).val < 512 := (y 0).isLt; omega)]

theorem yPart_step (c : Dev nD) (t : Fin cfg0.N) (y0 : Vec F S512x128 .f32) :
    yHead (iblk m c 2 t) (trC m c) (grid0.coords t) (yPart m c t.val y0) = yPart m c (t.val + 1) y0 := by
  funext y
  have e : (grid0.coords t 0).val = t.val := coord0 t
  have hy : (y 0).val < 512 := (y 0).isLt
  unfold yHead yOut
  by_cases h : 64 * (grid0.coords t 0).val ≤ (y 0).val ∧ (y 0).val < 64 * (grid0.coords t 0).val + 64
  · rw [dif_pos h]
    have hd : t = ⟨(y 0).val / 64, by have : cfg0.N = 8 := N_0; omega⟩ := Fin.ext (by show t.val = (y 0).val / 64; omega)
    have hk : (⟨(y 0).val - 64 * (grid0.coords t 0).val, by show _ < 64; omega⟩ : Fin k0_t1_loop.trips) = ⟨(y 0).val % 64, Nat.mod_lt _ (by decide)⟩ :=
      Fin.ext (by show (y 0).val - 64 * (grid0.coords t 0).val = (y 0).val % 64; omega)
    rw [hk]
    unfold yPart
    rw [if_pos (by omega)]
    unfold yRows
    dsimp only
    rw [← hd]
  · rw [dif_neg h]
    unfold yPart
    by_cases h2 : (y 0).val < 64 * t.val
    · rw [if_pos h2, if_pos (by omega)]
    · rw [if_neg h2, if_neg (by omega)]

abbrev scM0_0 : Memref sig .tc .vmem S6x512x128 .f32 := Memref.whole cc0_scratch0
abbrev scM0_1 : Memref sig .tc .vmem S512x128 .f32 := Memref.whole cc0_scratch1
abbrev scM0_2 : Memref sig .tc .vmem S128x512 .f32 := Memref.whole cc0_scratch2
abbrev scM0_3 : Memref sig .tc .vmem S128x512 .f32 := Memref.whole cc0_scratch3

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- What the carried buffers hold before head `n`: at first anything; then the row blocks, the rows of y so far, the gate and the bonus. -/
def PhiS (c : Dev nD) : (n : ℕ) → n ≤ cfg0.N → sProp 𝕄
  | 0, _ => Pipeline.ΦA spec0 c
  | n + 1, _ => iprop(iprop(owns (c : Thread nD τ) scM0_0 fullShare (trC m c) ∗ (∃ y0, owns (c : Thread nD τ) scM0_1 fullShare (yPart m c (n + 1) y0)) ∗ owns (c : Thread nD τ) scM0_2 fullShare (gC m c) ∗ owns (c : Thread nD τ) scM0_3 fullShare (bonusC m c)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scM0_0 fullShare (trC m c) ∗ (∃ y0, owns (c : Thread nD τ) scM0_1 fullShare (yPart m c n y0)) ∗ owns (c : Thread nD τ) scM0_2 fullShare (gC m c) ∗ owns (c : Thread nD τ) scM0_3 fullShare (bonusC m c)) ∗ (∃ r, prngReg c r)) := by
  cases n with
  | zero => exact absurd rfl hz
  | succ n => rfl

/-- The proof data: the arrays as the launch finds them, each input at its block, the row's output closed from all heads, the state's block the head's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => oaOf (yRows m c) (bonusC m c) (gC m c) (iblk m c 12 t) (iblk m c 13 t) (iblk m c 14 t)
    | ⟨16, _⟩ => stHead (iblk m c 2 t) (trC m c) (grid0.coords t)
    | ⟨_ + 17, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = oaOf (yRows m c) (bonusC m c) (gC m c) (iblk m c 12 t) (iblk m c 13 t) (iblk m c 14 t) := by dsimp only [dats]
theorem after0_16 (c : Dev nD) (t : Fin cfg0.N) : (dats m 0 c).after 16 t = stHead (iblk m c 2 t) (trC m c) (grid0.coords t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-- Two of the three states of an output window that is written at one point only. -/
def pick (a b : Bool) (P Q : sProp 𝕄) : sProp 𝕄 :=
  match a with
  | true => match b with
    | false => P
    | true => Q
  | false => Q

/-- The hidden state's window after the body at `t`. -/
def out15 (c : Dev nD) (t : Fin cfg0.N) : sProp 𝕄 :=
  pick (cfg0.idle 15 (cfg0.grid.coords t)) ((cfg0.win 15).flush t)
    iprop(∃ d, owns (c : Thread nD τ) (st0_15 t) fullShare ((dats m 0 c).before 15 t d))
    (owns (c : Thread nD τ) (st0_15 t) fullShare ((dats m 0 c).after 15 t))

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- and what it returns; the row's output is left as found before the last head. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ out15 m c t
    ∗ owns (c : Thread nD τ) (st0_16 t) fullShare ((dats m 0 c).after 16 t))

theorem idle15 (t : Fin cfg0.N) (h : t.val ≠ 7) : cfg0.idle 15 (cfg0.grid.coords t) = true := by
  have hb : ¬(k0_cond2 (grid0.coords t) = 1#1) := fun hh => h ((hcondB t).mp hh)
  show (!(k0_cond2 (grid0.coords t) == 1#1)) = true
  simp only [Bool.not_eq_true', beq_eq_false_iff_ne, ne_eq]
  exact hb

theorem busy15 (t : Fin cfg0.N) (h : t.val = 7) : cfg0.idle 15 (cfg0.grid.coords t) = false := by
  have hb : k0_cond2 (grid0.coords t) = 1#1 := (hcondB t).mpr h
  show (!(k0_cond2 (grid0.coords t) == 1#1)) = false
  rw [hb]; rfl

theorem noflush15 (t : Fin cfg0.N) (h : t.val ≠ 7) : (cfg0.win 15).flush t = false := by
  have ht : t.val < 8 := Nat.lt_of_lt_of_eq t.isLt N_0
  rw [Bool.eq_false_iff]
  intro hh
  exact h (by have := (flush0_15 t).mp hh; omega)

theorem out15_idle (c : Dev nD) (t : Fin cfg0.N) (h : t.val ≠ 7) : out15 m c t =
    iprop(∃ d, owns (c : Thread nD τ) (st0_15 t) fullShare ((dats m 0 c).before 15 t d)) := by
  have h1 : ∀ (a b : Bool) (P Q : sProp 𝕄), a = true → b = false → pick a b P Q = P := by
    rintro _ _ P Q rfl rfl; rfl
  exact h1 _ _ _ _ (idle15 t h) (noflush15 t h)

theorem out15_busy (c : Dev nD) (t : Fin cfg0.N) (h : t.val = 7) : out15 m c t =
    owns (c : Thread nD τ) (st0_15 t) fullShare ((dats m 0 c).after 15 t) := by
  have h1 : ∀ (a b : Bool) (P Q : sProp 𝕄), a = false → pick a b P Q = Q := by
    rintro _ _ P Q rfl; rfl
  exact h1 _ _ _ _ (busy15 t h)

set_option maxHeartbeats 3132000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_16]
  rw [show (dats m 0 c).Φ t.succ = PhiS m c (t.val + 1) t.isLt from rfl, PhiS_pos m c (t.val + 1) _ (Nat.succ_ne_zero _)]
  have hN : t.val < 8 := lt_of_lt_of_eq t.isLt (show cfg0.N = 8 from N_0)
  by_cases hz : t.val = 0
  · have h7 : t.val ≠ 7 := by omega
    rw [PhiS_castSucc m c t, PhiS_zero m c _ _ hz, PhiA0_eq]
    have e0 : t = t0_0 := Fin.ext hz
    rw [out15_idle m c t h7]
    try dsimp only
    iintro ⟨⟨⟨⟨%s0, HS0⟩, ⟨%s1, HS1⟩, ⟨%s2, HS2⟩, ⟨%s3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (run_first c (grid0.coords t) ((hcondA t).mpr hz) (fun hh => h7 ((hcondB t).mp hh)) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ((dats m 0 c).before 15 t d15) ((dats m 0 c).before 16 t d16) s0 s1 s2 s3 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, HS0, HS1, HS2, HS3⟩
    isplitl [HS0 HS1 HS2 HS3 Hg]
    · isplitl [HS0 HS1 HS2 HS3]
      · subst e0
        isplitl [HS0]; · iexact HS0
        isplitl [HS1]
        · iexists s1; rw [← yPart_step m c t0_0 s1, show (t0_0 : Fin cfg0.N).val = 0 from rfl, yPart_zero]; iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists d15; iexact H15
    subst e0; iexact H16
  by_cases h7 : t.val = 7
  · rw [PhiS_castSucc m c t, PhiS_pos m c _ _ hz]
    rw [out15_busy m c t h7, after0_15]
    try dsimp only
    iintro ⟨⟨⟨HS0, ⟨%y0, HS1⟩, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (run_last c (grid0.coords t) (fun hh => hz ((hcondA t).mp hh)) ((hcondB t).mpr h7) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ((dats m 0 c).before 15 t d15) ((dats m 0 c).before 16 t d16) (trC m c) (yPart m c t.val y0) (gC m c) (bonusC m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, HS0, HS1, HS2, HS3⟩
    isplitl [HS0 HS1 HS2 HS3 Hg]
    · isplitl [HS0 HS1 HS2 HS3]
      · isplitl [HS0]; · iexact HS0
        isplitl [HS1]
        · iexists y0; rw [← yPart_step m c t y0]; iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · rw [← yPart_last m c y0, show (8 : ℕ) = t.val + 1 from by omega, ← yPart_step m c t y0]; iexact H15
    iexact H16
  · rw [PhiS_castSucc m c t, PhiS_pos m c _ _ hz]
    rw [out15_idle m c t h7]
    try dsimp only
    iintro ⟨⟨⟨HS0, ⟨%y0, HS1⟩, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (run_mid c (grid0.coords t) (fun hh => hz ((hcondA t).mp hh)) (fun hh => h7 ((hcondB t).mp hh)) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ((dats m 0 c).before 15 t d15) ((dats m 0 c).before 16 t d16) (trC m c) (yPart m c t.val y0) (gC m c) (bonusC m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, HS0, HS1, HS2, HS3⟩
    isplitl [HS0 HS1 HS2 HS3 Hg]
    · isplitl [HS0 HS1 HS2 HS3]
      · isplitl [HS0]; · iexact HS0
        isplitl [HS1]
        · iexists y0; rw [← yPart_step m c t y0]; iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists d15; iexact H15
    iexact H16

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 8 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, ⟨%y0, HS1⟩, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

set_option backward.isDefEq.respectTransparency.types false in
/-- The run of the launch and of the host lines after it, every counter at zero at the end. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m) (Q' := _) (hQ' := fun _ h => h)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument arrays end as they began and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (dats m) (A_eq m) (run_main m ρ)) ((θ_run defs _ _).mono (fun _ h => h.2) (run_main_quiescent m ρ))

end Cert.KernelRwkvIdeal.Gen

end
-- ==== Proof.Rwkv.Math.lean ====
/- One token's step of the recurrence mixer, written as plain functions of one sequence's row over the extended reals,
   and the sums that the kernel takes with a block of ones. -/
module

public import Idealize.ShloMosaic.Lib.Pointwise
public import Idealize.ShloMosaic.Lib.IdealHost

@[expose] public section

set_option maxRecDepth 16384

noncomputable section

namespace Cert.RwkvRow

open Idealize.ShloMosaic

/-- The small constant under the root of a head's norm. -/
abbrev eps : EReal := Ideal.ofBits .f32 0x358637BD#32
/-- The small constant under the root of the group norm. -/
abbrev gneps : EReal := Ideal.ofBits .f32 0x3A27C5AC#32
/-- One half, as the programs write it. -/
abbrev half : EReal := Ideal.ofBits .f32 0x3F000000#32
/-- 64, as the reference writes it. -/
abbrev size : EReal := Ideal.ofBits .f32 0x42800000#32

/-- The logistic function. -/
def sg (x : EReal) : EReal := Ideal.div 1 (1 + Ideal.exp (0 - x))
/-- The softplus, from the larger of its argument and zero. -/
def sp (x : EReal) : EReal := max x 0 + Ideal.log (1 + Ideal.exp (0 - max x (-x)))

/-- Channel `j` of the head that channel `d` belongs to. -/
abbrev chan (d : Fin 512) (j : Fin 64) : Fin 512 := ⟨64 * (d.val / 64) + j.val, by omega⟩
/-- Channel `j` of head `h`. -/
abbrev lane (h : Fin 8) (j : Fin 64) : Fin 512 := ⟨64 * h.val + j.val, by omega⟩
/-- The sum over the head that channel `d` belongs to. -/
def hs (f : Fin 512 → EReal) (d : Fin 512) : EReal := ∑ j : Fin 64, f (chan d j)

/-- The rows and weights that one sequence's step reads. -/
structure Row where
  /-- The projected columns of the token. -/
  pa : Fin 1792 → EReal
  /-- The columns of the token before it. -/
  prev : Fin 1792 → EReal
  /-- The share of the token before. -/
  mu : Fin 1792 → EReal
  /-- The decay's offset. -/
  w0 : Fin 512 → EReal
  /-- The decay's second projection. -/
  w2 : Fin 64 → Fin 512 → EReal
  /-- The rate's offset. -/
  a0 : Fin 512 → EReal
  /-- The rate's second projection. -/
  a2 : Fin 64 → Fin 512 → EReal
  /-- The gate's second projection. -/
  g2 : Fin 128 → Fin 512 → EReal
  /-- The scale of the removal key. -/
  kk : Fin 512 → EReal
  /-- How far the rate changes the key. -/
  ka : Fin 512 → EReal
  /-- The weights of the bonus. -/
  rk : Fin 512 → EReal
  /-- The group norm's gain. -/
  lnw : Fin 512 → EReal
  /-- The group norm's offset. -/
  lnb : Fin 512 → EReal

namespace Row

variable (A : Row)

/-- The token's columns, mixed with those of the token before. -/
def xa (j : Fin 1792) : EReal := A.pa j + (A.prev j - A.pa j) * A.mu j
/-- The receptance. -/
def r (d : Fin 512) : EReal := A.xa ⟨d.val, by omega⟩
/-- The key before the rate changes it. -/
def k (d : Fin 512) : EReal := A.xa ⟨512 + d.val, by omega⟩
/-- The value. -/
def v (d : Fin 512) : EReal := A.xa ⟨1024 + d.val, by omega⟩
/-- The decay. -/
def decay (d : Fin 512) : EReal :=
  Ideal.exp (0 - Ideal.exp (0 - sp (0 - (A.w0 d + ∑ j : Fin 64, Ideal.tanh (A.xa ⟨1536 + j.val, by omega⟩) * A.w2 j d)) - half))
/-- The rate. -/
def a (d : Fin 512) : EReal := sg (A.a0 d + ∑ j : Fin 64, A.xa ⟨1600 + j.val, by omega⟩ * A.a2 j d)
/-- The gate. -/
def g (d : Fin 512) : EReal := ∑ j : Fin 128, sg (A.xa ⟨1664 + j.val, by omega⟩) * A.g2 j d
/-- The removal key before its norm. -/
def kx (d : Fin 512) : EReal := A.k d * A.kk d
/-- The removal key, of unit length in each head. -/
def kn (d : Fin 512) : EReal := A.kx d * Ideal.rsqrt (hs (fun e => A.kx e * A.kx e) d + eps)
/-- The key. -/
def k2 (d : Fin 512) : EReal := A.k d * (1 + (A.a d - 1) * A.ka d)
/-- The bonus. -/
def bonus (d : Fin 512) : EReal := hs (fun e => A.r e * A.k2 e * A.rk e) d * A.v d

/-- Entry `j` of the new state of head `h` at value channel `i`, from the old state's row `st`. -/
def new (st : Fin 64 → EReal) (h : Fin 8) (i j : Fin 64) : EReal :=
  st j * A.decay (lane h j) + (∑ l : Fin 64, st l * (0 - A.kn (lane h l))) * (A.kn (lane h j) * A.a (lane h j))
    + A.v (lane h i) * A.k2 (lane h j)
/-- What head `h` reads from the new state at value channel `i`. -/
def read (st : Fin 64 → EReal) (h : Fin 8) (i : Fin 64) : EReal := ∑ j : Fin 64, A.new st h i j * A.r (lane h j)

/-- The mean of a head. -/
def mean (y : Fin 512 → EReal) (d : Fin 512) : EReal := Ideal.div (hs y d) size
/-- The distance to the head's mean. -/
def dist (y : Fin 512 → EReal) (d : Fin 512) : EReal := y d - mean y d
/-- The group norm, the bonus and the gate. -/
def close (y : Fin 512 → EReal) (d : Fin 512) : EReal :=
  (dist y d * Ideal.rsqrt (mean (fun e => dist y e * dist y e) d + gneps) * A.lnw d + A.lnb d + A.bonus d) * A.g d

end Row

/-! ## Sums over 128 lanes -/

theorem sum_half (f : Fin 128 → EReal) :
    ∑ x, f x = (∑ j : Fin 64, f ⟨j.val, by omega⟩) + ∑ j : Fin 64, f ⟨64 + j.val, by omega⟩ :=
  Fin.sum_univ_add (a := 64) (b := 64) f

/-- With a block of ones: the sum over the lane's half. -/
theorem sum_ones (f : Fin 128 → EReal) (g : Fin 128 → EReal) (l : ℕ) (hl : l < 128)
    (hg : ∀ x : Fin 128, g x = if x.val / 64 = l / 64 then 1 else 0) :
    ∑ x, f x * g x = ∑ j : Fin 64, f ⟨64 * (l / 64) + j.val, by omega⟩ := by
  rw [sum_half]
  have hh : l / 64 = 0 ∨ l / 64 = 1 := by omega
  rcases hh with h | h
  · rw [Finset.sum_eq_zero (s := Finset.univ) (f := fun j : Fin 64 => f ⟨64 + j.val, by omega⟩ * g ⟨64 + j.val, by omega⟩)
      (fun j _ => by rw [hg, h, if_neg (by have := j.isLt; show ¬ (64 + j.val) / 64 = 0; omega), mul_zero]), add_zero]
    refine Finset.sum_congr rfl fun j _ => ?_
    rw [hg, if_pos (by have := j.isLt; show j.val / 64 = l / 64; omega), mul_one]
    exact congrArg f (Fin.ext (by show j.val = 64 * (l / 64) + j.val; omega))
  · rw [Finset.sum_eq_zero (s := Finset.univ) (f := fun j : Fin 64 => f ⟨j.val, by omega⟩ * g ⟨j.val, by omega⟩)
      (fun j _ => by rw [hg, h, if_neg (by have := j.isLt; show ¬ j.val / 64 = 1; omega), mul_zero]), zero_add]
    refine Finset.sum_congr rfl fun j _ => ?_
    rw [hg, if_pos (by have := j.isLt; show (64 + j.val) / 64 = l / 64; omega), mul_one]
    exact congrArg f (Fin.ext (by show 64 + j.val = 64 * (l / 64) + j.val; omega))

/-- With a lower half of zeros. -/
theorem sum_low (f g : Fin 128 → EReal) (hg : ∀ j : Fin 64, g ⟨64 + j.val, by omega⟩ = 0) :
    ∑ x, f x * g x = ∑ j : Fin 64, f ⟨j.val, by omega⟩ * g ⟨j.val, by omega⟩ := by
  rw [sum_half, Finset.sum_eq_zero (s := Finset.univ) (f := fun j : Fin 64 => f ⟨64 + j.val, by omega⟩ * g ⟨64 + j.val, by omega⟩)
    (fun j _ => by rw [hg, mul_zero]), add_zero]

/-- With an upper half of zeros. -/
theorem sum_high (f g : Fin 128 → EReal) (hg : ∀ j : Fin 64, g ⟨j.val, by omega⟩ = 0) :
    ∑ x, f x * g x = ∑ j : Fin 64, f ⟨64 + j.val, by omega⟩ * g ⟨64 + j.val, by omega⟩ := by
  rw [sum_half, Finset.sum_eq_zero (s := Finset.univ) (f := fun j : Fin 64 => f ⟨j.val, by omega⟩ * g ⟨j.val, by omega⟩)
    (fun j _ => by rw [hg, mul_zero]), zero_add]

/-- The sum over a head, from the four groups of 128 lanes. -/
theorem hs_groups (f : Fin 512 → EReal) (hb : Fin 128 → Fin 128 → EReal)
    (hhb : ∀ x l : Fin 128, hb x l = if x.val / 64 = l.val / 64 then 1 else 0) (d : Fin 512) :
    (if h : d.val < 128 then ∑ x : Fin 128, f ⟨x.val, by omega⟩ * hb x ⟨d.val, by omega⟩
      else if h : d.val - 128 < 128 then ∑ x : Fin 128, f ⟨128 + x.val, by omega⟩ * hb x ⟨d.val - 128, by omega⟩
      else if h : d.val - 128 - 128 < 128 then ∑ x : Fin 128, f ⟨256 + x.val, by omega⟩ * hb x ⟨d.val - 128 - 128, by omega⟩
      else ∑ x : Fin 128, f ⟨384 + x.val, by omega⟩ * hb x ⟨d.val - 128 - 128 - 128, by omega⟩) = hs f d := by
  have key : ∀ (o l : ℕ) (ho : o + 128 ≤ 512) (hl : l < 128), o % 64 = 0 → d.val = o + l →
      ∑ x : Fin 128, f ⟨o + x.val, by omega⟩ * hb x ⟨l, hl⟩ = hs f d := by
    intro o l ho hl h64 e
    rw [sum_ones (fun x => f ⟨o + x.val, by omega⟩) (fun x => hb x ⟨l, hl⟩) l hl (fun x => hhb x _)]
    refine Finset.sum_congr rfl fun j _ => congrArg f (Fin.ext ?_)
    show o + (64 * (l / 64) + j.val) = 64 * (d.val / 64) + j.val
    omega
  split
  · refine (Finset.sum_congr rfl fun x _ => ?_).trans (key 0 d.val (by omega) (by omega) (by omega) (by omega))
    exact congrArg (fun z => f z * _) (Fin.ext (by show x.val = 0 + x.val; omega))
  split
  · exact key 128 (d.val - 128) (by omega) (by omega) (by omega) (by omega)
  split
  · exact key 256 (d.val - 128 - 128) (by omega) (by omega) (by omega) (by omega)
  · exact key 384 (d.val - 128 - 128 - 128) (by omega) (by omega) (by omega) (by omega)

/-- Dividing by 64 is multiplying by the literal that the kernel writes for its inverse. -/
theorem mul_inv64 (x : EReal) : x * Ideal.ofBits .f32 0x3C800000#32 = Ideal.div x size := by
  have e1 : Ideal.ofBits .f32 0x3C800000#32 = (((1 : ℝ) / 64 : ℝ) : EReal) := by
    simp [Ideal.ofBits, Ideal.ieee, -EReal.coe_mul]; norm_num
  have e2 : size = ((64 : ℝ) : EReal) := by
    simp [size, Ideal.ofBits, Ideal.ieee, -EReal.coe_mul]; norm_num
  have h0 : ((64 : ℝ) : EReal) ≠ 0 := by exact_mod_cast (by norm_num : (64 : ℝ) ≠ 0)
  rw [e1, e2, Ideal.div, if_neg h0, ← EReal.coe_inv]
  norm_num

end Cert.RwkvRow

end
-- ==== Proof.Rwkv.Spec.lean ====
/- The hidden state and the new state that one token's step of the recurrence gives, as functions of the arguments. -/
module

public import proofs.«01_k».proof.Proof.Rwkv.Math

@[expose] public section

noncomputable section

namespace Cert.RwkvRow

open Idealize.ShloMosaic

/-- What sequence `b`'s step reads of the arguments. -/
def rowOf (pa : FVec Ideal ⟨3, ![128, 1, 1792]⟩ .f32) (prev : FVec Ideal ⟨4, ![1, 128, 1, 1792]⟩ .f32) (mu : FVec Ideal ⟨2, ![1, 1792]⟩ .f32) (w0 : FVec Ideal ⟨2, ![1, 512]⟩ .f32) (w2 : FVec Ideal ⟨3, ![1, 64, 512]⟩ .f32) (a0 : FVec Ideal ⟨2, ![1, 512]⟩ .f32) (a2 : FVec Ideal ⟨3, ![1, 64, 512]⟩ .f32) (g2 : FVec Ideal ⟨3, ![1, 128, 512]⟩ .f32) (kk : FVec Ideal ⟨2, ![1, 512]⟩ .f32) (ka : FVec Ideal ⟨2, ![1, 512]⟩ .f32) (rk : FVec Ideal ⟨3, ![1, 8, 64]⟩ .f32) (lnw : FVec Ideal ⟨2, ![1, 512]⟩ .f32) (lnb : FVec Ideal ⟨2, ![1, 512]⟩ .f32) (b : Fin 128) : Row where
  pa j := pa (ix3 b 0 j)
  prev j := prev (ix4 0 b 0 j)
  mu j := mu (ix2 0 j)
  w0 d := w0 (ix2 0 d)
  w2 j d := w2 (ix3 0 j d)
  a0 d := a0 (ix2 0 d)
  a2 j d := a2 (ix3 0 j d)
  g2 j d := g2 (ix3 0 j d)
  kk d := kk (ix2 0 d)
  ka d := ka (ix2 0 d)
  rk d := rk (ix3 0 ⟨d.val / 64, by omega⟩ ⟨d.val % 64, by omega⟩)
  lnw d := lnw (ix2 0 d)
  lnb d := lnb (ix2 0 d)

/-- What sequence `b` reads from its new state, channel by channel. -/
def yOf (A : Row) (st : FVec Ideal ⟨5, ![1, 128, 8, 64, 64]⟩ .f32) (b : Fin 128) (d : Fin 512) : EReal :=
  A.read (fun l => st (ix5 0 b ⟨d.val / 64, by omega⟩ ⟨d.val % 64, by omega⟩ l)) ⟨d.val / 64, by omega⟩ ⟨d.val % 64, by omega⟩

/-- THE HIDDEN STATE of sequence `b` at channel `d`. -/
def hid (pa : FVec Ideal ⟨3, ![128, 1, 1792]⟩ .f32) (prev : FVec Ideal ⟨4, ![1, 128, 1, 1792]⟩ .f32) (st : FVec Ideal ⟨5, ![1, 128, 8, 64, 64]⟩ .f32) (mu : FVec Ideal ⟨2, ![1, 1792]⟩ .f32) (w0 : FVec Ideal ⟨2, ![1, 512]⟩ .f32) (w2 : FVec Ideal ⟨3, ![1, 64, 512]⟩ .f32) (a0 : FVec Ideal ⟨2, ![1, 512]⟩ .f32) (a2 : FVec Ideal ⟨3, ![1, 64, 512]⟩ .f32) (g2 : FVec Ideal ⟨3, ![1, 128, 512]⟩ .f32) (kk : FVec Ideal ⟨2, ![1, 512]⟩ .f32) (ka : FVec Ideal ⟨2, ![1, 512]⟩ .f32) (rk : FVec Ideal ⟨3, ![1, 8, 64]⟩ .f32) (lnw : FVec Ideal ⟨2, ![1, 512]⟩ .f32) (lnb : FVec Ideal ⟨2, ![1, 512]⟩ .f32) (b : Fin 128) (d : Fin 512) : EReal :=
  (rowOf pa prev mu w0 w2 a0 a2 g2 kk ka rk lnw lnb b).close (yOf (rowOf pa prev mu w0 w2 a0 a2 g2 kk ka rk lnw lnb b) st b) d

/-- THE NEW STATE of sequence `b`'s head `h` at value channel `i` and key channel `j`. -/
def stt (pa : FVec Ideal ⟨3, ![128, 1, 1792]⟩ .f32) (prev : FVec Ideal ⟨4, ![1, 128, 1, 1792]⟩ .f32) (st : FVec Ideal ⟨5, ![1, 128, 8, 64, 64]⟩ .f32) (mu : FVec Ideal ⟨2, ![1, 1792]⟩ .f32) (w0 : FVec Ideal ⟨2, ![1, 512]⟩ .f32) (w2 : FVec Ideal ⟨3, ![1, 64, 512]⟩ .f32) (a0 : FVec Ideal ⟨2, ![1, 512]⟩ .f32) (a2 : FVec Ideal ⟨3, ![1, 64, 512]⟩ .f32) (g2 : FVec Ideal ⟨3, ![1, 128, 512]⟩ .f32) (kk : FVec Ideal ⟨2, ![1, 512]⟩ .f32) (ka : FVec Ideal ⟨2, ![1, 512]⟩ .f32) (rk : FVec Ideal ⟨3, ![1, 8, 64]⟩ .f32) (lnw : FVec Ideal ⟨2, ![1, 512]⟩ .f32) (lnb : FVec Ideal ⟨2, ![1, 512]⟩ .f32) (b : Fin 128) (h : Fin 8) (i j : Fin 64) : EReal :=
  (rowOf pa prev mu w0 w2 a0 a2 g2 kk ka rk lnw lnb b).new (fun l => st (ix5 0 b h i l)) h i j

end Cert.RwkvRow

end
-- ==== Proof.Rwkv.Vals.lean ====
/- The payloads of the decode recurrence at an element, as the functions of one sequence's row. -/
module

public import proofs.«01_k».proof.Proof.Rwkv.Math
public import proofs.«01_k».proof.Proof.Rwkv.Rows
public import proofs.«01_k».proof.Proof.Gen.KernelRwkvIdeal.Skeleton
public import Idealize.ShloMosaic.Lib.Pipeline.ValueKit.Basic

@[expose] public section

set_option maxRecDepth 16384

noncomputable section

namespace Cert.KernelRwkvIdeal.Rows

open Cert.KernelRwkvIdeal Cert.KernelRwkvIdeal.Gen Idealize.ShloMosaic Idealize.ShloMosaic.TcCoe Cert.RwkvRow Idealize.SL.Sem

/-- The row of sequence `r`, from the blocks that the launch reads. -/
def kRow (u p : Vec Ideal S128x1792 .f32) (mu : Vec Ideal S1x1792 .f32) (w0 : Vec Ideal S1x512 .f32) (w2p : Vec Ideal S128x512 .bf16)
    (a0 : Vec Ideal S1x512 .f32) (a2p g2 : Vec Ideal S128x512 .bf16) (kk ka rk lnw lnb : Vec Ideal S1x512 .f32) (r : Fin 128) : Row where
  pa j := u (ix2 r j)
  prev j := p (ix2 r j)
  mu j := mu (ix2 0 j)
  w0 d := w0 (ix2 0 d)
  w2 j d := w2p (ix2 ⟨j.val, by omega⟩ d)
  a0 d := a0 (ix2 0 d)
  a2 j d := a2p (ix2 ⟨64 + j.val, by omega⟩ d)
  g2 j d := g2 (ix2 j d)
  kk d := kk (ix2 0 d)
  ka d := ka (ix2 0 d)
  rk d := rk (ix2 0 d)
  lnw d := lnw (ix2 0 d)
  lnb d := lnb (ix2 0 d)

variable (u p : Vec Ideal S128x1792 .f32) (mu : Vec Ideal S1x1792 .f32) (w0 : Vec Ideal S1x512 .f32) (w2p : Vec Ideal S128x512 .bf16)
    (a0 : Vec Ideal S1x512 .f32) (a2p g2 : Vec Ideal S128x512 .bf16) (kk ka rk lnw lnb : Vec Ideal S1x512 .f32)
    (hb : Vec Ideal S128x128 .bf16) (r : Fin 128)

theorem pay5_at (v : Vec Ideal S1x512 .f32) (d : Fin 512) : k0_pay5 (F := Ideal) v (ix2 0 d) = v (ix2 0 d) := by pointwise [k0_pay5]
theorem pay7_at (v : Vec Ideal S1x512 .f32) (d : Fin 512) : k0_pay7 (F := Ideal) v (ix2 0 d) = v (ix2 0 d) := by pointwise [k0_pay7]
theorem pay10_at (v : Vec Ideal S1x512 .f32) (d : Fin 512) : k0_pay10 (F := Ideal) v (ix2 0 d) = v (ix2 0 d) := by pointwise [k0_pay10]
theorem pay11_at (v : Vec Ideal S1x512 .f32) (d : Fin 512) : k0_pay11 (F := Ideal) v (ix2 0 d) = v (ix2 0 d) := by pointwise [k0_pay11]
theorem pay12_at (v : Vec Ideal S1x512 .f32) (d : Fin 512) : k0_pay12 (F := Ideal) v (ix2 0 d) = v (ix2 0 d) := by pointwise [k0_pay12]
theorem pay42_at (v : Vec Ideal S1x512 .f32) (d : Fin 512) : k0_pay42 (F := Ideal) v (ix2 0 d) = v (ix2 0 d) := by pointwise [k0_pay42]
theorem pay43_at (v : Vec Ideal S1x512 .f32) (d : Fin 512) : k0_pay43 (F := Ideal) v (ix2 0 d) = v (ix2 0 d) := by pointwise [k0_pay43]
theorem pay6_at (v : Vec Ideal S128x512 .bf16) (j : Fin 128) (d : Fin 512) : k0_pay6 (F := Ideal) v (ix2 j d) = v (ix2 j d) := by pointwise [k0_pay6]
theorem pay8_at (v : Vec Ideal S128x512 .bf16) (j : Fin 128) (d : Fin 512) : k0_pay8 (F := Ideal) v (ix2 j d) = v (ix2 j d) := by pointwise [k0_pay8]
theorem pay9_at (v : Vec Ideal S128x512 .bf16) (j : Fin 128) (d : Fin 512) : k0_pay9 (F := Ideal) v (ix2 j d) = v (ix2 j d) := by pointwise [k0_pay9]
theorem pay13_at (v : Vec Ideal S128x128 .bf16) (j d : Fin 128) : k0_pay13 (F := Ideal) v (ix2 j d) = v (ix2 j d) := by pointwise [k0_pay13]
theorem pay44_at (v : Vec Ideal S128x128 .bf16) (j d : Fin 128) : k0_pay44 (F := Ideal) v (ix2 j d) = v (ix2 j d) := by pointwise [k0_pay44]

theorem pay14_at (j : Fin 1792) :
    k0_pay14 (F := Ideal) u p mu (ix2 r j) = (kRow u p mu w0 w2p a0 a2p g2 kk ka rk lnw lnb r).xa j := by
  pointwise [k0_pay14]
  rfl

theorem pay15_at (d : Fin 512) :
    k0_pay15 (F := Ideal) u p mu (ix2 r d) = (kRow u p mu w0 w2p a0 a2p g2 kk ka rk lnw lnb r).r d := by
  pointwise [k0_pay15]
  exact pay14_at u p mu w0 w2p a0 a2p g2 kk ka rk lnw lnb r _

theorem pay16_at (d : Fin 512) :
    k0_pay16 (F := Ideal) u p mu (ix2 r d) = (kRow u p mu w0 w2p a0 a2p g2 kk ka rk lnw lnb r).k d := by
  pointwise [k0_pay16]
  exact pay14_at u p mu w0 w2p a0 a2p g2 kk ka rk lnw lnb r _

theorem pay17_at (d : Fin 512) :
    k0_pay17 (F := Ideal) u p mu (ix2 r d) = (kRow u p mu w0 w2p a0 a2p g2 kk ka rk lnw lnb r).v d := by
  pointwise [k0_pay17]
  exact pay14_at u p mu w0 w2p a0 a2p g2 kk ka rk lnw lnb r _

theorem pay18_at (j : Fin 128) :
    k0_pay18 (F := Ideal) u p mu (ix2 r j) = (kRow u p mu w0 w2p a0 a2p g2 kk ka rk lnw lnb r).xa ⟨1536 + j.val, by omega⟩ := by
  pointwise [k0_pay18]
  exact pay14_at u p mu w0 w2p a0 a2p g2 kk ka rk lnw lnb r _

theorem pay19_at (j : Fin 128) :
    k0_pay19 (F := Ideal) u p mu (ix2 r j) = (kRow u p mu w0 w2p a0 a2p g2 kk ka rk lnw lnb r).xa ⟨1664 + j.val, by omega⟩ := by
  pointwise [k0_pay19]
  exact pay14_at u p mu w0 w2p a0 a2p g2 kk ka rk lnw lnb r _

theorem pay20_at (j : Fin 128) :
    (k0_pay20 (F := Ideal) u p mu (ix2 r j) : EReal) = Ideal.tanh ((kRow u p mu w0 w2p a0 a2p g2 kk ka rk lnw lnb r).xa ⟨1536 + j.val, by omega⟩) := by
  pointwise [k0_pay20]
  rw [pay18_at u p mu w0 w2p a0 a2p g2 kk ka rk lnw lnb r]

theorem pay21_at (h7 : ∀ (j : Fin 64) (d : Fin 512), (a2p (ix2 ⟨j.val, by omega⟩ d) : EReal) = 0) (d : Fin 512) :
    (k0_pay21 (F := Ideal) (k0_pay8 a2p) (k0_pay18 u p mu)) (ix2 r d) = ∑ j : Fin 64, (kRow u p mu w0 w2p a0 a2p g2 kk ka rk lnw lnb r).xa ⟨1600 + j.val, by omega⟩ * (kRow u p mu w0 w2p a0 a2p g2 kk ka rk lnw lnb r).a2 j d := by
  pointwise [k0_pay21]
  simp only [pay8_at, pay18_at u p mu w0 w2p a0 a2p g2 kk ka rk lnw lnb r]
  refine (sum_high (fun x => (kRow u p mu w0 w2p a0 a2p g2 kk ka rk lnw lnb r).xa ⟨1536 + x.val, by omega⟩) (fun x => a2p (ix2 x d)) (fun j => h7 j d)).trans (Finset.sum_congr rfl fun j _ => ?_)
  exact congrArg (fun z => (kRow u p mu w0 w2p a0 a2p g2 kk ka rk lnw lnb r).xa z * _) (Fin.ext (by show 1536 + (64 + j.val) = 1600 + j.val; omega))

theorem pay22_at (d : Fin 512) :
    (k0_pay22 (F := Ideal) (k0_pay9 g2) (k0_pay19 u p mu)) (ix2 r d) = (kRow u p mu w0 w2p a0 a2p g2 kk ka rk lnw lnb r).g d := by
  pointwise [k0_pay22]
  simp only [pay9_at, pay19_at u p mu w0 w2p a0 a2p g2 kk ka rk lnw lnb r]
  rfl

theorem pay23_at (d : Fin 512) :
    (k0_pay23 (F := Ideal) (k0_pay10 kk) (k0_pay16 (F := Ideal) u p mu)) (ix2 r d) = (kRow u p mu w0 w2p a0 a2p g2 kk ka rk lnw lnb r).kx d := by
  pointwise [k0_pay23]
  rw [pay10_at, pay16_at u p mu w0 w2p a0 a2p g2 kk ka rk lnw lnb r]
  rfl

theorem pay24_at (h14 : ∀ x l : Fin 128, (hb (ix2 x l) : EReal) = if x.val / 64 = l.val / 64 then 1 else 0) (d : Fin 512) :
    (k0_pay24 (F := Ideal) (k0_pay10 kk) (k0_pay13 hb) (k0_pay16 (F := Ideal) u p mu)) (ix2 r d) = hs (fun e => (kRow u p mu w0 w2p a0 a2p g2 kk ka rk lnw lnb r).kx e * (kRow u p mu w0 w2p a0 a2p g2 kk ka rk lnw lnb r).kx e) d := by
  pointwise [k0_pay24]
  simp only [pay23_at u p mu w0 w2p a0 a2p g2 kk ka rk lnw lnb r, pay13_at]
  exact hs_groups (fun e => (kRow u p mu w0 w2p a0 a2p g2 kk ka rk lnw lnb r).kx e * (kRow u p mu w0 w2p a0 a2p g2 kk ka rk lnw lnb r).kx e) (fun x l => hb (ix2 x l)) h14 d

theorem pay27_at (h7 : ∀ (j : Fin 64) (d : Fin 512), (a2p (ix2 ⟨j.val, by omega⟩ d) : EReal) = 0) (d : Fin 512) :
    k0_pay27 (F := Ideal) (k0_pay7 a0) (k0_pay21 (F := Ideal) (k0_pay8 a2p) (k0_pay18 u p mu)) (ix2 r d) = (kRow u p mu w0 w2p a0 a2p g2 kk ka rk lnw lnb r).a d := by
  pointwise [k0_pay27]
  rw [pay7_at, pay21_at u p mu w0 w2p a0 a2p g2 kk ka rk lnw lnb r h7]
  rfl

theorem pay28_at (h14 : ∀ x l : Fin 128, (hb (ix2 x l) : EReal) = if x.val / 64 = l.val / 64 then 1 else 0) (d : Fin 512) :
    k0_pay28 (F := Ideal) (k0_pay23 (F := Ideal) (k0_pay10 kk) (k0_pay16 (F := Ideal) u p mu)) (k0_pay24 (F := Ideal) (k0_pay10 kk) (k0_pay13 hb) (k0_pay16 (F := Ideal) u p mu)) (ix2 r d) = (kRow u p mu w0 w2p a0 a2p g2 kk ka rk lnw lnb r).kn d := by
  pointwise [k0_pay28]
  rw [pay23_at u p mu w0 w2p a0 a2p g2 kk ka rk lnw lnb r, pay24_at u p mu w0 w2p a0 a2p g2 kk ka rk lnw lnb hb r h14]
  rfl

theorem pay29_at (h7 : ∀ (j : Fin 64) (d : Fin 512), (a2p (ix2 ⟨j.val, by omega⟩ d) : EReal) = 0) (d : Fin 512) :
    k0_pay29 (F := Ideal) (k0_pay7 a0) (k0_pay11 ka) (k0_pay16 (F := Ideal) u p mu) (k0_pay21 (F := Ideal) (k0_pay8 a2p) (k0_pay18 u p mu)) (ix2 r d) = (kRow u p mu w0 w2p a0 a2p g2 kk ka rk lnw lnb r).k2 d := by
  pointwise [k0_pay29]
  rw [pay27_at u p mu w0 w2p a0 a2p g2 kk ka rk lnw lnb r h7, pay11_at, pay16_at u p mu w0 w2p a0 a2p g2 kk ka rk lnw lnb r]
  rfl

theorem pay30_at (h7 : ∀ (j : Fin 64) (d : Fin 512), (a2p (ix2 ⟨j.val, by omega⟩ d) : EReal) = 0) (h14 : ∀ x l : Fin 128, (hb (ix2 x l) : EReal) = if x.val / 64 = l.val / 64 then 1 else 0) (d : Fin 512) :
    k0_pay30 (F := Ideal) (k0_pay7 a0) (k0_pay11 ka) (k0_pay12 rk) (k0_pay13 hb) (k0_pay15 (F := Ideal) u p mu) (k0_pay16 (F := Ideal) u p mu) (k0_pay17 (F := Ideal) u p mu) (k0_pay21 (F := Ideal) (k0_pay8 a2p) (k0_pay18 u p mu)) (ix2 r d) = (kRow u p mu w0 w2p a0 a2p g2 kk ka rk lnw lnb r).bonus d := by
  pointwise [k0_pay30]
  simp only [pay15_at u p mu w0 w2p a0 a2p g2 kk ka rk lnw lnb r, pay29_at u p mu w0 w2p a0 a2p g2 kk ka rk lnw lnb r h7, pay12_at, pay13_at, pay17_at u p mu w0 w2p a0 a2p g2 kk ka rk lnw lnb r]
  exact congrArg (· * (kRow u p mu w0 w2p a0 a2p g2 kk ka rk lnw lnb r).v d) (hs_groups (fun e => (kRow u p mu w0 w2p a0 a2p g2 kk ka rk lnw lnb r).r e * (kRow u p mu w0 w2p a0 a2p g2 kk ka rk lnw lnb r).k2 e * (kRow u p mu w0 w2p a0 a2p g2 kk ka rk lnw lnb r).rk e) (fun x l => hb (ix2 x l)) h14 d)

theorem pay31_at (h5 : ∀ (j : Fin 64) (d : Fin 512), (w2p (ix2 ⟨64 + j.val, by omega⟩ d) : EReal) = 0) (d : Fin 512) :
    k0_pay31 (F := Ideal) (k0_pay25 (F := Ideal) (k0_pay5 w0) (k0_pay6 w2p) (k0_pay20 u p mu) (constant S128x512 .f32 0x00000000#32)) (k0_pay26 (F := Ideal)) (ix2 r d) = (kRow u p mu w0 w2p a0 a2p g2 kk ka rk lnw lnb r).decay d := by
  pointwise [k0_pay31, k0_pay25, k0_pay26]
  simp only [pay5_at, pay6_at, pay20_at u p mu w0 w2p a0 a2p g2 kk ka rk lnw lnb r]
  have e := sum_low (fun x => Ideal.tanh ((kRow u p mu w0 w2p a0 a2p g2 kk ka rk lnw lnb r).xa ⟨1536 + x.val, by omega⟩)) (fun x => w2p (ix2 x d)) (fun j => h5 j d)
  rw [e]
  rfl

theorem ld_a (v : Vec Ideal S128x1792 .f32) : View.ld (Val := Elt Ideal) (e' := .f32) v (Rect.unit (s := S128x1792) ![0, 0] S128x1792.size inb_S128x1792_S128x1792_0_0) = v := View.ld_unit_lit _ _ (by decide)
theorem ld_b (v : Vec Ideal S1x1792 .f32) : View.ld (Val := Elt Ideal) (e' := .f32) v (Rect.unit (s := S1x1792) ![0, 0] S1x1792.size inb_S1x1792_S1x1792_0_0) = v := View.ld_unit_lit _ _ (by decide)
theorem ld_c (v : Vec Ideal S1x512 .f32) : View.ld (Val := Elt Ideal) (e' := .f32) v (Rect.unit (s := S1x512) ![0, 0] S1x512.size inb_S1x512_S1x512_0_0) = v := View.ld_unit_lit _ _ (by decide)
theorem ld_d (v : Vec Ideal S128x512 .bf16) : View.ld (Val := Elt Ideal) (e' := .bf16) v (Rect.unit (s := S128x512) ![0, 0] S128x512.size inb_S128x512_S128x512_0_0) = v := View.ld_unit_lit _ _ (by decide)
theorem ld_e (v : Vec Ideal S128x128 .bf16) : View.ld (Val := Elt Ideal) (e' := .bf16) v (Rect.unit (s := S128x128) ![0, 0] S128x128.size inb_S128x128_S128x128_0_0) = v := View.ld_unit_lit _ _ (by decide)
theorem ld_f (v : Vec Ideal S512x128 .f32) : View.ld (Val := Elt Ideal) (e' := .f32) v (Rect.unit (s := S512x128) ![0, 0] S512x128.size inb_S512x128_S512x128_0_0) = v := View.ld_unit_lit _ _ (by decide)
theorem ld_g (v : Vec Ideal S128x512 .f32) : View.ld (Val := Elt Ideal) (e' := .f32) v (Rect.unit (s := S128x512) ![0, 0] S128x512.size inb_S128x512_S128x512_0_0) = v := View.ld_unit_lit _ _ (by decide)

theorem trOf_eq  :
    trOf (F := Ideal) u p mu w0 w2p a0 a2p g2 kk ka rk hb = slab (k0_pay34 (F := Ideal) (k0_pay33 (k0_pay23 (F := Ideal) (k0_pay10 kk) (k0_pay16 (F := Ideal) u p mu)) (k0_pay24 (F := Ideal) (k0_pay10 kk) (k0_pay13 hb) (k0_pay16 (F := Ideal) u p mu)))) (k0_pay35 (F := Ideal) (k0_pay31 (k0_pay25 (F := Ideal) (k0_pay5 w0) (k0_pay6 w2p) (k0_pay20 u p mu) (constant S128x512 .f32 0x00000000#32)) (k0_pay26 (F := Ideal)))) (k0_pay36 (F := Ideal) (k0_pay32 (k0_pay7 a0) (k0_pay21 (F := Ideal) (k0_pay8 a2p) (k0_pay18 u p mu)) (k0_pay23 (F := Ideal) (k0_pay10 kk) (k0_pay16 (F := Ideal) u p mu)) (k0_pay24 (F := Ideal) (k0_pay10 kk) (k0_pay13 hb) (k0_pay16 (F := Ideal) u p mu)))) (k0_pay37 (F := Ideal) (k0_pay29 (k0_pay7 a0) (k0_pay11 ka) (k0_pay16 (F := Ideal) u p mu) (k0_pay21 (F := Ideal) (k0_pay8 a2p) (k0_pay18 u p mu)))) (k0_pay38 (F := Ideal) (k0_pay15 (F := Ideal) u p mu)) (k0_pay39 (F := Ideal) (k0_pay17 (F := Ideal) u p mu)) := by
  unfold trOf
  rw [ld_a u, ld_a p, ld_b mu, ld_c w0, ld_d w2p, ld_c a0, ld_d a2p, ld_d g2, ld_c kk, ld_c ka, ld_c rk, ld_e hb]

theorem tr0 (h14 : ∀ x l : Fin 128, (hb (ix2 x l) : EReal) = if x.val / 64 = l.val / 64 then 1 else 0) (d : Fin 512) :
    (trOf (F := Ideal) u p mu w0 w2p a0 a2p g2 kk ka rk hb (ix3 0 d r) : EReal) = 0 - (kRow u p mu w0 w2p a0 a2p g2 kk ka rk lnw lnb r).kn d := by
  rw [trOf_eq]
  show (k0_pay34 (F := Ideal) (k0_pay33 (k0_pay23 (F := Ideal) (k0_pay10 kk) (k0_pay16 (F := Ideal) u p mu)) (k0_pay24 (F := Ideal) (k0_pay10 kk) (k0_pay13 hb) (k0_pay16 (F := Ideal) u p mu))) (ix3 0 d r) : EReal) = _
  pointwise [k0_pay34, k0_pay33]
  rw [pay28_at u p mu w0 w2p a0 a2p g2 kk ka rk lnw lnb hb r h14]

theorem tr1 (h5 : ∀ (j : Fin 64) (d : Fin 512), (w2p (ix2 ⟨64 + j.val, by omega⟩ d) : EReal) = 0) (d : Fin 512) :
    (trOf (F := Ideal) u p mu w0 w2p a0 a2p g2 kk ka rk hb (ix3 1 d r) : EReal) = (kRow u p mu w0 w2p a0 a2p g2 kk ka rk lnw lnb r).decay d := by
  rw [trOf_eq]
  show (k0_pay35 (F := Ideal) (k0_pay31 (k0_pay25 (F := Ideal) (k0_pay5 w0) (k0_pay6 w2p) (k0_pay20 u p mu) (constant S128x512 .f32 0x00000000#32)) (k0_pay26 (F := Ideal))) (ix3 0 d r) : EReal) = _
  pointwise [k0_pay35]
  exact pay31_at u p mu w0 w2p a0 a2p g2 kk ka rk lnw lnb r h5 d

theorem tr2 (h7 : ∀ (j : Fin 64) (d : Fin 512), (a2p (ix2 ⟨j.val, by omega⟩ d) : EReal) = 0) (h14 : ∀ x l : Fin 128, (hb (ix2 x l) : EReal) = if x.val / 64 = l.val / 64 then 1 else 0) (d : Fin 512) :
    (trOf (F := Ideal) u p mu w0 w2p a0 a2p g2 kk ka rk hb (ix3 2 d r) : EReal) = (kRow u p mu w0 w2p a0 a2p g2 kk ka rk lnw lnb r).kn d * (kRow u p mu w0 w2p a0 a2p g2 kk ka rk lnw lnb r).a d := by
  rw [trOf_eq]
  show (k0_pay36 (F := Ideal) (k0_pay32 (k0_pay7 a0) (k0_pay21 (F := Ideal) (k0_pay8 a2p) (k0_pay18 u p mu)) (k0_pay23 (F := Ideal) (k0_pay10 kk) (k0_pay16 (F := Ideal) u p mu)) (k0_pay24 (F := Ideal) (k0_pay10 kk) (k0_pay13 hb) (k0_pay16 (F := Ideal) u p mu))) (ix3 0 d r) : EReal) = _
  pointwise [k0_pay36, k0_pay32]
  rw [pay28_at u p mu w0 w2p a0 a2p g2 kk ka rk lnw lnb hb r h14, pay27_at u p mu w0 w2p a0 a2p g2 kk ka rk lnw lnb r h7]

theorem tr3 (h7 : ∀ (j : Fin 64) (d : Fin 512), (a2p (ix2 ⟨j.val, by omega⟩ d) : EReal) = 0) (d : Fin 512) :
    (trOf (F := Ideal) u p mu w0 w2p a0 a2p g2 kk ka rk hb (ix3 3 d r) : EReal) = (kRow u p mu w0 w2p a0 a2p g2 kk ka rk lnw lnb r).k2 d := by
  rw [trOf_eq]
  show (k0_pay37 (F := Ideal) (k0_pay29 (k0_pay7 a0) (k0_pay11 ka) (k0_pay16 (F := Ideal) u p mu) (k0_pay21 (F := Ideal) (k0_pay8 a2p) (k0_pay18 u p mu))) (ix3 0 d r) : EReal) = _
  pointwise [k0_pay37]
  exact pay29_at u p mu w0 w2p a0 a2p g2 kk ka rk lnw lnb r h7 d

theorem tr4  (d : Fin 512) :
    (trOf (F := Ideal) u p mu w0 w2p a0 a2p g2 kk ka rk hb (ix3 4 d r) : EReal) = (kRow u p mu w0 w2p a0 a2p g2 kk ka rk lnw lnb r).r d := by
  rw [trOf_eq]
  show (k0_pay38 (F := Ideal) (k0_pay15 (F := Ideal) u p mu) (ix3 0 d r) : EReal) = _
  pointwise [k0_pay38]
  exact pay15_at u p mu w0 w2p a0 a2p g2 kk ka rk lnw lnb r d

theorem tr5  (d : Fin 512) :
    (trOf (F := Ideal) u p mu w0 w2p a0 a2p g2 kk ka rk hb (ix3 5 d r) : EReal) = (kRow u p mu w0 w2p a0 a2p g2 kk ka rk lnw lnb r).v d := by
  rw [trOf_eq]
  show (k0_pay39 (F := Ideal) (k0_pay17 (F := Ideal) u p mu) (ix3 0 d r) : EReal) = _
  pointwise [k0_pay39]
  exact pay17_at u p mu w0 w2p a0 a2p g2 kk ka rk lnw lnb r d

theorem gOf_eq  :
    gOf (F := Ideal) u p mu w0 w2p a0 a2p g2 kk ka rk hb = k0_pay40 (F := Ideal) (k0_pay22 (F := Ideal) (k0_pay9 g2) (k0_pay19 u p mu)) := by
  unfold gOf
  rw [ld_a u, ld_a p, ld_b mu, ld_c w0, ld_d w2p, ld_c a0, ld_d a2p, ld_d g2, ld_c kk, ld_c ka, ld_c rk, ld_e hb]

theorem bonusOf_eq  :
    bonusOf (F := Ideal) u p mu w0 w2p a0 a2p g2 kk ka rk hb = k0_pay41 (F := Ideal) (k0_pay30 (F := Ideal) (k0_pay7 a0) (k0_pay11 ka) (k0_pay12 rk) (k0_pay13 hb) (k0_pay15 (F := Ideal) u p mu) (k0_pay16 (F := Ideal) u p mu) (k0_pay17 (F := Ideal) u p mu) (k0_pay21 (F := Ideal) (k0_pay8 a2p) (k0_pay18 u p mu))) := by
  unfold bonusOf
  rw [ld_a u, ld_a p, ld_b mu, ld_c w0, ld_d w2p, ld_c a0, ld_d a2p, ld_d g2, ld_c kk, ld_c ka, ld_c rk, ld_e hb]

theorem oaOf_eq (y : Vec Ideal S512x128 .f32) (b g : Vec Ideal S128x512 .f32) :
    oaOf (F := Ideal) y b g lnw lnb hb = k0_pay4 (F := Ideal) b g (k0_pay42 lnw) (k0_pay43 lnb) (k0_pay45 y hb) (k0_pay47 y hb) (k0_pay48 y hb) (k0_pay49 y hb) (k0_pay50 y hb) := by
  unfold oaOf
  rw [ld_f y, ld_g b, ld_g g, ld_c lnw, ld_c lnb, ld_e hb]

theorem gOf_at (d : Fin 512) :
    (gOf (F := Ideal) u p mu w0 w2p a0 a2p g2 kk ka rk hb (ix2 r d) : EReal) = (kRow u p mu w0 w2p a0 a2p g2 kk ka rk lnw lnb r).g d := by
  rw [gOf_eq]
  pointwise [k0_pay40]
  exact pay22_at u p mu w0 w2p a0 a2p g2 kk ka rk lnw lnb r d

theorem bonusOf_at (h7 : ∀ (j : Fin 64) (d : Fin 512), (a2p (ix2 ⟨j.val, by omega⟩ d) : EReal) = 0) (h14 : ∀ x l : Fin 128, (hb (ix2 x l) : EReal) = if x.val / 64 = l.val / 64 then 1 else 0) (d : Fin 512) :
    (bonusOf (F := Ideal) u p mu w0 w2p a0 a2p g2 kk ka rk hb (ix2 r d) : EReal) = (kRow u p mu w0 w2p a0 a2p g2 kk ka rk lnw lnb r).bonus d := by
  rw [bonusOf_eq]
  pointwise [k0_pay41]
  exact pay30_at u p mu w0 w2p a0 a2p g2 kk ka rk lnw lnb hb r h7 h14 d

theorem pay45_at (y : Vec Ideal S512x128 .f32) (h14 : ∀ x l : Fin 128, (hb (ix2 x l) : EReal) = if x.val / 64 = l.val / 64 then 1 else 0) (d : Fin 512) :
    k0_pay45 (F := Ideal) y hb (ix2 r d) = Row.dist (fun e => y (ix2 e r)) d := by
  pointwise [k0_pay45]
  simp only [pay44_at]
  have e := hs_groups (fun e => y (ix2 e r)) (fun x l => hb (ix2 x l)) h14 d
  rw [e, mul_inv64]
  rfl

theorem oaOf_at (y : Vec Ideal S512x128 .f32) (b g : Vec Ideal S128x512 .f32) (h14 : ∀ x l : Fin 128, (hb (ix2 x l) : EReal) = if x.val / 64 = l.val / 64 then 1 else 0) (hbo : ∀ d : Fin 512, (b (ix2 r d) : EReal) = (kRow u p mu w0 w2p a0 a2p g2 kk ka rk lnw lnb r).bonus d) (hg : ∀ d : Fin 512, (g (ix2 r d) : EReal) = (kRow u p mu w0 w2p a0 a2p g2 kk ka rk lnw lnb r).g d) (d : Fin 512) :
    (oaOf (F := Ideal) y b g lnw lnb hb (ix2 r d) : EReal) = (kRow u p mu w0 w2p a0 a2p g2 kk ka rk lnw lnb r).close (fun e => y (ix2 e r)) d := by
  rw [oaOf_eq]
  pointwise [k0_pay4, k0_pay47, k0_pay48, k0_pay49, k0_pay50, k0_pay46]
  simp only [pay44_at, pay42_at, pay43_at, pay45_at hb r y h14, hbo, hg]
  have e := hs_groups (fun e => Row.dist (fun e => y (ix2 e r)) e * Row.dist (fun e => y (ix2 e r)) e) (fun x l => hb (ix2 x l)) h14 d
  rw [e, mul_inv64]
  rfl

end Cert.KernelRwkvIdeal.Rows

end
-- ==== Proof.Rwkv.Args.lean ====
/- The blocks that the decode recurrence reads, element by element from its arguments. -/
module

public import proofs.«01_k».proof.Proof.Rwkv.Math
public import proofs.«01_k».proof.Proof.Gen.KernelRwkvIdeal.Frame
public import Idealize.ShloMosaic.Lib.Pointwise
public import Idealize.ShloMosaic.Lib.Pipeline.ValueKit
public import Idealize.ShloMosaic.Lib.StableHlo.ReadAt

@[expose] public section

set_option maxRecDepth 16384

noncomputable section

namespace Cert.KernelRwkvIdeal.Rows

open Cert.KernelRwkvIdeal Cert.KernelRwkvIdeal.Gen Idealize.ShloMosaic Idealize.ShloMosaic.TcCoe Cert.RwkvRow Idealize.SL.Sem

/-- Where each window's block lies at a grid point: the state's blocks go by heads, all else stays. -/
theorem idx : ∀ t : Fin cfg0.N, win0_0.index t = ![0, 0] ∧ win0_1.index t = ![0, 0] ∧ win0_2.index t = ![t.val, 0, 0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![t.val, 0, 0, 0] :=
  (by decide +kernel : ∀ t : Fin grid0.N, win0_0.index t = ![0, 0] ∧ win0_1.index t = ![0, 0] ∧ win0_2.index t = ![t.val, 0, 0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![t.val, 0, 0, 0])

variable (m : (ℓ : Loc nD τ sig) → Buf (Elt Ideal) ℓ) (c : Dev nD) (t : Fin cfg0.N)

theorem V34 (r : Fin 128) (j : Fin 1792) : (V m c main_v34 (ix2 r j) : EReal) = m (c.tc.loc main_arg0) (ix3 r 0 j) := by
  unfold V
  after_reads_at
theorem V36 (r : Fin 128) (j : Fin 1792) : (V m c main_v36 (ix2 r j) : EReal) = m (c.tc.loc main_arg1) (ix4 0 r 0 j) := by
  unfold V
  after_reads_at
theorem V38 (h : Fin 8) (i j : Fin 64) (r : Fin 128) : (V m c main_v38 (ix4 h i j r) : EReal) = m (c.tc.loc main_arg2) (ix5 0 r h i j) := by
  unfold V
  after_reads_at
theorem V17 (j : Fin 1792) : (V m c main_v17 (ix2 0 j) : EReal) = m (c.tc.loc main_arg3) (ix2 0 j) := by
  unfold V
  after_reads_at
theorem V19 (d : Fin 512) : (V m c main_v19 (ix2 0 d) : EReal) = m (c.tc.loc main_arg4) (ix2 0 d) := by
  unfold V
  after_reads_at
theorem V21 (d : Fin 512) : (V m c main_v21 (ix2 0 d) : EReal) = m (c.tc.loc main_arg6) (ix2 0 d) := by
  unfold V
  after_reads_at
theorem V23 (j : Fin 128) (d : Fin 512) : (V m c main_v23 (ix2 j d) : EReal) = m (c.tc.loc main_arg8) (ix3 0 j d) := by
  unfold V
  after_reads_at
theorem V25 (d : Fin 512) : (V m c main_v25 (ix2 0 d) : EReal) = m (c.tc.loc main_arg9) (ix2 0 d) := by
  unfold V
  after_reads_at
theorem V27 (d : Fin 512) : (V m c main_v27 (ix2 0 d) : EReal) = m (c.tc.loc main_arg10) (ix2 0 d) := by
  unfold V
  after_reads_at
theorem V29 (d : Fin 512) : (V m c main_v29 (ix2 0 d) : EReal) = m (c.tc.loc main_arg11) (ix3 0 ⟨d.val / 64, by omega⟩ ⟨d.val % 64, by omega⟩) := by
  unfold V
  after_reads_at
theorem V31 (d : Fin 512) : (V m c main_v31 (ix2 0 d) : EReal) = m (c.tc.loc main_arg12) (ix2 0 d) := by
  unfold V
  after_reads_at
theorem V33 (d : Fin 512) : (V m c main_v33 (ix2 0 d) : EReal) = m (c.tc.loc main_arg13) (ix2 0 d) := by
  unfold V
  after_reads_at
theorem V3lo (j : Fin 64) (d : Fin 512) : (V m c main_v3 (ix2 ⟨j.val, by omega⟩ d) : EReal) = m (c.tc.loc main_arg5) (ix3 0 j d) := by
  unfold V
  after_reads_at
  after_reads_at
theorem V3hi (j : Fin 64) (d : Fin 512) : (V m c main_v3 (ix2 ⟨64 + j.val, by omega⟩ d) : EReal) = (0 : EReal) := by
  unfold V
  after_reads_at
  after_reads_at
theorem V7lo (j : Fin 64) (d : Fin 512) : (V m c main_v7 (ix2 ⟨j.val, by omega⟩ d) : EReal) = (0 : EReal) := by
  unfold V
  after_reads_at
  after_reads_at
theorem V7hi (j : Fin 64) (d : Fin 512) : (V m c main_v7 (ix2 ⟨64 + j.val, by omega⟩ d) : EReal) = m (c.tc.loc main_arg7) (ix3 0 j d) := by
  unfold V
  after_reads_at
  after_reads_at

/-- The floor of a lane over 64, as the host's integer operations compute it. -/
def fd (x : Fin 128) : BitVec 32 :=
  Scalar.select
    (IntOp.andi
      (IntOp.cmpi .ne
        (if BitVec.ofNat 32 x.val = 0 then 0 else if (BitVec.ofNat 32 x.val).msb = true then -1 else 1)
        (if (64#32 : BitVec 32) = 0 then 0 else if BitVec.msb 64#32 = true then -1 else 1 : BitVec 32))
      (IntOp.cmpi .ne (IntOp.remsi .host (BitVec.ofNat 32 x.val) 64#32) 0#32))
    (IntOp.subi (IntOp.divsi .host (BitVec.ofNat 32 x.val) 64#32) 1#32)
    (IntOp.divsi .host (BitVec.ofNat 32 x.val) 64#32)

theorem fd_eq : ∀ x : Fin 128, fd x = if x.val / 64 = 0 then 0#32 else 1#32 := by decide +kernel

theorem V15 (x l : Fin 128) : (V m c main_v15 (ix2 x l) : EReal) = if x.val / 64 = l.val / 64 then (1 : EReal) else 0 := by
  unfold V
  after_reads_at
  change (FloatOps.uitofp (F := Ideal) .bf16 (IntOp.cmpi .eq (fd x) (fd l)) : EReal) = _
  have hx : x.val / 64 = 0 ∨ x.val / 64 = 1 := by omega
  have hl : l.val / 64 = 0 ∨ l.val / 64 = 1 := by omega
  rw [fd_eq x, fd_eq l]
  rcases hx with hx | hx <;> rcases hl with hl | hl <;> simp only [hx, hl] <;> norm_num [IntOp.cmpi, FloatOps.uitofp] <;> rfl

theorem ib0 (r : Fin 128) (j : Fin 1792) : (iblk m c 0 t (ix2 r j) : EReal) = m (c.tc.loc main_arg0) (ix3 r 0 j) := by
  have e : (iblk m c 0 t (ix2 r j) : EReal) = V m c main_v34 (ix2 r j) := by blk_ext [iblk, idx t]
  exact e.trans (V34 m c r j)
theorem ib1 (r : Fin 128) (j : Fin 1792) : (iblk m c 1 t (ix2 r j) : EReal) = m (c.tc.loc main_arg1) (ix4 0 r 0 j) := by
  have e : (iblk m c 1 t (ix2 r j) : EReal) = V m c main_v36 (ix2 r j) := by blk_ext [iblk, idx t]
  exact e.trans (V36 m c r j)
theorem ib2 (i j : Fin 64) (r : Fin 128) : (iblk m c 2 t (ix4 0 i j r) : EReal) = m (c.tc.loc main_arg2) (ix5 0 r ⟨t.val, by have : t.val < 8 := t.isLt; omega⟩ i j) := by
  have e : (iblk m c 2 t (ix4 0 i j r) : EReal) = V m c main_v38 (ix4 ⟨t.val, by have : t.val < 8 := t.isLt; omega⟩ i j r) := by blk_ext [iblk, idx t]
  exact e.trans (V38 m c _ i j r)
theorem ib3 (j : Fin 1792) : (iblk m c 3 t (ix2 0 j) : EReal) = m (c.tc.loc main_arg3) (ix2 0 j) := by
  have e : (iblk m c 3 t (ix2 0 j) : EReal) = V m c main_v17 (ix2 0 j) := by blk_ext [iblk, idx t]
  exact e.trans (V17 m c j)
theorem ib4 (d : Fin 512) : (iblk m c 4 t (ix2 0 d) : EReal) = m (c.tc.loc main_arg4) (ix2 0 d) := by
  have e : (iblk m c 4 t (ix2 0 d) : EReal) = V m c main_v19 (ix2 0 d) := by blk_ext [iblk, idx t]
  exact e.trans (V19 m c d)
theorem ib6 (d : Fin 512) : (iblk m c 6 t (ix2 0 d) : EReal) = m (c.tc.loc main_arg6) (ix2 0 d) := by
  have e : (iblk m c 6 t (ix2 0 d) : EReal) = V m c main_v21 (ix2 0 d) := by blk_ext [iblk, idx t]
  exact e.trans (V21 m c d)
theorem ib8 (j : Fin 128) (d : Fin 512) : (iblk m c 8 t (ix2 j d) : EReal) = m (c.tc.loc main_arg8) (ix3 0 j d) := by
  have e : (iblk m c 8 t (ix2 j d) : EReal) = V m c main_v23 (ix2 j d) := by blk_ext [iblk, idx t]
  exact e.trans (V23 m c j d)
theorem ib9 (d : Fin 512) : (iblk m c 9 t (ix2 0 d) : EReal) = m (c.tc.loc main_arg9) (ix2 0 d) := by
  have e : (iblk m c 9 t (ix2 0 d) : EReal) = V m c main_v25 (ix2 0 d) := by blk_ext [iblk, idx t]
  exact e.trans (V25 m c d)
theorem ib10 (d : Fin 512) : (iblk m c 10 t (ix2 0 d) : EReal) = m (c.tc.loc main_arg10) (ix2 0 d) := by
  have e : (iblk m c 10 t (ix2 0 d) : EReal) = V m c main_v27 (ix2 0 d) := by blk_ext [iblk, idx t]
  exact e.trans (V27 m c d)
theorem ib11 (d : Fin 512) : (iblk m c 11 t (ix2 0 d) : EReal) = m (c.tc.loc main_arg11) (ix3 0 ⟨d.val / 64, by omega⟩ ⟨d.val % 64, by omega⟩) := by
  have e : (iblk m c 11 t (ix2 0 d) : EReal) = V m c main_v29 (ix2 0 d) := by blk_ext [iblk, idx t]
  exact e.trans (V29 m c d)
theorem ib12 (d : Fin 512) : (iblk m c 12 t (ix2 0 d) : EReal) = m (c.tc.loc main_arg12) (ix2 0 d) := by
  have e : (iblk m c 12 t (ix2 0 d) : EReal) = V m c main_v31 (ix2 0 d) := by blk_ext [iblk, idx t]
  exact e.trans (V31 m c d)
theorem ib13 (d : Fin 512) : (iblk m c 13 t (ix2 0 d) : EReal) = m (c.tc.loc main_arg13) (ix2 0 d) := by
  have e : (iblk m c 13 t (ix2 0 d) : EReal) = V m c main_v33 (ix2 0 d) := by blk_ext [iblk, idx t]
  exact e.trans (V33 m c d)
theorem ib5 (j : Fin 128) (d : Fin 512) : (iblk m c 5 t (ix2 j d) : EReal) = V m c main_v3 (ix2 j d) := by
  blk_ext [iblk, idx t]
theorem ib7 (j : Fin 128) (d : Fin 512) : (iblk m c 7 t (ix2 j d) : EReal) = V m c main_v7 (ix2 j d) := by
  blk_ext [iblk, idx t]
theorem ib14 (j : Fin 128) (d : Fin 128) : (iblk m c 14 t (ix2 j d) : EReal) = V m c main_v15 (ix2 j d) := by
  blk_ext [iblk, idx t]

end Cert.KernelRwkvIdeal.Rows

end
-- ==== Proof.Rwkv.Heads.lean ====
/- What the carried buffers hold and what the heads give, element by element, as the step of the arguments. -/
module

public import proofs.«01_k».proof.Proof.Rwkv.Spec
public import proofs.«01_k».proof.Proof.Rwkv.Vals
public import proofs.«01_k».proof.Proof.Rwkv.Body
public import proofs.«01_k».proof.Proof.Rwkv.Args

@[expose] public section

set_option maxRecDepth 16384

noncomputable section

namespace Cert.KernelRwkvIdeal.Rows

open Cert.KernelRwkvIdeal Cert.KernelRwkvIdeal.Gen Idealize.ShloMosaic Idealize.ShloMosaic.TcCoe Cert.RwkvRow Idealize.SL.Sem

variable (m : (ℓ : Loc nD τ sig) → Buf (Elt Ideal) ℓ) (c : Dev nD) (t : Fin cfg0.N)

/-- What sequence `r`'s step reads. -/
abbrev mRow (r : Fin 128) : Row := rowOf (m (c.tc.loc main_arg0)) (m (c.tc.loc main_arg1)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) r

theorem kRow_eq (r : Fin 128) : kRow (iblk m c 0 t) (iblk m c 1 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r = mRow m c r := by
  have e0 : (fun j => iblk m c 0 t (ix2 r j) : Fin 1792 → EReal) = fun j => m (c.tc.loc main_arg0) (ix3 r 0 j) := funext fun j => ib0 m c t r j
  have e1 : (fun j => iblk m c 1 t (ix2 r j) : Fin 1792 → EReal) = fun j => m (c.tc.loc main_arg1) (ix4 0 r 0 j) := funext fun j => ib1 m c t r j
  have e3 : (fun j => iblk m c 3 t (ix2 0 j) : Fin 1792 → EReal) = fun j => m (c.tc.loc main_arg3) (ix2 0 j) := funext fun j => ib3 m c t j
  have e4 : (fun d => iblk m c 4 t (ix2 0 d) : Fin 512 → EReal) = fun d => m (c.tc.loc main_arg4) (ix2 0 d) := funext fun d => ib4 m c t d
  have e5 : (fun j d => iblk m c 5 t (ix2 ⟨j.val, by omega⟩ d) : Fin 64 → Fin 512 → EReal) = fun j d => m (c.tc.loc main_arg5) (ix3 0 j d) :=
    funext fun j => funext fun d => (ib5 m c t _ d).trans (V3lo m c j d)
  have e6 : (fun d => iblk m c 6 t (ix2 0 d) : Fin 512 → EReal) = fun d => m (c.tc.loc main_arg6) (ix2 0 d) := funext fun d => ib6 m c t d
  have e7 : (fun j d => iblk m c 7 t (ix2 ⟨64 + j.val, by omega⟩ d) : Fin 64 → Fin 512 → EReal) = fun j d => m (c.tc.loc main_arg7) (ix3 0 j d) :=
    funext fun j => funext fun d => (ib7 m c t _ d).trans (V7hi m c j d)
  have e8 : (fun j d => iblk m c 8 t (ix2 j d) : Fin 128 → Fin 512 → EReal) = fun j d => m (c.tc.loc main_arg8) (ix3 0 j d) :=
    funext fun j => funext fun d => ib8 m c t j d
  have e9 : (fun d => iblk m c 9 t (ix2 0 d) : Fin 512 → EReal) = fun d => m (c.tc.loc main_arg9) (ix2 0 d) := funext fun d => ib9 m c t d
  have e10 : (fun d => iblk m c 10 t (ix2 0 d) : Fin 512 → EReal) = fun d => m (c.tc.loc main_arg10) (ix2 0 d) := funext fun d => ib10 m c t d
  have e11 : (fun d => iblk m c 11 t (ix2 0 d) : Fin 512 → EReal) = fun d => m (c.tc.loc main_arg11) (ix3 0 ⟨d.val / 64, by omega⟩ ⟨d.val % 64, by omega⟩) :=
    funext fun d => ib11 m c t d
  have e12 : (fun d => iblk m c 12 t (ix2 0 d) : Fin 512 → EReal) = fun d => m (c.tc.loc main_arg12) (ix2 0 d) := funext fun d => ib12 m c t d
  have e13 : (fun d => iblk m c 13 t (ix2 0 d) : Fin 512 → EReal) = fun d => m (c.tc.loc main_arg13) (ix2 0 d) := funext fun d => ib13 m c t d
  have k : ∀ a0 b0 a1 b1 a3 b3 a4 b4 a5 b5 a6 b6 a7 b7 a8 b8 a9 b9 a10 b10 a11 b11 a12 b12 a13 b13, a0 = b0 → a1 = b1 → a3 = b3 → a4 = b4 → a5 = b5 → a6 = b6 →
      a7 = b7 → a8 = b8 → a9 = b9 → a10 = b10 → a11 = b11 → a12 = b12 → a13 = b13 →
      Row.mk a0 a1 a3 a4 a5 a6 a7 a8 a9 a10 a11 a12 a13 = Row.mk b0 b1 b3 b4 b5 b6 b7 b8 b9 b10 b11 b12 b13 := by
    rintro _ _ _ _ _ _ _ _ _ _ _ _ _ _ _ _ _ _ _ _ _ _ _ _ _ _ rfl rfl rfl rfl rfl rfl rfl rfl rfl rfl rfl rfl rfl; rfl
  exact k _ _ _ _ _ _ _ _ _ _ _ _ _ _ _ _ _ _ _ _ _ _ _ _ _ _ e0 e1 e3 e4 e5 e6 e7 e8 e9 e10 e11 e12 e13

theorem h14 (x l : Fin 128) : (iblk m c 14 t (ix2 x l) : EReal) = if x.val / 64 = l.val / 64 then (1 : EReal) else 0 :=
  (ib14 m c t x l).trans (V15 m c x l)
theorem h5 (j : Fin 64) (d : Fin 512) : (iblk m c 5 t (ix2 ⟨64 + j.val, by omega⟩ d) : EReal) = (0 : EReal) := (ib5 m c t _ d).trans (V3hi m c j d)
theorem h7 (j : Fin 64) (d : Fin 512) : (iblk m c 7 t (ix2 ⟨j.val, by omega⟩ d) : EReal) = (0 : EReal) := (ib7 m c t _ d).trans (V7lo m c j d)

theorem trC0 (d : Fin 512) (r : Fin 128) : (trC m c (ix3 0 d r) : EReal) = 0 - (mRow m c r).kn d := by
  rw [← kRow_eq m c t0_0 r]
  exact tr0 (iblk m c 0 t0_0) (iblk m c 1 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) r (h14 m c t0_0) d
theorem trC1 (d : Fin 512) (r : Fin 128) : (trC m c (ix3 1 d r) : EReal) = (mRow m c r).decay d := by
  rw [← kRow_eq m c t0_0 r]
  exact tr1 (iblk m c 0 t0_0) (iblk m c 1 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) r (h5 m c t0_0) d
theorem trC2 (d : Fin 512) (r : Fin 128) : (trC m c (ix3 2 d r) : EReal) = (mRow m c r).kn d * (mRow m c r).a d := by
  rw [← kRow_eq m c t0_0 r]
  exact tr2 (iblk m c 0 t0_0) (iblk m c 1 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) r (h7 m c t0_0) (h14 m c t0_0) d
theorem trC3 (d : Fin 512) (r : Fin 128) : (trC m c (ix3 3 d r) : EReal) = (mRow m c r).k2 d := by
  rw [← kRow_eq m c t0_0 r]
  exact tr3 (iblk m c 0 t0_0) (iblk m c 1 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) r (h7 m c t0_0) d
theorem trC4 (d : Fin 512) (r : Fin 128) : (trC m c (ix3 4 d r) : EReal) = (mRow m c r).r d := by
  rw [← kRow_eq m c t0_0 r]
  exact tr4 (iblk m c 0 t0_0) (iblk m c 1 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) r  d
theorem trC5 (d : Fin 512) (r : Fin 128) : (trC m c (ix3 5 d r) : EReal) = (mRow m c r).v d := by
  rw [← kRow_eq m c t0_0 r]
  exact tr5 (iblk m c 0 t0_0) (iblk m c 1 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) r  d
theorem gC_at (d : Fin 512) (r : Fin 128) : (gC m c (ix2 r d) : EReal) = (mRow m c r).g d := by
  rw [← kRow_eq m c t0_0 r]
  exact gOf_at (iblk m c 0 t0_0) (iblk m c 1 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) r d
theorem bonusC_at (d : Fin 512) (r : Fin 128) : (bonusC m c (ix2 r d) : EReal) = (mRow m c r).bonus d := by
  rw [← kRow_eq m c t0_0 r]
  exact bonusOf_at (iblk m c 0 t0_0) (iblk m c 1 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) r (h7 m c t0_0) (h14 m c t0_0) d

/-! ## The rows that a head loads -/

theorem off1_eq : ∀ t : Fin cfg0.N, k0_off1 (grid0.coords t) = ![0, 64 * t.val, 0] :=
  (by decide +kernel : ∀ t : Fin grid0.N, k0_off1 (grid0.coords t) = ![0, 64 * t.val, 0])
theorem off2_eq : ∀ t : Fin cfg0.N, k0_off2 (grid0.coords t) = ![1, 64 * t.val, 0] :=
  (by decide +kernel : ∀ t : Fin grid0.N, k0_off2 (grid0.coords t) = ![1, 64 * t.val, 0])
theorem off3_eq : ∀ t : Fin cfg0.N, k0_off3 (grid0.coords t) = ![2, 64 * t.val, 0] :=
  (by decide +kernel : ∀ t : Fin grid0.N, k0_off3 (grid0.coords t) = ![2, 64 * t.val, 0])
theorem off4_eq : ∀ t : Fin cfg0.N, k0_off4 (grid0.coords t) = ![3, 64 * t.val, 0] :=
  (by decide +kernel : ∀ t : Fin grid0.N, k0_off4 (grid0.coords t) = ![3, 64 * t.val, 0])
theorem off5_eq : ∀ t : Fin cfg0.N, k0_off5 (grid0.coords t) = ![4, 64 * t.val, 0] :=
  (by decide +kernel : ∀ t : Fin grid0.N, k0_off5 (grid0.coords t) = ![4, 64 * t.val, 0])
theorem off7_eq : ∀ (t : Fin cfg0.N) (k : Fin k0_t1_loop.trips), k0_off7 (grid0.coords t) k = ![5, 64 * t.val + k.val, 0] :=
  (by decide +kernel : ∀ (t : Fin grid0.N) (k : Fin k0_t1_loop.trips), k0_off7 (grid0.coords t) k = ![5, 64 * t.val + k.val, 0])

/-- Two indices of three axes that agree on each. -/
theorem ext3 {a b c : ℕ} (y : (⟨3, ![a, b, c]⟩ : Shape).Idx) (i : Fin a) (j : Fin b) (k : Fin c) (h0 : (y 0).val = i.val) (h1 : (y 1).val = j.val)
    (h2 : (y 2).val = k.val) : y = ix3 i j k := by
  rw [eq_ix3 y]
  exact congr (congr (congrArg ix3 (Fin.ext h0)) (Fin.ext h1)) (Fin.ext h2)

/-- The head of a point. -/
abbrev hd : Fin 8 := ⟨t.val, by have : t.val < 8 := t.isLt; omega⟩

theorem row1_at (tr : Vec Ideal S6x512x128 .f32) (j : Fin 64) (r : Fin 128) :
    row1 tr (grid0.coords t) (ix3 0 j r) = tr (ix3 0 (lane (hd t) j) r) := by
  refine congrArg tr (ext3 _ _ _ _ ?_ ?_ ?_)
  · show (k0_off1 (grid0.coords t)) 0 + 1 * 0 = 0; rw [off1_eq t]; rfl
  · show (k0_off1 (grid0.coords t)) 1 + 1 * j.val = 64 * t.val + j.val; rw [off1_eq t]; show 64 * t.val + 1 * j.val = _; omega
  · show (k0_off1 (grid0.coords t)) 2 + 1 * r.val = r.val; rw [off1_eq t]; show 0 + 1 * r.val = _; omega
theorem row2_at (tr : Vec Ideal S6x512x128 .f32) (j : Fin 64) (r : Fin 128) :
    row2 tr (grid0.coords t) (ix3 0 j r) = tr (ix3 1 (lane (hd t) j) r) := by
  refine congrArg tr (ext3 _ _ _ _ ?_ ?_ ?_)
  · show (k0_off2 (grid0.coords t)) 0 + 1 * 0 = 1; rw [off2_eq t]; rfl
  · show (k0_off2 (grid0.coords t)) 1 + 1 * j.val = 64 * t.val + j.val; rw [off2_eq t]; show 64 * t.val + 1 * j.val = _; omega
  · show (k0_off2 (grid0.coords t)) 2 + 1 * r.val = r.val; rw [off2_eq t]; show 0 + 1 * r.val = _; omega
theorem row3_at (tr : Vec Ideal S6x512x128 .f32) (j : Fin 64) (r : Fin 128) :
    row3 tr (grid0.coords t) (ix3 0 j r) = tr (ix3 2 (lane (hd t) j) r) := by
  refine congrArg tr (ext3 _ _ _ _ ?_ ?_ ?_)
  · show (k0_off3 (grid0.coords t)) 0 + 1 * 0 = 2; rw [off3_eq t]; rfl
  · show (k0_off3 (grid0.coords t)) 1 + 1 * j.val = 64 * t.val + j.val; rw [off3_eq t]; show 64 * t.val + 1 * j.val = _; omega
  · show (k0_off3 (grid0.coords t)) 2 + 1 * r.val = r.val; rw [off3_eq t]; show 0 + 1 * r.val = _; omega
theorem row4_at (tr : Vec Ideal S6x512x128 .f32) (j : Fin 64) (r : Fin 128) :
    row4 tr (grid0.coords t) (ix3 0 j r) = tr (ix3 3 (lane (hd t) j) r) := by
  refine congrArg tr (ext3 _ _ _ _ ?_ ?_ ?_)
  · show (k0_off4 (grid0.coords t)) 0 + 1 * 0 = 3; rw [off4_eq t]; rfl
  · show (k0_off4 (grid0.coords t)) 1 + 1 * j.val = 64 * t.val + j.val; rw [off4_eq t]; show 64 * t.val + 1 * j.val = _; omega
  · show (k0_off4 (grid0.coords t)) 2 + 1 * r.val = r.val; rw [off4_eq t]; show 0 + 1 * r.val = _; omega
theorem row5_at (tr : Vec Ideal S6x512x128 .f32) (j : Fin 64) (r : Fin 128) :
    row5 tr (grid0.coords t) (ix3 0 j r) = tr (ix3 4 (lane (hd t) j) r) := by
  refine congrArg tr (ext3 _ _ _ _ ?_ ?_ ?_)
  · show (k0_off5 (grid0.coords t)) 0 + 1 * 0 = 4; rw [off5_eq t]; rfl
  · show (k0_off5 (grid0.coords t)) 1 + 1 * j.val = 64 * t.val + j.val; rw [off5_eq t]; show 64 * t.val + 1 * j.val = _; omega
  · show (k0_off5 (grid0.coords t)) 2 + 1 * r.val = r.val; rw [off5_eq t]; show 0 + 1 * r.val = _; omega
theorem row6_at (tr : Vec Ideal S6x512x128 .f32) (k : Fin k0_t1_loop.trips) (i : Fin 64) (hi : k.val = i.val) (r : Fin 128) :
    View.ld (Val := Elt Ideal) (e' := .f32) tr (Rect.unit (s := S6x512x128) (k0_off7 (grid0.coords t) k) S1x1x128.size (k0_off7_inb (grid0.coords t) k)) (ix3 0 0 r)
      = tr (ix3 5 (lane (hd t) i) r) := by
  refine congrArg tr (ext3 _ _ _ _ ?_ ?_ ?_)
  · show (k0_off7 (grid0.coords t) k) 0 + 1 * 0 = 5; rw [off7_eq t k]; rfl
  · show (k0_off7 (grid0.coords t) k) 1 + 1 * 0 = 64 * t.val + i.val; rw [off7_eq t k, ← hi]; rfl
  · show (k0_off7 (grid0.coords t) k) 2 + 1 * r.val = r.val; rw [off7_eq t k]; show 0 + 1 * r.val = _; omega

/-- Two indices of four axes that agree on each. -/
theorem ext4 {a b c d : ℕ} (y : (⟨4, ![a, b, c, d]⟩ : Shape).Idx) (i : Fin a) (j : Fin b) (k : Fin c) (l : Fin d) (h0 : (y 0).val = i.val) (h1 : (y 1).val = j.val)
    (h2 : (y 2).val = k.val) (h3 : (y 3).val = l.val) : y = ix4 i j k l := by
  rw [eq_ix4 y]
  exact congr (congr (congr (congrArg ix4 (Fin.ext h0)) (Fin.ext h1)) (Fin.ext h2)) (Fin.ext h3)

theorem st_at (st : Vec Ideal S1x64x64x128 .f32) (k : Fin k0_t1_loop.trips) (i : Fin 64) (hi : k.val = i.val) (j : Fin 64) (r : Fin 128) :
    View.ld (Val := Elt Ideal) (e' := .f32) st (Rect.unit (s := S1x64x64x128) (k0_off6 k) S1x1x64x128.size (k0_off6_inb k)) (ix4 0 0 j r) = st (ix4 0 i j r) := by
  refine congrArg st (ext4 _ _ _ _ _ ?_ ?_ ?_ ?_)
  · show (k0_off6 k) 0 + 1 * 0 = 0; rw [off6_eq k]; rfl
  · show (k0_off6 k) 1 + 1 * 0 = i.val; rw [off6_eq k, ← hi]; rfl
  · show (k0_off6 k) 2 + 1 * j.val = j.val; rw [off6_eq k]; show 0 + 1 * j.val = _; omega
  · show (k0_off6 k) 3 + 1 * r.val = r.val; rw [off6_eq k]; show 0 + 1 * r.val = _; omega

/-! ## A head's new state and what is read from it -/

theorem pay2_at (v6 v9 v12 v15 : Vec Ideal S1x64x128 .f32) (a : FVec Ideal S1x1x64x128 .f32) (b : FVec Ideal S1x1x128 .f32) (j : Fin 64) (r : Fin 128) :
    (k0_pay2 (F := Ideal) v6 v9 v12 v15 a b (ix4 0 0 j r) : EReal) = a (ix4 0 0 j r) * v9 (ix3 0 j r)
      + (∑ x : Fin 64, a (ix4 0 0 x r) * v6 (ix3 0 x r)) * v12 (ix3 0 j r) + b (ix3 0 0 r) * v15 (ix3 0 j r) := by
  pointwise [k0_pay2, k0_pay1]
theorem pay3_at (v6 v9 v12 v15 v18 : Vec Ideal S1x64x128 .f32) (a : FVec Ideal S1x1x64x128 .f32) (b : FVec Ideal S1x1x128 .f32) (r : Fin 128) :
    (k0_pay3 (F := Ideal) v6 v9 v12 v15 v18 a b (ix2 0 r) : EReal) = ∑ j : Fin 64, (a (ix4 0 0 j r) * v9 (ix3 0 j r)
      + (∑ x : Fin 64, a (ix4 0 0 x r) * v6 (ix3 0 x r)) * v12 (ix3 0 j r) + b (ix3 0 0 r) * v15 (ix3 0 j r)) * v18 (ix3 0 j r) := by
  pointwise [k0_pay3, k0_pay2, k0_pay1]

theorem pay2_new (v6 v9 v12 v15 : Vec Ideal S1x64x128 .f32) (a : FVec Ideal S1x1x64x128 .f32) (b : FVec Ideal S1x1x128 .f32) (A : Row) (s : Fin 64 → EReal)
    (h : Fin 8) (i : Fin 64) (r : Fin 128) (e6 : ∀ x : Fin 64, (v6 (ix3 0 x r) : EReal) = 0 - A.kn (lane h x)) (e9 : ∀ x : Fin 64, (v9 (ix3 0 x r) : EReal) = A.decay (lane h x))
    (e12 : ∀ x : Fin 64, (v12 (ix3 0 x r) : EReal) = A.kn (lane h x) * A.a (lane h x)) (e15 : ∀ x : Fin 64, (v15 (ix3 0 x r) : EReal) = A.k2 (lane h x))
    (ea : ∀ x : Fin 64, (a (ix4 0 0 x r) : EReal) = s x) (eb : (b (ix3 0 0 r) : EReal) = A.v (lane h i)) (j : Fin 64) :
    (k0_pay2 (F := Ideal) v6 v9 v12 v15 a b (ix4 0 0 j r) : EReal) = A.new s h i j := by
  rw [pay2_at]
  simp only [e6, e9, e12, e15, ea, eb]
  rfl
theorem pay3_read (v6 v9 v12 v15 v18 : Vec Ideal S1x64x128 .f32) (a : FVec Ideal S1x1x64x128 .f32) (b : FVec Ideal S1x1x128 .f32) (A : Row) (s : Fin 64 → EReal)
    (h : Fin 8) (i : Fin 64) (r : Fin 128) (e6 : ∀ x : Fin 64, (v6 (ix3 0 x r) : EReal) = 0 - A.kn (lane h x)) (e9 : ∀ x : Fin 64, (v9 (ix3 0 x r) : EReal) = A.decay (lane h x))
    (e12 : ∀ x : Fin 64, (v12 (ix3 0 x r) : EReal) = A.kn (lane h x) * A.a (lane h x)) (e15 : ∀ x : Fin 64, (v15 (ix3 0 x r) : EReal) = A.k2 (lane h x))
    (ea : ∀ x : Fin 64, (a (ix4 0 0 x r) : EReal) = s x) (eb : (b (ix3 0 0 r) : EReal) = A.v (lane h i))
    (e18 : ∀ x : Fin 64, (v18 (ix3 0 x r) : EReal) = A.r (lane h x)) :
    (k0_pay3 (F := Ideal) v6 v9 v12 v15 v18 a b (ix2 0 r) : EReal) = A.read s h i := by
  rw [pay3_at]
  simp only [e6, e9, e12, e15, e18, ea, eb]
  rfl

theorem stHead_at (i j : Fin 64) (r : Fin 128) : (stHead (iblk m c 2 t) (trC m c) (grid0.coords t) (ix4 0 i j r) : EReal)
    = (mRow m c r).new (fun l => m (c.tc.loc main_arg2) (ix5 0 r (hd t) i l)) (hd t) i j :=
  pay2_new _ _ _ _ _ _ (mRow m c r) (fun l => m (c.tc.loc main_arg2) (ix5 0 r (hd t) i l)) (hd t) i r (fun x => (row1_at t (trC m c) x r).trans (trC0 m c _ r))
    (fun x => (row2_at t (trC m c) x r).trans (trC1 m c _ r)) (fun x => (row3_at t (trC m c) x r).trans (trC2 m c _ r))
    (fun x => (row4_at t (trC m c) x r).trans (trC3 m c _ r))
    (fun x => (st_at (iblk m c 2 t) ⟨i.val, i.isLt⟩ i rfl x r).trans (ib2 m c t i x r)) ((row6_at t (trC m c) ⟨i.val, i.isLt⟩ i rfl r).trans (trC5 m c _ r)) j

theorem yTrip_at (k : Fin k0_t1_loop.trips) (i : Fin 64) (hi : k.val = i.val) (r : Fin 128) :
    (yTrip (row1 (trC m c) (grid0.coords t)) (row2 (trC m c) (grid0.coords t)) (row3 (trC m c) (grid0.coords t)) (row4 (trC m c) (grid0.coords t))
      (row5 (trC m c) (grid0.coords t)) (iblk m c 2 t) (trC m c) (grid0.coords t) k (ix2 0 r) : EReal)
    = (mRow m c r).read (fun l => m (c.tc.loc main_arg2) (ix5 0 r (hd t) i l)) (hd t) i :=
  pay3_read _ _ _ _ _ _ _ (mRow m c r) (fun l => m (c.tc.loc main_arg2) (ix5 0 r (hd t) i l)) (hd t) i r (fun x => (row1_at t (trC m c) x r).trans (trC0 m c _ r))
    (fun x => (row2_at t (trC m c) x r).trans (trC1 m c _ r)) (fun x => (row3_at t (trC m c) x r).trans (trC2 m c _ r))
    (fun x => (row4_at t (trC m c) x r).trans (trC3 m c _ r))
    (fun x => (st_at (iblk m c 2 t) k i hi x r).trans (ib2 m c t i x r)) ((row6_at t (trC m c) k i hi r).trans (trC5 m c _ r))
    (fun x => (row5_at t (trC m c) x r).trans (trC4 m c _ r))

theorem yRows_at (d : Fin 512) (r : Fin 128) : (yRows m c (ix2 d r) : EReal) = yOf (mRow m c r) (m (c.tc.loc main_arg2)) r d :=
  yTrip_at m c ⟨d.val / 64, by show d.val / 64 < 8; omega⟩ ⟨d.val % 64, by show d.val % 64 < 64; omega⟩ ⟨d.val % 64, by omega⟩ rfl r

end Cert.KernelRwkvIdeal.Rows

end
-- ==== Proof.Rwkv.Final.lean ====
/- The kernel's two result arrays as the hidden state and the new state of the arguments. -/
module

public import proofs.«01_k».proof.Proof.Rwkv.Heads

@[expose] public section

set_option maxRecDepth 16384

noncomputable section

namespace Cert.KernelRwkvIdeal.Rows

open Cert.KernelRwkvIdeal Cert.KernelRwkvIdeal.Gen Idealize.ShloMosaic Idealize.ShloMosaic.TcCoe Cert.RwkvRow Idealize.SL.Sem

open Idealize.SL.Sem

variable (m : (ℓ : Loc nD τ sig) → Buf (Elt Ideal) ℓ) (c : Dev nD)

/-- The hidden state as one array. -/
def G0 : FVec Ideal S128x512 .f32 := fun i => hid (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (i 0) (i 1)
/-- The new state as one array, keyed by head, value channel, key channel and sequence. -/
def G1t : FVec Ideal S8x64x64x128 .f32 := fun i => stt (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (i 3) (i 0) (i 1) (i 2)
/-- The new state as one array. -/
def G1 : FVec Ideal S1x128x8x64x64 .f32 := fun i => stt (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (i 1) (i 2) (i 3) (i 4)

theorem oa_at (t : Fin cfg0.N) (r : Fin 128) (d : Fin 512) :
    (oaOf (yRows m c) (bonusC m c) (gC m c) (iblk m c 12 t) (iblk m c 13 t) (iblk m c 14 t) (ix2 r d) : EReal) = hid (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) r d := by
  refine (oaOf_at (iblk m c 0 t) (iblk m c 1 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r (yRows m c) (bonusC m c) (gC m c) (h14 m c t)
    (fun d => by rw [kRow_eq m c t r]; exact bonusC_at m c d r) (fun d => by rw [kRow_eq m c t r]; exact gC_at m c d r) d).trans ?_
  rw [kRow_eq m c t r, show (fun e => yRows m c (ix2 e r) : Fin 512 → EReal) = yOf (mRow m c r) (m (c.tc.loc main_arg2)) r from funext fun e => yRows_at m c e r]
  rfl

theorem G0_at (r : Fin 128) (d : Fin 512) (j : S128x512.Idx) (h0 : (j 0).val = r.val) (h1 : (j 1).val = d.val) :
    G0 m c j = hid (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) r d := by
  unfold G0
  rw [show (j 0 : Fin 128) = r from Fin.ext h0, show (j 1 : Fin 512) = d from Fin.ext h1]
theorem G1t_at (h : Fin 8) (i j : Fin 64) (r : Fin 128) (y : S8x64x64x128.Idx) (h0 : (y 0).val = h.val) (h1 : (y 1).val = i.val) (h2 : (y 2).val = j.val)
    (h3 : (y 3).val = r.val) : G1t m c y = stt (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) r h i j := by
  unfold G1t
  rw [show (y 0 : Fin 8) = h from Fin.ext h0, show (y 1 : Fin 64) = i from Fin.ext h1, show (y 2 : Fin 64) = j from Fin.ext h2, show (y 3 : Fin 128) = r from Fin.ext h3]

/-- THE HIDDEN STATE: the last point writes the whole array. -/
theorem final0 : (dats m 0 c).arrAt 15 cfg0.N = G0 m c := by
  refine (dats m 0 c).arrAt_eq_of_covers 15 _ (by decide +kernel) fun t hf y => ?_
  blk_simp
  rw [after0_15]
  obtain ⟨r, d, rfl⟩ : ∃ (r : Fin 128) (d : Fin 512), y = ix2 r d := ⟨y 0, y 1, eq_ix2 y⟩
  refine (oa_at m c t r d).trans ?_
  refine (G0_at m c r d _ ?_ ?_).symm
  · blk_simp [idx t]
  · blk_simp [idx t]

/-- THE NEW STATE: each point writes its head's block. -/
theorem final1 : (dats m 0 c).arrAt 16 cfg0.N = G1t m c := by
  refine (dats m 0 c).arrAt_eq_of_covers 16 _ (by decide +kernel) fun t hf y => ?_
  blk_simp
  rw [after0_16]
  obtain ⟨z, i, j, r, rfl⟩ : ∃ (z : Fin 1) (i j : Fin 64) (r : Fin 128), y = ix4 z i j r := ⟨y 0, y 1, y 2, y 3, eq_ix4 y⟩
  obtain rfl : z = 0 := Subsingleton.elim _ _
  refine (stHead_at m c t i j r).trans ?_
  refine (G1t_at m c (hd t) i j r _ ?_ ?_ ?_ ?_).symm
  · blk_simp [idx t]
    show t.val + 0 = t.val
    omega
  · blk_simp [idx t]
  · blk_simp [idx t]
  · blk_simp [idx t]

/-- The last host lines bring the sequences to the front. -/
theorem W41 : (Pipeline.afterTail₀ cfgs (dats m) 0 (V0 m) [hostOps1] c main_v41 : FVec Ideal S1x128x8x64x64 .f32) = G1 m c := by
  funext y
  obtain ⟨z, b, h, i, j, rfl⟩ : ∃ (z : Fin 1) (b : Fin 128) (h : Fin 8) (i j : Fin 64), y = ix5 z b h i j := ⟨y 0, y 1, y 2, y 3, y 4, eq_ix5 y⟩
  obtain rfl : z = 0 := Subsingleton.elim _ _
  have e : Pipeline.withArrays spec0 c (V0 m c) (fun w => (dats m 0 c).arrAt w cfg0.N) main_v39_1 = (dats m 0 c).arrAt 16 cfg0.N :=
    Pipeline.withArrays_arr spec0 (by decide) c (V0 m c) _ 16
  unfold Pipeline.afterTail₀
  after_reads_at
  exact (congrFun e (ix4 h i j b)).trans (congrFun (final1 m c) (ix4 h i j b))

end Cert.KernelRwkvIdeal.Rows

end
-- ==== Proof.Rwkv.Ref.lean ====
/- The reference of the decode recurrence, element by element: it is `RwkvRow`'s step of its arguments. -/
module

public import proofs.«01_k».proof.Proof.Rwkv.Math
public import proofs.«01_k».proof.Proof.Gen.ReferenceRwkvIdeal.Run
public import Idealize.ShloMosaic.Lib.Pointwise
public import Idealize.ShloMosaic.Lib.Tactic.CleanTypes

@[expose] public section

set_option maxRecDepth 16384

noncomputable section

namespace Cert.ReferenceRwkvIdeal.Rows

open Cert.ReferenceRwkvIdeal Cert.ReferenceRwkvIdeal.Gen Cert.ReferenceRwkvIdeal.Value Idealize.ShloMosaic Idealize.ShloMosaic.TcCoe Cert.RwkvRow Idealize.SL.Sem

variable (V0 : Valuation τ sig (Elt Ideal))

/-- A flat channel's entry of a row by heads. -/
abbrev byHead (f : Fin 8 → Fin 64 → EReal) (d : Fin 512) : EReal := f ⟨d.val / 64, by omega⟩ ⟨d.val % 64, by omega⟩

/-- What sequence `b`'s step reads. -/
abbrev rRow (b : Fin 128) : Row where
  pa j := V0 (Proc.devRef .tc main_arg0) (ix3 b 0 j)
  prev j := V0 (Proc.devRef .tc main_arg1) (ix4 0 b 0 j)
  mu j := V0 (Proc.devRef .tc main_arg3) (ix2 0 j)
  w0 d := V0 (Proc.devRef .tc main_arg4) (ix2 0 d)
  w2 j d := V0 (Proc.devRef .tc main_arg5) (ix3 0 j d)
  a0 d := V0 (Proc.devRef .tc main_arg6) (ix2 0 d)
  a2 j d := V0 (Proc.devRef .tc main_arg7) (ix3 0 j d)
  g2 j d := V0 (Proc.devRef .tc main_arg8) (ix3 0 j d)
  kk d := V0 (Proc.devRef .tc main_arg9) (ix2 0 d)
  ka d := V0 (Proc.devRef .tc main_arg10) (ix2 0 d)
  rk d := V0 (Proc.devRef .tc main_arg11) (ix3 0 ⟨d.val / 64, by omega⟩ ⟨d.val % 64, by omega⟩)
  lnw d := V0 (Proc.devRef .tc main_arg12) (ix2 0 d)
  lnb d := V0 (Proc.devRef .tc main_arg13) (ix2 0 d)

theorem v1 (b : Fin 128) (h : Fin 8) (i j : Fin 64) :
    (res_main_v1 V0 (ix4 b h i j) : EReal) = V0 (Proc.devRef .tc main_arg2) (ix5 0 b h i j) := by
  unfold res_main_v1
  clean_types
  pointwise

theorem v7 (b : Fin 128) (j : Fin 1792) : (res_main_v7 V0 (ix3 b 0 j) : EReal) = (rRow V0 b).xa j := by
  unfold res_main_v7
  clean_types
  pointwise
  rfl

theorem v9 (b : Fin 128) (d : Fin 512) : (res_main_v9 V0 (ix3 b 0 d) : EReal) = (rRow V0 b).k d := by
  unfold res_main_v9
  clean_types
  pointwise
  simp only [v7]
  rfl

theorem v21 (b : Fin 128) (d : Fin 512) : (res_main_v21 V0 (ix3 b 0 d) : EReal)
    = 0 - ((rRow V0 b).w0 d + ∑ j : Fin 64, Ideal.tanh ((rRow V0 b).xa ⟨1536 + j.val, by omega⟩) * (rRow V0 b).w2 j d) := by
  unfold res_main_v21
  clean_types
  pointwise
  simp only [v7, zero_sub]

theorem v40 (b : Fin 128) (d : Fin 512) : (res_main_v40 V0 (ix3 b 0 d) : EReal) = (rRow V0 b).a d := by
  unfold res_main_v40
  clean_types
  pointwise
  simp only [v7]
  unfold Row.a sg
  simp only [zero_sub]

theorem flat (h : Fin 8) (j : Fin 64) (p : h.val * 64 + j.val < 512) : (⟨h.val * 64 + j.val, p⟩ : Fin 512) = lane h j :=
  Fin.ext (by show h.val * 64 + j.val = 64 * h.val + j.val; omega)

theorem flat0 (h : Fin 8) (j : Fin 64) (p : h.val * 64 + j.val < 1792) :
    (⟨h.val * 64 + j.val, p⟩ : Fin 1792) = ⟨(lane h j).val, by omega⟩ :=
  Fin.ext (by show h.val * 64 + j.val = 64 * h.val + j.val; omega)

theorem flat1024 (h : Fin 8) (j : Fin 64) (p : 1024 + (h.val * 64 + j.val) < 1792) :
    (⟨1024 + (h.val * 64 + j.val), p⟩ : Fin 1792) = ⟨1024 + (lane h j).val, by omega⟩ :=
  Fin.ext (by show 1024 + (h.val * 64 + j.val) = 1024 + (64 * h.val + j.val); omega)

theorem v53 (b : Fin 128) (h : Fin 8) (j : Fin 64) : (res_main_v53 V0 (ix4 b 0 h j) : EReal) = (rRow V0 b).kx (lane h j) := by
  unfold res_main_v53
  clean_types
  pointwise
  simp only [v9, flat]
  rfl

theorem chan_lane (h : Fin 8) (i j : Fin 64) : chan (lane h i) j = lane h j := by
  apply Fin.ext; show 64 * ((64 * h.val + i.val) / 64) + j.val = 64 * h.val + j.val; omega

theorem v61 (b : Fin 128) (h : Fin 8) (j : Fin 64) : (res_main_v61 V0 (ix4 b 0 h j) : EReal) = (rRow V0 b).kn (lane h j) := by
  unfold res_main_v61
  clean_types
  pointwise
  simp only [v53]
  unfold Row.kn hs
  simp only [chan_lane]

theorem v71 (b : Fin 128) (h : Fin 8) (j : Fin 64) : (res_main_v71 V0 (ix4 b 0 h j) : EReal) = (rRow V0 b).r (lane h j) := by
  unfold res_main_v71
  clean_types
  pointwise
  simp only [v7, flat0]
  rfl

theorem v72 (b : Fin 128) (h : Fin 8) (j : Fin 64) : (res_main_v72 V0 (ix4 b 0 h j) : EReal) = (rRow V0 b).k2 (lane h j) := by
  unfold res_main_v72
  clean_types
  pointwise
  simp only [v9, v40, flat]
  rfl

theorem v73 (b : Fin 128) (h : Fin 8) (j : Fin 64) : (res_main_v73 V0 (ix4 b 0 h j) : EReal) = (rRow V0 b).v (lane h j) := by
  unfold res_main_v73
  clean_types
  pointwise
  simp only [v7, flat1024]
  rfl

theorem call0_v3 (b : Fin 128) (d : Fin 512) : (res_main_call0_v3 V0 (ix3 b 0 d) : EReal) = res_main_v21 V0 (ix3 b 0 d) := by
  unfold res_main_call0_v3 res_main_call0_cst
  clean_types
  pointwise

theorem v99 (b : Fin 128) (h : Fin 8) (i j : Fin 64) : (res_main_v99 V0 (ix4 b h i j) : EReal)
    = (rRow V0 b).new (fun l => V0 (Proc.devRef .tc main_arg2) (ix5 0 b h i l)) h i j := by
  unfold res_main_v99 res_main_call0_cst
  clean_types
  pointwise
  simp only [v1, v40, v61, v72, v73, call0_v3, flat]
  simp only [ne_eq, not_true_eq_false, if_false, ite_false, v21]
  unfold Row.new Row.decay sp
  simp only [zero_sub]
  rfl

theorem v101 (b : Fin 128) (h : Fin 8) (i : Fin 64) : (res_main_v101 V0 (ix4 b 0 h i) : EReal)
    = (rRow V0 b).read (fun l => V0 (Proc.devRef .tc main_arg2) (ix5 0 b h i l)) h i := by
  unfold res_main_v101
  clean_types
  pointwise
  simp only [v99, v71]
  rfl

/-- What sequence `b` reads, channel by channel. -/
abbrev yRow (b : Fin 128) (d : Fin 512) : EReal :=
  (rRow V0 b).read (fun l => V0 (Proc.devRef .tc main_arg2) (ix5 0 b ⟨d.val / 64, by omega⟩ ⟨d.val % 64, by omega⟩ l)) ⟨d.val / 64, by omega⟩ ⟨d.val % 64, by omega⟩

theorem yRow_lane (b : Fin 128) (h : Fin 8) (i : Fin 64) : yRow V0 b (lane h i)
    = (rRow V0 b).read (fun l => V0 (Proc.devRef .tc main_arg2) (ix5 0 b h i l)) h i := by
  have e1 : (⟨(lane h i).val / 64, by omega⟩ : Fin 8) = h := Fin.ext (by show (64 * h.val + i.val) / 64 = h.val; omega)
  have e2 : (⟨(lane h i).val % 64, by omega⟩ : Fin 64) = i := Fin.ext (by show (64 * h.val + i.val) % 64 = i.val; omega)
  unfold yRow
  rw [e1, e2]

theorem v105 (b : Fin 128) (h : Fin 8) (i : Fin 64) : (res_main_v105 V0 (ix4 b 0 h 0) : EReal) = Row.mean (yRow V0 b) (lane h i) := by
  unfold res_main_v105
  clean_types
  pointwise
  unfold Row.mean hs
  simp only [v101, chan_lane, yRow_lane]

theorem v107 (b : Fin 128) (h : Fin 8) (i : Fin 64) : (res_main_v107 V0 (ix4 b 0 h i) : EReal) = Row.dist (yRow V0 b) (lane h i) := by
  unfold res_main_v107
  clean_types
  pointwise
  simp only [v101, v105 V0 b h i]
  unfold Row.dist
  simp only [yRow_lane]

theorem chan_flat (d : Fin 512) : lane ⟨d.val / 64, by omega⟩ ⟨d.val % 64, by omega⟩ = d :=
  Fin.ext (by show 64 * (d.val / 64) + d.val % 64 = d.val; omega)

theorem chan_eq (d : Fin 512) (j : Fin 64) : chan d j = lane ⟨d.val / 64, by omega⟩ j := rfl

theorem rk_lane (b : Fin 128) (h : Fin 8) (x : Fin 64) :
    (rRow V0 b).rk (lane h x) = V0 (Proc.devRef .tc main_arg11) (ix3 0 h x) := by
  have e1 : (⟨(lane h x).val / 64, by omega⟩ : Fin 8) = h := Fin.ext (by show (64 * h.val + x.val) / 64 = h.val; omega)
  have e2 : (⟨(lane h x).val % 64, by omega⟩ : Fin 64) = x := Fin.ext (by show (64 * h.val + x.val) % 64 = x.val; omega)
  show V0 (Proc.devRef .tc main_arg11) (ix3 0 ⟨(lane h x).val / 64, by omega⟩ ⟨(lane h x).val % 64, by omega⟩) = _
  rw [e1, e2]

/-- The hidden state's term. -/
def hidden : (Proc.devRef .tc main_v141 : DevRef τ sig).ty.Contents (Elt Ideal) := shapeCast _ (mulf (addf (addf (mulf (shapeCast _ (mulf (subf (res_main_v101 V0) (broadcastInDim S128x1x8x64 ![0, 1, 2, 3] bcast_S128x1x8x1_S128x1x8x64_0_1_2_3 (res_main_v105 V0))) (broadcastInDim S128x1x8x64 ![0, 1, 2, 3] bcast_S128x1x8x1_S128x1x8x64_0_1_2_3 (Host.rsqrt (addf (Host.divf (broadcastInDim S128x1x8x1 ![0, 1, 2] bcast_S128x1x8_S128x1x8x1_0_1_2 (Host.reduceAdd (mulf (res_main_v107 V0) (res_main_v107 V0)) (constant S_ .f32 0x00000000#32) reducesTo_S128x1x8x64_S128x1x8_d3 h_S_)) (broadcastInDim S128x1x8x1 ![] bcast_S_S128x1x8x1 (constant S_ .f32 0x42800000#32))) (broadcastInDim S128x1x8x1 ![] bcast_S_S128x1x8x1 (constant S_ .f32 0x3A27C5AC#32)))))) shapeCasts_S128x1x8x64_S128x1x512) (broadcastInDim S128x1x512 ![0, 1, 2] bcast_S1x1x512_S128x1x512_0_1_2 (broadcastInDim S1x1x512 ![2] bcast_S512_S1x1x512_2 (shapeCast _ (V0 (Proc.devRef .tc main_arg12)) shapeCasts_S1x512_S512)))) (broadcastInDim S128x1x512 ![0, 1, 2] bcast_S1x1x512_S128x1x512_0_1_2 (broadcastInDim S1x1x512 ![2] bcast_S512_S1x1x512_2 (shapeCast _ (V0 (Proc.devRef .tc main_arg13)) shapeCasts_S1x512_S512)))) (shapeCast _ (mulf (broadcastInDim S128x1x8x64 ![0, 1, 2, 3] bcast_S128x1x8x1_S128x1x8x64_0_1_2_3 (broadcastInDim S128x1x8x1 ![0, 1, 2] bcast_S128x1x8_S128x1x8x1_0_1_2 (Host.reduceAdd (mulf (mulf (res_main_v71 V0) (res_main_v72 V0)) (broadcastInDim S128x1x8x64 ![0, 1, 2, 3] bcast_S1x1x8x64_S128x1x8x64_0_1_2_3 (broadcastInDim S1x1x8x64 ![2, 3] bcast_S8x64_S1x1x8x64_2_3 (shapeCast _ (V0 (Proc.devRef .tc main_arg11)) shapeCasts_S1x8x64_S8x64)))) (constant S_ .f32 0x00000000#32) reducesTo_S128x1x8x64_S128x1x8_d3 h_S_))) (res_main_v73 V0)) shapeCasts_S128x1x8x64_S128x1x512)) (Host.dotGeneral (φ₂ := .f32) dot_S128x1x128_S128x512_S128x1x512_2_0_01_1_n_n none (Host.divf (broadcastInDim S128x1x128 ![] bcast_S_S128x1x128 (constant S_ .f32 0x3F800000#32)) (addf (broadcastInDim S128x1x128 ![] bcast_S_S128x1x128 (constant S_ .f32 0x3F800000#32)) (Host.exp (Host.negf (extractStridedSlice S128x1x128 ![0, 0, 1664] (res_main_v7 V0) slices_S128x1x1792_S128x1x128_0_0_1664))))) (shapeCast _ (V0 (Proc.devRef .tc main_arg8)) shapeCasts_S1x128x512_S128x512))) shapeCasts_S128x1x512_S128x512

theorem bonus_lane (b : Fin 128) (h : Fin 8) (i : Fin 64) : (rRow V0 b).bonus (lane h i)
    = (∑ x : Fin 64, (rRow V0 b).r (lane h x) * (rRow V0 b).k2 (lane h x) * V0 (Proc.devRef .tc main_arg11) (ix3 0 h x)) * (rRow V0 b).v (lane h i) := by
  refine congrArg (· * (rRow V0 b).v (lane h i)) (Finset.sum_congr rfl fun x _ => ?_)
  show (rRow V0 b).r (chan (lane h i) x) * (rRow V0 b).k2 (chan (lane h i) x) * (rRow V0 b).rk (chan (lane h i) x) = _
  rw [chan_lane, rk_lane]

theorem v141_lane (b : Fin 128) (d : Fin 512) (h : Fin 8) (i : Fin 64) (eh : ∀ p, (⟨d.val / 64, p⟩ : Fin 8) = h)
    (ei : ∀ p, (⟨d.val % 64, p⟩ : Fin 64) = i) (e : lane h i = d) :
    (hidden V0 (ix2 b d) : EReal) = (rRow V0 b).close (yRow V0 b) d := by
  have ed : (rRow V0 b).read (fun l => V0 (Proc.devRef .tc main_arg2) (ix5 0 b h i l)) h i - Row.mean (yRow V0 b) (lane h i)
      = Row.dist (yRow V0 b) (lane h i) := by unfold Row.dist; rw [yRow_lane]
  unfold hidden
  clean_types
  pointwise
  simp only [eh, ei]
  rw [v101, v105 V0 b h i, ed]
  simp only [v107, v71, v72, v73, v7]
  subst e
  unfold Row.close
  rw [bonus_lane]
  unfold Row.g sg Row.mean hs
  simp only [chan_lane, zero_sub]

theorem v141 (b : Fin 128) (d : Fin 512) : (hidden V0 (ix2 b d) : EReal) = (rRow V0 b).close (yRow V0 b) d :=
  v141_lane V0 b d _ _ (fun _ => rfl) (fun _ => rfl) (chan_flat d)

theorem v142 (b : Fin 128) (h : Fin 8) (i j : Fin 64) :
    ((broadcastInDim S1x128x8x64x64 ![1, 2, 3, 4] bcast_S128x8x64x64_S1x128x8x64x64_1_2_3_4 (res_main_v99 V0) : (Proc.devRef .tc main_v142 : DevRef τ sig).ty.Contents (Elt Ideal)) (ix5 0 b h i j) : EReal)
      = (rRow V0 b).new (fun l => V0 (Proc.devRef .tc main_arg2) (ix5 0 b h i l)) h i j := by
  clean_types
  pointwise
  simp only [v99]

end Cert.ReferenceRwkvIdeal.Rows

end
-- ==== Proof.Rwkv.Claim.lean ====
/- The recurrence of one token: the kernel and the reference give the same hidden state and the same new state. -/
module

public import proofs.«01_k».proof.Proof.Rwkv.Final
public import proofs.«01_k».proof.Proof.Rwkv.Ref
public import proofs.«01_k».proof.Proof.Gen.ReferenceRwkvIdeal.Run
public import proofs.«01_k».proof.Defs
public import Idealize.ShloMosaic.Lib.Claim

@[expose] public section

set_option maxRecDepth 16384

noncomputable section

namespace Cert.KernelRwkvIdeal.Rows

open Cert.KernelRwkvIdeal Cert.KernelRwkvIdeal.Gen Idealize.ShloMosaic Idealize.ShloMosaic.TcCoe Idealize.SL.Sem

/-- The kernel's run: both result arrays, and the arguments as they were. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v39_0) = G0 m c ∧ r.2.mem ((c.tc : Thread nD τ).loc main_v41) = G1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(((h.1 c).1 15).trans (final0 m c)), ((h.1 c).2 main_v41 (by decide)).trans (W41 m c), h.2.1 c⟩)
    (θ_run_and (run_main m ρ) (frame m ρ))

end Cert.KernelRwkvIdeal.Rows

namespace Cert.RwkvRow

open Idealize.ShloMosaic Idealize.ShloMosaic.TcCoe Idealize.SL.Sem

/-- The kernel's two results are the reference's, whatever the arguments. -/
theorem algebraic : Cert.algebraic_KernelRwkvIdeal_ReferenceRwkvIdeal
    (hKernelRwkvIdeal := Cert.KernelRwkvIdeal.Gen.facts) (hReferenceRwkvIdeal := Cert.ReferenceRwkvIdeal.Gen.facts) := by
  intro m g m' g' _ hagree
  refine ⟨fun c => Cert.KernelRwkvIdeal.Rows.G0 m c, fun c => Cert.KernelRwkvIdeal.Rows.G1 m c, Cert.KernelRwkvIdeal.Rows.run m g,
    (θ_run Cert.ReferenceRwkvIdeal.defs _ _).mono (fun r h c => ⟨(h c).1.trans ?_, (h c).2.1.trans ?_, (h c).2.2⟩) (Cert.ReferenceRwkvIdeal.Value.run m' g')⟩
  · obtain ⟨a0, a1, a2, a3, a4, a5, a6, a7, a8, a9, a10, a11, a12, a13⟩ := hagree c
    funext i
    obtain ⟨b, d, rfl⟩ : ∃ (b : Fin 128) (d : Fin 512), i = ix2 b d := ⟨i 0, i 1, eq_ix2 i⟩
    refine (Cert.ReferenceRwkvIdeal.Rows.v141 (StableHlo.launchContents m' c) b d).trans ?_
    show hid (m' (c.tc.loc Cert.ReferenceRwkvIdeal.main_arg0)) (m' (c.tc.loc Cert.ReferenceRwkvIdeal.main_arg1)) (m' (c.tc.loc Cert.ReferenceRwkvIdeal.main_arg2)) (m' (c.tc.loc Cert.ReferenceRwkvIdeal.main_arg3)) (m' (c.tc.loc Cert.ReferenceRwkvIdeal.main_arg4)) (m' (c.tc.loc Cert.ReferenceRwkvIdeal.main_arg5)) (m' (c.tc.loc Cert.ReferenceRwkvIdeal.main_arg6)) (m' (c.tc.loc Cert.ReferenceRwkvIdeal.main_arg7)) (m' (c.tc.loc Cert.ReferenceRwkvIdeal.main_arg8)) (m' (c.tc.loc Cert.ReferenceRwkvIdeal.main_arg9)) (m' (c.tc.loc Cert.ReferenceRwkvIdeal.main_arg10)) (m' (c.tc.loc Cert.ReferenceRwkvIdeal.main_arg11)) (m' (c.tc.loc Cert.ReferenceRwkvIdeal.main_arg12)) (m' (c.tc.loc Cert.ReferenceRwkvIdeal.main_arg13)) b d = _
    rw [a0, a1, a2, a3, a4, a5, a6, a7, a8, a9, a10, a11, a12, a13]
    rfl
  · obtain ⟨a0, a1, a2, a3, a4, a5, a6, a7, a8, a9, a10, a11, a12, a13⟩ := hagree c
    funext y
    obtain ⟨z, b, h, i, j, rfl⟩ : ∃ (z : Fin 1) (b : Fin 128) (h : Fin 8) (i j : Fin 64), y = ix5 z b h i j := ⟨y 0, y 1, y 2, y 3, y 4, eq_ix5 y⟩
    obtain rfl : z = 0 := Subsingleton.elim _ _
    refine (Cert.ReferenceRwkvIdeal.Rows.v142 (StableHlo.launchContents m' c) b h i j).trans ?_
    show stt (m' (c.tc.loc Cert.ReferenceRwkvIdeal.main_arg0)) (m' (c.tc.loc Cert.ReferenceRwkvIdeal.main_arg1)) (m' (c.tc.loc Cert.ReferenceRwkvIdeal.main_arg2)) (m' (c.tc.loc Cert.ReferenceRwkvIdeal.main_arg3)) (m' (c.tc.loc Cert.ReferenceRwkvIdeal.main_arg4)) (m' (c.tc.loc Cert.ReferenceRwkvIdeal.main_arg5)) (m' (c.tc.loc Cert.ReferenceRwkvIdeal.main_arg6)) (m' (c.tc.loc Cert.ReferenceRwkvIdeal.main_arg7)) (m' (c.tc.loc Cert.ReferenceRwkvIdeal.main_arg8)) (m' (c.tc.loc Cert.ReferenceRwkvIdeal.main_arg9)) (m' (c.tc.loc Cert.ReferenceRwkvIdeal.main_arg10)) (m' (c.tc.loc Cert.ReferenceRwkvIdeal.main_arg11)) (m' (c.tc.loc Cert.ReferenceRwkvIdeal.main_arg12)) (m' (c.tc.loc Cert.ReferenceRwkvIdeal.main_arg13)) b h i j = _
    rw [a0, a1, a2, a3, a4, a5, a6, a7, a8, a9, a10, a11, a12, a13]
    rfl

end Cert.RwkvRow

end
-- ==== Proof.Post.Rows.lean ====
/- The last part of the layer (gated merge, feed-forward network, per-layer embedding, final norm) acts on each row
   by itself. This module writes it as plain functions of one row over the extended reals, and reads the kernel's
   payloads as those functions. -/
module

public import proofs.«01_k».proof.Proof.Gen.KernelPostIdeal.Value
public import Idealize.ShloMosaic.Lib.Pointwise

@[expose] public section

set_option maxRecDepth 16384

noncomputable section

namespace Cert.PostRow

open Idealize.ShloMosaic

/-- 1024, as the programs write it. -/
abbrev width : EReal := Ideal.ofBits .f32 0x44800000#32
/-- The small constant under the root of a norm. -/
abbrev eps : EReal := Ideal.ofBits .f32 0x358637BD#32
/-- One row scaled to unit mean square, times a gain. -/
def rms (x g : Fin 1024 → EReal) (d : Fin 1024) : EReal :=
  x d * Ideal.rsqrt (Ideal.div (∑ k, x k * x k) width + eps) * g d
/-- The logistic function. -/
def sg (x : EReal) : EReal := Ideal.div 1 (1 + Ideal.exp (0 - x))
/-- A row times a matrix. -/
def dot {n k : ℕ} (x : Fin n → EReal) (w : Fin n → Fin k → EReal) (d : Fin k) : EReal := ∑ j, x j * w j d

/-- The two mixers' rows, projected, gated and projected back, added to the row. -/
def merge (g : Fin 1024 → EReal) (wg : Fin 1024 → Fin 2048 → EReal) (wa wb : Fin 512 → Fin 1024 → EReal)
    (wo : Fin 1024 → Fin 1024 → EReal) (x : Fin 1024 → EReal) (oa ob : Fin 512 → EReal) (d : Fin 1024) : EReal :=
  x d + dot (fun k => sg (dot (rms x g) wg ⟨k, by omega⟩) * dot oa wa k
    + sg (dot (rms x g) wg ⟨1024 + k, by omega⟩) * dot ob wb k) wo d

/-- The gated feed-forward network, added to the row. -/
def ffn (g : Fin 1024 → EReal) (wg wu : Fin 1024 → Fin 2816 → EReal) (wd : Fin 2816 → Fin 1024 → EReal)
    (h : Fin 1024 → EReal) (d : Fin 1024) : EReal :=
  h d + dot (fun k => dot (rms h g) wg k * sg (dot (rms h g) wg k) * dot (rms h g) wu k) wd d

/-- The gated embedding of the layer, added to the row. -/
def ple (g : Fin 1024 → EReal) (wg : Fin 1024 → Fin 1024 → EReal) (wp : Fin 256 → Fin 1024 → EReal)
    (p : Fin 256 → EReal) (h : Fin 1024 → EReal) (d : Fin 1024) : EReal :=
  h d + sg (dot (rms h g) wg d) * dot p wp d

/-- The whole of it: merge, feed-forward network, embedding, final norm. -/
def post (g1 g2 g3 g4 : Fin 1024 → EReal) (wg : Fin 1024 → Fin 2048 → EReal) (wa wb : Fin 512 → Fin 1024 → EReal)
    (wo : Fin 1024 → Fin 1024 → EReal) (fg fu : Fin 1024 → Fin 2816 → EReal) (fd : Fin 2816 → Fin 1024 → EReal)
    (pg : Fin 1024 → Fin 1024 → EReal) (pp : Fin 256 → Fin 1024 → EReal)
    (x : Fin 1024 → EReal) (oa ob : Fin 512 → EReal) (p : Fin 256 → EReal) : Fin 1024 → EReal :=
  rms (ple g3 pg pp p (ffn g2 fg fu fd (merge g1 wg wa wb wo x oa ob))) g4

/-- THE LAYER'S OUTPUT at sequence `b`, position `s` and column `d`, as one function of the arguments: `post` of that
    position's rows. The merge's gates are the in-projection's columns from 3848 on. -/
def out (x : FVec Ideal ⟨3, ![8, 2048, 1024]⟩ .f32) (oa ob : FVec Ideal ⟨3, ![8, 2048, 512]⟩ .f32)
    (p : FVec Ideal ⟨4, ![1, 8, 2048, 256]⟩ .f32) (g1 : FVec Ideal ⟨2, ![1, 1024]⟩ .f32) (wg : FVec Ideal ⟨3, ![1, 1024, 5896]⟩ .f32)
    (wa wb : FVec Ideal ⟨3, ![1, 512, 1024]⟩ .f32) (wo : FVec Ideal ⟨3, ![1, 1024, 1024]⟩ .f32) (g2 : FVec Ideal ⟨2, ![1, 1024]⟩ .f32)
    (fg fu : FVec Ideal ⟨3, ![1, 1024, 2816]⟩ .f32) (fd : FVec Ideal ⟨3, ![1, 2816, 1024]⟩ .f32) (g3 : FVec Ideal ⟨2, ![1, 1024]⟩ .f32)
    (pg : FVec Ideal ⟨3, ![1, 1024, 1024]⟩ .f32) (pp : FVec Ideal ⟨3, ![1, 256, 1024]⟩ .f32) (g4 : FVec Ideal ⟨1, ![1024]⟩ .f32)
    (b : Fin 8) (s : Fin 2048) (d : Fin 1024) : EReal :=
  post (fun k => g1 (ix2 0 k)) (fun k => g2 (ix2 0 k)) (fun k => g3 (ix2 0 k)) (fun k => g4 (ix1 k))
    (fun j k => wg (ix3 0 j ⟨3848 + k.val, by omega⟩)) (fun j k => wa (ix3 0 j k)) (fun j k => wb (ix3 0 j k))
    (fun j k => wo (ix3 0 j k)) (fun j k => fg (ix3 0 j k)) (fun j k => fu (ix3 0 j k)) (fun j k => fd (ix3 0 j k))
    (fun j k => pg (ix3 0 j k)) (fun j k => pp (ix3 0 j k)) (fun k => x (ix3 b s k)) (fun k => oa (ix3 b s k))
    (fun k => ob (ix3 b s k)) (fun k => p (ix4 0 b s k)) d

end Cert.PostRow

namespace Cert.KernelPostIdeal.Rows

open Cert.KernelPostIdeal Cert.KernelPostIdeal.Gen Idealize.ShloMosaic Cert.PostRow

/-- Row `r` of a rectangle. -/
abbrev row {n k : ℕ} {φ : FTy} (v : FVec Ideal ⟨2, ![n, k]⟩ φ) (r : Fin n) : Fin k → EReal := fun d => v (ix2 r d)
/-- A rectangle as a function of its two coordinates. -/
abbrev mat {n k : ℕ} {φ : FTy} (v : FVec Ideal ⟨2, ![n, k]⟩ φ) : Fin n → Fin k → EReal := fun r d => v (ix2 r d)

/-! ## The payloads at an element of a row -/

theorem pay3_at (v : FVec Ideal S256x1024 .f32) (r : Fin 256) (d : Fin 1024) : k0_pay3 (F := Ideal) v (ix2 r d) = v (ix2 r d) := by
  pointwise [k0_pay3]
theorem pay4_at (v : FVec Ideal S256x1024 .f32) (r : Fin 256) (d : Fin 1024) : k0_pay4 (F := Ideal) v (ix2 r d) = v (ix2 r d) := by
  pointwise [k0_pay4]
theorem pay9_at (v : FVec Ideal S1x1024 .f32) (r : Fin 1) (d : Fin 1024) : k0_pay9 (F := Ideal) v (ix2 r d) = v (ix2 r d) := by
  pointwise [k0_pay9]
theorem pay17_at (v : FVec Ideal S1x1024 .f32) (r : Fin 1) (d : Fin 1024) : k0_pay17 (F := Ideal) v (ix2 r d) = v (ix2 r d) := by
  pointwise [k0_pay17]
theorem pay29_at (v : FVec Ideal S1x1024 .f32) (r : Fin 1) (d : Fin 1024) : k0_pay29 (F := Ideal) v (ix2 r d) = v (ix2 r d) := by
  pointwise [k0_pay29]

theorem pay5_at (v : FVec Ideal S256x512 .f32) (w : FVec Ideal S512x1024 .bf16) (r : Fin 256) (d : Fin 1024) :
    k0_pay5 (F := Ideal) v w (ix2 r d) = dot (row v r) (mat w) d := by
  pointwise [k0_pay5]; rfl
theorem pay6_at (v : FVec Ideal S256x512 .f32) (w : FVec Ideal S512x1024 .bf16) (r : Fin 256) (d : Fin 1024) :
    k0_pay6 (F := Ideal) v w (ix2 r d) = dot (row v r) (mat w) d := by
  pointwise [k0_pay6]; rfl
theorem pay7_at (v : FVec Ideal S256x512 .f32) (w : FVec Ideal S512x1024 .bf16) (r : Fin 256) (d : Fin 1024) :
    k0_pay7 (F := Ideal) v w (ix2 r d) = dot (row v r) (mat w) d := by
  pointwise [k0_pay7]; rfl
theorem pay8_at (v : FVec Ideal S256x512 .f32) (w : FVec Ideal S512x1024 .bf16) (r : Fin 256) (d : Fin 1024) :
    k0_pay8 (F := Ideal) v w (ix2 r d) = dot (row v r) (mat w) d := by
  pointwise [k0_pay8]; rfl
theorem pay15_at (v : FVec Ideal S256x256 .f32) (w : FVec Ideal S256x1024 .bf16) (r : Fin 256) (d : Fin 1024) :
    k0_pay15 (F := Ideal) v w (ix2 r d) = dot (row v r) (mat w) d := by
  pointwise [k0_pay15]; rfl
theorem pay16_at (v : FVec Ideal S256x256 .f32) (w : FVec Ideal S256x1024 .bf16) (r : Fin 256) (d : Fin 1024) :
    k0_pay16 (F := Ideal) v w (ix2 r d) = dot (row v r) (mat w) d := by
  pointwise [k0_pay16]; rfl

theorem pay1_at (v : FVec Ideal S256x1024 .f32) (g : FVec Ideal S1x1024 .f32) (s : FVec Ideal S256 .f32) (r : Fin 256) (d : Fin 1024)
    (hs : s (ix1 r) = ∑ k, row v r k * row v r k) : k0_pay1 (F := Ideal) v g s (ix2 r d) = rms (row v r) (row g 0) d := by
  pointwise [k0_pay1]; rw [hs]; rfl
theorem pay2_at (v : FVec Ideal S256x1024 .f32) (g : FVec Ideal S1x1024 .f32) (r : Fin 256) (d : Fin 1024) :
    k0_pay2 (F := Ideal) v g (ix2 r d) = rms (row v r) (row g 0) d := by
  pointwise [k0_pay2]; rfl
theorem pay10_at (v : FVec Ideal S256x1024 .f32) (r : Fin 256) : k0_pay10 (F := Ideal) v (ix1 r) = ∑ k, row v r k * row v r k := by
  pointwise [k0_pay10, pay3_at]
theorem pay11_at (v : FVec Ideal S256x1024 .f32) (g : FVec Ideal S1x1024 .f32) (s : FVec Ideal S256 .f32) (w : FVec Ideal S1024x2048 .bf16)
    (r : Fin 256) (d : Fin 2048) (hs : s (ix1 r) = ∑ k, row v r k * row v r k) :
    k0_pay11 (F := Ideal) v g s w (ix2 r d) = sg (dot (rms (row v r) (row g 0)) (mat w) d) := by
  pointwise [k0_pay11]; rw [hs]; rfl
theorem pay12_at (v : FVec Ideal S256x1024 .f32) (g : FVec Ideal S1x1024 .f32) (w : FVec Ideal S1024x2048 .bf16) (r : Fin 256) (d : Fin 2048) :
    k0_pay12 (F := Ideal) v g w (ix2 r d) = Ideal.exp (0 - dot (rms (row v r) (row g 0)) (mat w) d) := by
  pointwise [k0_pay12]; rfl
theorem pay13_at (x a b : FVec Ideal S256x1024 .f32) (s : FVec Ideal S256x2048 .f32) (w : FVec Ideal S1024x1024 .bf16) (r : Fin 256) (d : Fin 1024) :
    k0_pay13 (F := Ideal) x a b s w (ix2 r d) = row x r d + dot (fun k => row s r ⟨k, by omega⟩ * row a r k + row s r ⟨1024 + k, by omega⟩ * row b r k) (mat w) d := by
  pointwise [k0_pay13]; rfl
theorem pay14_at (x a b : FVec Ideal S256x1024 .f32) (s : FVec Ideal S256x2048 .f32) (w : FVec Ideal S1024x1024 .bf16) (r : Fin 256) (d : Fin 1024) :
    k0_pay14 (F := Ideal) x a b s (Scalar.ofBits .f32 0x3F800000#32) w (ix2 r d) = row x r d + dot (fun k => Ideal.div 1 (1 + row s r ⟨k, by omega⟩) * row a r k
      + Ideal.div 1 (1 + row s r ⟨1024 + k, by omega⟩) * row b r k) (mat w) d := by
  pointwise [k0_pay14]; rfl
theorem pay18_at (x a b : FVec Ideal S256x1024 .f32) (s : FVec Ideal S256x2048 .f32) (w : FVec Ideal S1024x1024 .bf16) (r : Fin 256) :
    k0_pay18 (F := Ideal) x a b s w (ix1 r) = ∑ k, row (k0_pay13 (F := Ideal) x a b s w) r k * row (k0_pay13 (F := Ideal) x a b s w) r k := by
  pointwise [k0_pay18]
theorem pay19_at (v : FVec Ideal S256x1024 .f32) (g : FVec Ideal S1x1024 .f32) (s : FVec Ideal S256 .f32) (r : Fin 256) (d : Fin 1024)
    (hs : s (ix1 r) = ∑ k, row v r k * row v r k) : k0_pay19 (F := Ideal) v g s (ix2 r d) = rms (row v r) (row g 0) d := by
  pointwise [k0_pay19]; rw [hs]; rfl
theorem pay20_at (v : FVec Ideal S256x1024 .f32) (g : FVec Ideal S1x1024 .f32) (r : Fin 256) (d : Fin 1024) :
    k0_pay20 (F := Ideal) v g (ix2 r d) = rms (row v r) (row g 0) d := by
  pointwise [k0_pay20]; rfl
theorem pay21_at (v : FVec Ideal S256x1024 .f32) (g : FVec Ideal S1x1024 .f32) (s : FVec Ideal S256 .f32) (w : FVec Ideal S1024x2816 .bf16)
    (r : Fin 256) (d : Fin 2816) : k0_pay21 (F := Ideal) v g s w (ix2 r d)
      = dot (row (k0_pay19 (F := Ideal) v g s) r) (mat w) d * sg (dot (row (k0_pay19 (F := Ideal) v g s) r) (mat w) d) := by
  pointwise [k0_pay21]; rfl
theorem pay22_at (v : FVec Ideal S256x1024 .f32) (g : FVec Ideal S1x1024 .f32) (w : FVec Ideal S1024x2816 .bf16) (r : Fin 256) (d : Fin 2816) :
    k0_pay22 (F := Ideal) v g w (ix2 r d) = dot (row (k0_pay20 (F := Ideal) v g) r) (mat w) d := by
  pointwise [k0_pay22]; rfl
theorem pay23_at (v : FVec Ideal S256x1024 .f32) (g : FVec Ideal S1x1024 .f32) (w : FVec Ideal S1024x2816 .bf16) (r : Fin 256) (d : Fin 2816) :
    k0_pay23 (F := Ideal) v g w (ix2 r d) = Ideal.exp (0 - row (k0_pay22 (F := Ideal) v g w) r d) := by
  pointwise [k0_pay23]
theorem pay24_at (h : FVec Ideal S256x1024 .f32) (u : FVec Ideal S256x1024 .bf16) (a : FVec Ideal S256x2816 .f32) (wu : FVec Ideal S1024x2816 .bf16)
    (wd : FVec Ideal S2816x1024 .bf16) (r : Fin 256) (d : Fin 1024) :
    k0_pay24 (F := Ideal) h u a wu wd (ix2 r d) = row h r d + dot (fun k => row a r k * dot (row u r) (mat wu) k) (mat wd) d := by
  pointwise [k0_pay24]; rfl
theorem pay25_at (h : FVec Ideal S256x1024 .f32) (u : FVec Ideal S256x1024 .bf16) (a e : FVec Ideal S256x2816 .f32) (wu : FVec Ideal S1024x2816 .bf16)
    (wd : FVec Ideal S2816x1024 .bf16) (r : Fin 256) (d : Fin 1024) :
    k0_pay25 (F := Ideal) h u a e wu wd (ix2 r d)
      = row h r d + dot (fun k => row a r k * Ideal.div 1 (1 + row e r k) * dot (row u r) (mat wu) k) (mat wd) d := by
  pointwise [k0_pay25]; rfl
theorem pay26_at (h : FVec Ideal S256x1024 .f32) (u : FVec Ideal S256x1024 .bf16) (a : FVec Ideal S256x2816 .f32) (wu : FVec Ideal S1024x2816 .bf16)
    (wd : FVec Ideal S2816x1024 .bf16) (g : FVec Ideal S1x1024 .f32) (r : Fin 256) (d : Fin 1024) :
    k0_pay26 (F := Ideal) h u a wu wd g (ix2 r d) = rms (row (k0_pay24 (F := Ideal) h u a wu wd) r) (row g 0) d := by
  pointwise [k0_pay26]; rfl
theorem pay27_at (p h : FVec Ideal S256x1024 .f32) (u : FVec Ideal S256x1024 .bf16) (w : FVec Ideal S1024x1024 .bf16) (r : Fin 256) (d : Fin 1024) :
    k0_pay27 (F := Ideal) p h u w (ix2 r d) = row h r d + sg (dot (row u r) (mat w) d) * row p r d := by
  pointwise [k0_pay27]; rfl
theorem pay28_at (p h : FVec Ideal S256x1024 .f32) (g : FVec Ideal S1x1024 .f32) (w : FVec Ideal S1024x1024 .bf16) (r : Fin 256) (d : Fin 1024) :
    k0_pay28 (F := Ideal) p h g w (ix2 r d) = row h r d + sg (dot (rms (row h r) (row g 0)) (mat w) d) * row p r d := by
  pointwise [k0_pay28]; rfl
theorem pay30_at (p h : FVec Ideal S256x1024 .f32) (u : FVec Ideal S256x1024 .bf16) (w : FVec Ideal S1024x1024 .bf16) (r : Fin 256) :
    k0_pay30 (F := Ideal) p h u w (ix1 r) = ∑ k, row (k0_pay27 (F := Ideal) p h u w) r k * row (k0_pay27 (F := Ideal) p h u w) r k := by
  pointwise [k0_pay30]

end Cert.KernelPostIdeal.Rows

end
-- ==== Proof.Post.Groups.lean ====
/- What the kernel stores for a row, in either of its two groups of rows, is `PostRow.post` of that row of the blocks
   it read. -/
module

public import proofs.«01_k».proof.Proof.Post.Rows

@[expose] public section

set_option maxRecDepth 16384

noncomputable section

namespace Cert.KernelPostIdeal.Rows

open Cert.KernelPostIdeal Cert.KernelPostIdeal.Gen Idealize.ShloMosaic Cert.PostRow

section Group
variable (x : FVec Ideal S256x1024 .f32) (oa ob : FVec Ideal S256x512 .f32) (p : FVec Ideal S256x256 .f32)
  (g1 g2 g3 g4 : FVec Ideal S1x1024 .f32) (wg : FVec Ideal S1024x2048 .bf16) (wa wb : FVec Ideal S512x1024 .bf16)
  (wo : FVec Ideal S1024x1024 .bf16) (fg fu : FVec Ideal S1024x2816 .bf16) (fd : FVec Ideal S2816x1024 .bf16)
  (pg : FVec Ideal S1024x1024 .bf16) (pp : FVec Ideal S256x1024 .bf16)

/-- A row after the merge, from the blocks. -/
abbrev mergeRow (r : Fin 256) : Fin 1024 → EReal :=
  merge (row g1 0) (mat wg) (mat wa) (mat wb) (mat wo) (row x r) (row oa r) (row ob r)
/-- A row after the feed-forward network, from the blocks. -/
abbrev ffnRow (r : Fin 256) : Fin 1024 → EReal :=
  ffn (row g2 0) (mat fg) (mat fu) (mat fd) (mergeRow x oa ob g1 wg wa wb wo r)
/-- A row after the layer's embedding, from the blocks. -/
abbrev pleRow (r : Fin 256) : Fin 1024 → EReal :=
  ple (row g3 0) (mat pg) (mat pp) (row p r) (ffnRow x oa ob g1 g2 wg wa wb wo fg fu fd r)

/-! ## The first group -/

/-- The first group's rows after the merge. -/
def m0 : FVec Ideal S256x1024 .f32 :=
  k0_pay13 (k0_pay3 x) (k0_pay5 oa wa) (k0_pay7 ob wb) (k0_pay11 (k0_pay3 x) (k0_pay9 g1) (k0_pay10 x) wg) wo
/-- Their sums of squares. -/
def s0 : FVec Ideal S256 .f32 :=
  k0_pay18 (k0_pay3 x) (k0_pay5 oa wa) (k0_pay7 ob wb) (k0_pay11 (k0_pay3 x) (k0_pay9 g1) (k0_pay10 x) wg) wo

theorem row_pay3 (r : Fin 256) : row (k0_pay3 (F := Ideal) x) r = row x r := funext (pay3_at x r)
theorem row_pay4 (r : Fin 256) : row (k0_pay4 (F := Ideal) x) r = row x r := funext (pay4_at x r)
theorem row_pay9 : row (k0_pay9 (F := Ideal) g1) 0 = row g1 0 := funext (pay9_at g1 0)
theorem row_pay17 : row (k0_pay17 (F := Ideal) g1) 0 = row g1 0 := funext (pay17_at g1 0)
theorem row_pay29 : row (k0_pay29 (F := Ideal) g1) 0 = row g1 0 := funext (pay29_at g1 0)

theorem m0_row (r : Fin 256) : row (m0 x oa ob g1 wg wa wb wo) r = mergeRow x oa ob g1 wg wa wb wo r := by
  funext d
  show m0 x oa ob g1 wg wa wb wo (ix2 r d) = _
  unfold m0
  rw [pay13_at, row_pay3]
  unfold mergeRow merge
  refine congrArg (row x r d + dot · (mat wo) d) (funext fun k => ?_)
  show k0_pay11 (F := Ideal) _ _ _ _ (ix2 r _) * k0_pay5 (F := Ideal) _ _ (ix2 r k) + k0_pay11 (F := Ideal) _ _ _ _ (ix2 r _) * k0_pay7 (F := Ideal) _ _ (ix2 r k) = _
  rw [pay11_at _ _ _ _ _ _ (by rw [pay10_at, row_pay3]), pay11_at _ _ _ _ _ _ (by rw [pay10_at, row_pay3]), pay5_at, pay7_at,
    row_pay3, row_pay9]

theorem s0_row (r : Fin 256) : s0 x oa ob g1 wg wa wb wo (ix1 r)
    = ∑ k, row (m0 x oa ob g1 wg wa wb wo) r k * row (m0 x oa ob g1 wg wa wb wo) r k := by
  unfold s0 m0; rw [pay18_at]

/-- The first group's normed rows, as the feed-forward network reads them. -/
def u0 : FVec Ideal S256x1024 .bf16 := k0_pay19 (m0 x oa ob g1 wg wa wb wo) (k0_pay17 g2) (s0 x oa ob g1 wg wa wb wo)

theorem u0_row (r : Fin 256) : row (u0 x oa ob g1 g2 wg wa wb wo) r = rms (mergeRow x oa ob g1 wg wa wb wo r) (row g2 0) := by
  funext d
  show u0 x oa ob g1 g2 wg wa wb wo (ix2 r d) = _
  unfold u0
  rw [pay19_at _ _ _ _ _ (s0_row ..), m0_row, row_pay17]

/-- The first group's gated hidden rows. -/
def a0 : FVec Ideal S256x2816 .f32 := k0_pay21 (m0 x oa ob g1 wg wa wb wo) (k0_pay17 g2) (s0 x oa ob g1 wg wa wb wo) fg

theorem a0_row (r : Fin 256) : row (a0 x oa ob g1 g2 wg wa wb wo fg) r
    = fun k => dot (rms (mergeRow x oa ob g1 wg wa wb wo r) (row g2 0)) (mat fg) k
        * sg (dot (rms (mergeRow x oa ob g1 wg wa wb wo r) (row g2 0)) (mat fg) k) := by
  funext d
  show a0 x oa ob g1 g2 wg wa wb wo fg (ix2 r d) = _
  unfold a0
  rw [pay21_at]
  have h := u0_row x oa ob g1 g2 wg wa wb wo r
  unfold u0 at h
  rw [h]

/-- The first group's rows after the feed-forward network. -/
def f0 : FVec Ideal S256x1024 .f32 :=
  k0_pay24 (m0 x oa ob g1 wg wa wb wo) (u0 x oa ob g1 g2 wg wa wb wo) (a0 x oa ob g1 g2 wg wa wb wo fg) fu fd

theorem f0_row (r : Fin 256) : row (f0 x oa ob g1 g2 wg wa wb wo fg fu fd) r = ffnRow x oa ob g1 g2 wg wa wb wo fg fu fd r := by
  funext d
  show f0 x oa ob g1 g2 wg wa wb wo fg fu fd (ix2 r d) = _
  unfold f0
  rw [pay24_at, m0_row, u0_row, a0_row]; rfl

/-- The first group's normed rows, as the embedding's gate reads them. -/
def v0 : FVec Ideal S256x1024 .bf16 :=
  k0_pay26 (m0 x oa ob g1 wg wa wb wo) (u0 x oa ob g1 g2 wg wa wb wo) (a0 x oa ob g1 g2 wg wa wb wo fg) fu fd g3

theorem v0_row (r : Fin 256) : row (v0 x oa ob g1 g2 g3 wg wa wb wo fg fu fd) r
    = rms (ffnRow x oa ob g1 g2 wg wa wb wo fg fu fd r) (row g3 0) := by
  funext d
  show v0 x oa ob g1 g2 g3 wg wa wb wo fg fu fd (ix2 r d) = _
  unfold v0
  rw [pay26_at]
  have h := f0_row x oa ob g1 g2 wg wa wb wo fg fu fd r
  unfold f0 at h
  rw [h]

/-- The first group's rows after the embedding. -/
def e0 : FVec Ideal S256x1024 .f32 :=
  k0_pay27 (k0_pay15 p pp) (f0 x oa ob g1 g2 wg wa wb wo fg fu fd) (v0 x oa ob g1 g2 g3 wg wa wb wo fg fu fd) pg

theorem e0_row (r : Fin 256) : row (e0 x oa ob p g1 g2 g3 wg wa wb wo fg fu fd pg pp) r
    = pleRow x oa ob p g1 g2 g3 wg wa wb wo fg fu fd pg pp r := by
  funext d
  show e0 x oa ob p g1 g2 g3 wg wa wb wo fg fu fd pg pp (ix2 r d) = _
  unfold e0
  rw [pay27_at, f0_row, v0_row]
  show _ + _ * k0_pay15 (F := Ideal) _ _ (ix2 r d) = _
  rw [pay15_at]; rfl

/-- THE FIRST GROUP: what it stores for row `r` is `post` of that row. -/
theorem group0 (r : Fin 256) (d : Fin 1024) :
    k0_pay1 (e0 x oa ob p g1 g2 g3 wg wa wb wo fg fu fd pg pp) (k0_pay29 g4)
      (k0_pay30 (k0_pay15 p pp) (f0 x oa ob g1 g2 wg wa wb wo fg fu fd) (v0 x oa ob g1 g2 g3 wg wa wb wo fg fu fd) pg) (ix2 r d)
    = post (row g1 0) (row g2 0) (row g3 0) (row g4 0) (mat wg) (mat wa) (mat wb) (mat wo) (mat fg) (mat fu) (mat fd) (mat pg) (mat pp)
        (row x r) (row oa r) (row ob r) (row p r) d := by
  rw [pay1_at _ _ _ _ _ (by rw [pay30_at]; rfl), e0_row, row_pay29]; rfl

/-! ## The second group -/

/-- The second group's rows after the merge. -/
def m1 : FVec Ideal S256x1024 .f32 :=
  k0_pay14 (k0_pay4 x) (k0_pay6 oa wa) (k0_pay8 ob wb) (k0_pay12 (k0_pay4 x) g1 wg) (Scalar.ofBits .f32 0x3F800000#32) wo

theorem m1_row (r : Fin 256) : row (m1 x oa ob g1 wg wa wb wo) r = mergeRow x oa ob g1 wg wa wb wo r := by
  funext d
  show m1 x oa ob g1 wg wa wb wo (ix2 r d) = _
  unfold m1
  rw [pay14_at, row_pay4]
  unfold mergeRow merge
  refine congrArg (row x r d + dot · (mat wo) d) (funext fun k => ?_)
  show Ideal.div 1 (1 + k0_pay12 (F := Ideal) _ _ _ (ix2 r _)) * k0_pay6 (F := Ideal) _ _ (ix2 r k) + Ideal.div 1 (1 + k0_pay12 (F := Ideal) _ _ _ (ix2 r _)) * k0_pay8 (F := Ideal) _ _ (ix2 r k) = _
  rw [pay12_at, pay12_at, pay6_at, pay8_at, row_pay4]; rfl

variable (h : FVec Ideal S256x1024 .f32)

/-- The second group's feed-forward network, of any rows `h`. -/
def f1 : FVec Ideal S256x1024 .f32 :=
  k0_pay25 h (k0_pay20 h g2) (k0_pay22 h g2 fg) (k0_pay23 h g2 fg) fu fd

theorem f1_row (r : Fin 256) : row (f1 g2 fg fu fd h) r = ffn (row g2 0) (mat fg) (mat fu) (mat fd) (row h r) := by
  have hu : row (k0_pay20 (F := Ideal) h g2) r = rms (row h r) (row g2 0) := funext fun k => pay20_at h g2 r k
  funext d
  show f1 g2 fg fu fd h (ix2 r d) = _
  unfold f1
  rw [pay25_at]
  unfold ffn
  refine congrArg (row h r d + dot · (mat fd) d) (funext fun k => ?_)
  show k0_pay22 (F := Ideal) _ _ _ (ix2 r k) * Ideal.div 1 (1 + k0_pay23 (F := Ideal) _ _ _ (ix2 r k)) * _ = _
  rw [pay23_at]
  show k0_pay22 (F := Ideal) _ _ _ (ix2 r k) * Ideal.div 1 (1 + Ideal.exp (0 - k0_pay22 (F := Ideal) _ _ _ (ix2 r k))) * _ = _
  rw [pay22_at, hu]; rfl

/-- THE SECOND GROUP: what it stores for row `r` is `post` of that row. -/
theorem group1 (r : Fin 256) (d : Fin 1024) :
    k0_pay2 (k0_pay28 (k0_pay16 p pp) (f1 g2 fg fu fd (m1 x oa ob g1 wg wa wb wo)) g3 pg) g4 (ix2 r d)
    = post (row g1 0) (row g2 0) (row g3 0) (row g4 0) (mat wg) (mat wa) (mat wb) (mat wo) (mat fg) (mat fu) (mat fd) (mat pg) (mat pp)
        (row x r) (row oa r) (row ob r) (row p r) d := by
  have he : row (k0_pay28 (F := Ideal) (k0_pay16 p pp) (f1 g2 fg fu fd (m1 x oa ob g1 wg wa wb wo)) g3 pg) r
      = pleRow x oa ob p g1 g2 g3 wg wa wb wo fg fu fd pg pp r := by
    funext k
    show k0_pay28 (F := Ideal) _ _ _ _ (ix2 r k) = _
    rw [pay28_at, f1_row, m1_row]
    show _ + _ * k0_pay16 (F := Ideal) _ _ (ix2 r k) = _
    rw [pay16_at]; rfl
  rw [pay2_at, he]; rfl

end Group

end Cert.KernelPostIdeal.Rows

end
-- ==== Proof.Post.Block.lean ====
/- What a grid point stores: each of the 512 rows of the output's block is `PostRow.post` of that row of the input blocks. -/
module

public import proofs.«01_k».proof.Proof.Post.Groups
public import proofs.«01_k».proof.Proof.Gen.KernelPostIdeal.Value
public import Idealize.ShloMosaic.Lib.Pipeline.ValueKit

@[expose] public section

set_option maxRecDepth 16384

noncomputable section

namespace Cert.KernelPostIdeal.Rows

open Cert.KernelPostIdeal Cert.KernelPostIdeal.Gen Idealize.ShloMosaic Cert.PostRow

variable (x0 : FVec Ideal S512x1024 .f32) (x1 x2 : FVec Ideal S512x512 .f32) (x3 : FVec Ideal S512x256 .f32)
  (x4 : FVec Ideal S1x1024 .f32) (x5 : FVec Ideal S1024x2048 .bf16) (x6 x7 : FVec Ideal S512x1024 .bf16)
  (x8 : FVec Ideal S1024x1024 .bf16) (x9 : FVec Ideal S1x1024 .f32) (x10 x11 : FVec Ideal S1024x2816 .bf16)
  (x12 : FVec Ideal S2816x1024 .bf16) (x13 : FVec Ideal S1x1024 .f32) (x14 : FVec Ideal S1024x1024 .bf16)
  (x15 : FVec Ideal S256x1024 .bf16) (x16 : FVec Ideal S1x1024 .f32)

/-- Row `r` of a block's result, from row `r` of the row blocks and the weights' blocks whole. -/
abbrev blockRow (r : Fin 512) : Fin 1024 → EReal :=
  post (row x4 0) (row x9 0) (row x13 0) (row x16 0) (mat x5) (mat x6) (mat x7) (mat x8) (mat x10) (mat x11) (mat x12)
    (mat x14) (mat x15) (row x0 r) (row x1 r) (row x2 r) (row x3 r)

/-- A weight that is read whole is itself. -/
theorem ld5 (v : Vec Ideal S1x1024 .f32) : View.ld v r0_5 = v := View.ld_unit_lit _ _ (by decide)
theorem ld6 (v : Vec Ideal S1024x2048 .bf16) : View.ld v r0_6 = v := View.ld_unit_lit _ _ (by decide)
theorem ld3 (v : Vec Ideal S512x1024 .bf16) : View.ld v r0_3 = v := View.ld_unit_lit _ _ (by decide)
theorem ld7 (v : Vec Ideal S1024x1024 .bf16) : View.ld v r0_7 = v := View.ld_unit_lit _ _ (by decide)
theorem ld9 (v : Vec Ideal S256x1024 .bf16) : View.ld v r0_9 = v := View.ld_unit_lit _ _ (by decide)
theorem ld11 (v : Vec Ideal S1024x2816 .bf16) : View.ld v r0_11 = v := View.ld_unit_lit _ _ (by decide)
theorem ld12 (v : Vec Ideal S2816x1024 .bf16) : View.ld v r0_12 = v := View.ld_unit_lit _ _ (by decide)

/-- A group's row of a row block is the row of the block, `256` rows further down in the second group. -/
theorem x_lo (v : FVec Ideal S512x1024 .f32) (r : Fin 256) : row (φ := .f32) (View.ld (Val := Elt Ideal) (e' := .f32) v r0_0) r = row v ⟨r.val, by omega⟩ := by
  funext d
  show View.ld (Val := Elt Ideal) (e' := .f32) v r0_0 (ix2 r d) = v (ix2 _ d)
  pointwise
theorem x_hi (v : FVec Ideal S512x1024 .f32) (r : Fin 256) : row (φ := .f32) (View.ld (Val := Elt Ideal) (e' := .f32) v r0_1) r = row v ⟨256 + r.val, by omega⟩ := by
  funext d
  show View.ld (Val := Elt Ideal) (e' := .f32) v r0_1 (ix2 r d) = v (ix2 _ d)
  pointwise
theorem o_lo (v : FVec Ideal S512x512 .f32) (r : Fin 256) : row (φ := .f32) (View.ld (Val := Elt Ideal) (e' := .f32) v r0_2) r = row v ⟨r.val, by omega⟩ := by
  funext d
  show View.ld (Val := Elt Ideal) (e' := .f32) v r0_2 (ix2 r d) = v (ix2 _ d)
  pointwise
theorem o_hi (v : FVec Ideal S512x512 .f32) (r : Fin 256) : row (φ := .f32) (View.ld (Val := Elt Ideal) (e' := .f32) v r0_4) r = row v ⟨256 + r.val, by omega⟩ := by
  funext d
  show View.ld (Val := Elt Ideal) (e' := .f32) v r0_4 (ix2 r d) = v (ix2 _ d)
  pointwise
theorem p_lo (v : FVec Ideal S512x256 .f32) (r : Fin 256) : row (φ := .f32) (View.ld (Val := Elt Ideal) (e' := .f32) v r0_8) r = row v ⟨r.val, by omega⟩ := by
  funext d
  show View.ld (Val := Elt Ideal) (e' := .f32) v r0_8 (ix2 r d) = v (ix2 _ d)
  pointwise
theorem p_hi (v : FVec Ideal S512x256 .f32) (r : Fin 256) : row (φ := .f32) (View.ld (Val := Elt Ideal) (e' := .f32) v r0_10) r = row v ⟨256 + r.val, by omega⟩ := by
  funext d
  show View.ld (Val := Elt Ideal) (e' := .f32) v r0_10 (ix2 r d) = v (ix2 _ d)
  pointwise

/-- The two stored groups of rows, each through the group's own theorem. -/
theorem out_eq (y : S512x1024.Idx) :
    out0_17 (F := Ideal) x0 x1 x2 x3 x4 x5 x6 x7 x8 x9 x10 x11 x12 x13 x14 x15 x16 y
      = blockRow x0 x1 x2 x3 x4 x5 x6 x7 x8 x9 x10 x11 x12 x13 x14 x15 x16 (y 0) (y 1) := by
  unfold out0_17 k0_pay44 k0_pay43 k0_pay42 k0_pay41 k0_pay40 k0_pay39 k0_pay38 k0_pay37 k0_pay36 k0_pay35 k0_pay34 k0_pay33 k0_pay32 k0_pay31
  simp only [ld3, ld5, ld6, ld7, ld9, ld11, ld12]
  obtain ⟨r, d, rfl⟩ : ∃ (r : Fin 512) (d : Fin 1024), y = ix2 r d := ⟨y 0, y 1, eq_ix2 y⟩
  canon_tiles x h
  · obtain ⟨a, b, rfl⟩ : ∃ (a : Fin 256) (b : Fin 1024), x = ix2 a b := ⟨x 0, x 1, eq_ix2 x⟩
    have hr : r = ⟨256 + a.val, by omega⟩ := Fin.ext h0
    have hd : d = b := Fin.ext h1
    show _ = blockRow x0 x1 x2 x3 x4 x5 x6 x7 x8 x9 x10 x11 x12 x13 x14 x15 x16 r d
    rw [hr, hd]
    have g := group1 (View.ld (Val := Elt Ideal) (e' := .f32) x0 r0_1) (View.ld (Val := Elt Ideal) (e' := .f32) x1 r0_4) (View.ld (Val := Elt Ideal) (e' := .f32) x2 r0_4) (View.ld (Val := Elt Ideal) (e' := .f32) x3 r0_10) x4 x9 x13 x16 x5 x6 x7 x8 x10 x11 x12 x14 x15 a b
    unfold f1 m1 at g
    rw [x_hi, o_hi, o_hi, p_hi] at g
    exact g
  · obtain ⟨a, b, rfl⟩ : ∃ (a : Fin 256) (b : Fin 1024), x = ix2 a b := ⟨x 0, x 1, eq_ix2 x⟩
    have hr : r = ⟨a.val, by omega⟩ := Fin.ext h0
    have hd : d = b := Fin.ext h1
    show _ = blockRow x0 x1 x2 x3 x4 x5 x6 x7 x8 x9 x10 x11 x12 x13 x14 x15 x16 r d
    rw [hr, hd]
    have g := group0 (View.ld (Val := Elt Ideal) (e' := .f32) x0 r0_0) (View.ld (Val := Elt Ideal) (e' := .f32) x1 r0_2) (View.ld (Val := Elt Ideal) (e' := .f32) x2 r0_2) (View.ld (Val := Elt Ideal) (e' := .f32) x3 r0_8) x4 x9 x13 x16 x5 x6 x7 x8 x10 x11 x12 x14 x15 a b
    unfold e0 v0 f0 a0 u0 s0 m0 at g
    rw [x_lo, o_lo, o_lo, p_lo] at g
    exact g

end Cert.KernelPostIdeal.Rows

end
-- ==== Proof.Post.Args.lean ====
/- The blocks that a grid point reads, element by element from the kernel's arguments. -/
module

public import proofs.«01_k».proof.Proof.Post.Block
public import Idealize.ShloMosaic.Lib.StableHlo.ReadAt

@[expose] public section

set_option maxRecDepth 16384

noncomputable section

namespace Cert.KernelPostIdeal.Rows

open Cert.KernelPostIdeal Cert.KernelPostIdeal.Gen Idealize.ShloMosaic Idealize.ShloMosaic.TcCoe Cert.PostRow Idealize.SL.Sem

/-- Where each window's block lies at a grid point: the row blocks move down 512 rows a point, the weights stay. -/
theorem idx : ∀ t : Fin cfg0.N,
win0_0.index t = ![t.val, 0] ∧ win0_1.index t = ![t.val, 0] ∧ win0_2.index t = ![t.val, 0] ∧ win0_3.index t = ![t.val, 0] ∧ win0_17.index t = ![t.val, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] :=
  (by decide +kernel : ∀ t : Fin grid0.N, win0_0.index t = ![t.val, 0] ∧ win0_1.index t = ![t.val, 0] ∧ win0_2.index t = ![t.val, 0] ∧ win0_3.index t = ![t.val, 0] ∧ win0_17.index t = ![t.val, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0])

variable (m : (ℓ : Loc nD τ sig) → Buf (Elt Ideal) ℓ) (c : Dev nD) (t : Fin cfg0.N)

/-- The sequence that row `r` of point `t`'s block belongs to, and its position there. -/
def seq (r : Fin 512) : Fin 8 := ⟨(t.val * 512 + r.val) / 2048, by have : t.val < 32 := t.isLt; omega⟩
def pos (r : Fin 512) : Fin 2048 := ⟨(t.val * 512 + r.val) % 2048, Nat.mod_lt _ (by decide)⟩

/-! ## The arrays that the windows read, after the host operations before the launch -/

theorem V26 (R : Fin 16384) (d : Fin 1024) : (V m c main_v26 (ix2 R d) : EReal) = m (c.tc.loc main_arg0) (ix3 ⟨R.val / 2048, by omega⟩ ⟨R.val % 2048, Nat.mod_lt _ (by decide)⟩ d) := by
  unfold V
  after_reads_at
theorem V27 (R : Fin 16384) (d : Fin 512) : (V m c main_v27 (ix2 R d) : EReal) = m (c.tc.loc main_arg1) (ix3 ⟨R.val / 2048, by omega⟩ ⟨R.val % 2048, Nat.mod_lt _ (by decide)⟩ d) := by
  unfold V
  after_reads_at
theorem V28 (R : Fin 16384) (d : Fin 512) : (V m c main_v28 (ix2 R d) : EReal) = m (c.tc.loc main_arg2) (ix3 ⟨R.val / 2048, by omega⟩ ⟨R.val % 2048, Nat.mod_lt _ (by decide)⟩ d) := by
  unfold V
  after_reads_at
theorem V30 (R : Fin 16384) (d : Fin 256) : (V m c main_v30 (ix2 R d) : EReal) = m (c.tc.loc main_arg3) (ix4 0 ⟨R.val / 2048, by omega⟩ ⟨R.val % 2048, Nat.mod_lt _ (by decide)⟩ d) := by
  unfold V
  after_reads_at
theorem V4 (d : Fin 1024) : (V m c main_v4 (ix2 0 d) : EReal) = m (c.tc.loc main_arg4) (ix2 0 d) := by
  unfold V
  after_reads_at
theorem V12 (d : Fin 1024) : (V m c main_v12 (ix2 0 d) : EReal) = m (c.tc.loc main_arg9) (ix2 0 d) := by
  unfold V
  after_reads_at
theorem V20 (d : Fin 1024) : (V m c main_v20 (ix2 0 d) : EReal) = m (c.tc.loc main_arg13) (ix2 0 d) := by
  unfold V
  after_reads_at
theorem V25 (d : Fin 1024) : (V m c main_v25 (ix2 0 d) : EReal) = m (c.tc.loc main_arg16) (ix1 d) := by
  unfold V
  after_reads_at
theorem V2 (j : Fin 1024) (k : Fin 2048) : (V m c main_v2 (ix2 j k) : EReal) = m (c.tc.loc main_arg5) (ix3 0 j ⟨3848 + k.val, by omega⟩) := by
  unfold V
  after_reads_at
theorem V6 (j : Fin 512) (k : Fin 1024) : (V m c main_v6 (ix2 j k) : EReal) = m (c.tc.loc main_arg6) (ix3 0 j k) := by
  unfold V
  after_reads_at
theorem V8 (j : Fin 512) (k : Fin 1024) : (V m c main_v8 (ix2 j k) : EReal) = m (c.tc.loc main_arg7) (ix3 0 j k) := by
  unfold V
  after_reads_at
theorem V10 (j : Fin 1024) (k : Fin 1024) : (V m c main_v10 (ix2 j k) : EReal) = m (c.tc.loc main_arg8) (ix3 0 j k) := by
  unfold V
  after_reads_at
theorem V14 (j : Fin 1024) (k : Fin 2816) : (V m c main_v14 (ix2 j k) : EReal) = m (c.tc.loc main_arg10) (ix3 0 j k) := by
  unfold V
  after_reads_at
theorem V16 (j : Fin 1024) (k : Fin 2816) : (V m c main_v16 (ix2 j k) : EReal) = m (c.tc.loc main_arg11) (ix3 0 j k) := by
  unfold V
  after_reads_at
theorem V18 (j : Fin 2816) (k : Fin 1024) : (V m c main_v18 (ix2 j k) : EReal) = m (c.tc.loc main_arg12) (ix3 0 j k) := by
  unfold V
  after_reads_at
theorem V22 (j : Fin 1024) (k : Fin 1024) : (V m c main_v22 (ix2 j k) : EReal) = m (c.tc.loc main_arg14) (ix3 0 j k) := by
  unfold V
  after_reads_at
theorem V24 (j : Fin 256) (k : Fin 1024) : (V m c main_v24 (ix2 j k) : EReal) = m (c.tc.loc main_arg15) (ix3 0 j k) := by
  unfold V
  after_reads_at

/-! ## The blocks -/

theorem ib0 (r : Fin 512) (d : Fin 1024) : (iblk m c 0 t (ix2 r d) : EReal) = m (c.tc.loc main_arg0) (ix3 (seq t r) (pos t r) d) := by
  have e : (iblk m c 0 t (ix2 r d) : EReal) = V m c main_v26 (ix2 ⟨t.val * 512 + r.val, by have : t.val < 32 := t.isLt; omega⟩ d) := by blk_ext [iblk, idx t]
  exact e.trans (V26 m c _ d)
theorem ib1 (r : Fin 512) (d : Fin 512) : (iblk m c 1 t (ix2 r d) : EReal) = m (c.tc.loc main_arg1) (ix3 (seq t r) (pos t r) d) := by
  have e : (iblk m c 1 t (ix2 r d) : EReal) = V m c main_v27 (ix2 ⟨t.val * 512 + r.val, by have : t.val < 32 := t.isLt; omega⟩ d) := by blk_ext [iblk, idx t]
  exact e.trans (V27 m c _ d)
theorem ib2 (r : Fin 512) (d : Fin 512) : (iblk m c 2 t (ix2 r d) : EReal) = m (c.tc.loc main_arg2) (ix3 (seq t r) (pos t r) d) := by
  have e : (iblk m c 2 t (ix2 r d) : EReal) = V m c main_v28 (ix2 ⟨t.val * 512 + r.val, by have : t.val < 32 := t.isLt; omega⟩ d) := by blk_ext [iblk, idx t]
  exact e.trans (V28 m c _ d)
theorem ib3 (r : Fin 512) (d : Fin 256) : (iblk m c 3 t (ix2 r d) : EReal) = m (c.tc.loc main_arg3) (ix4 0 (seq t r) (pos t r) d) := by
  have e : (iblk m c 3 t (ix2 r d) : EReal) = V m c main_v30 (ix2 ⟨t.val * 512 + r.val, by have : t.val < 32 := t.isLt; omega⟩ d) := by blk_ext [iblk, idx t]
  exact e.trans (V30 m c _ d)
theorem ib4 (d : Fin 1024) : (iblk m c 4 t (ix2 0 d) : EReal) = m (c.tc.loc main_arg4) (ix2 0 d) := by
  have e : (iblk m c 4 t (ix2 0 d) : EReal) = V m c main_v4 (ix2 0 d) := by blk_ext [iblk, idx t]
  exact e.trans (V4 m c d)
theorem ib9 (d : Fin 1024) : (iblk m c 9 t (ix2 0 d) : EReal) = m (c.tc.loc main_arg9) (ix2 0 d) := by
  have e : (iblk m c 9 t (ix2 0 d) : EReal) = V m c main_v12 (ix2 0 d) := by blk_ext [iblk, idx t]
  exact e.trans (V12 m c d)
theorem ib13 (d : Fin 1024) : (iblk m c 13 t (ix2 0 d) : EReal) = m (c.tc.loc main_arg13) (ix2 0 d) := by
  have e : (iblk m c 13 t (ix2 0 d) : EReal) = V m c main_v20 (ix2 0 d) := by blk_ext [iblk, idx t]
  exact e.trans (V20 m c d)
theorem ib16 (d : Fin 1024) : (iblk m c 16 t (ix2 0 d) : EReal) = m (c.tc.loc main_arg16) (ix1 d) := by
  have e : (iblk m c 16 t (ix2 0 d) : EReal) = V m c main_v25 (ix2 0 d) := by blk_ext [iblk, idx t]
  exact e.trans (V25 m c d)
theorem ib5 (j : Fin 1024) (k : Fin 2048) : (iblk m c 5 t (ix2 j k) : EReal) = m (c.tc.loc main_arg5) (ix3 0 j ⟨3848 + k.val, by omega⟩) := by
  have e : (iblk m c 5 t (ix2 j k) : EReal) = V m c main_v2 (ix2 j k) := by blk_ext [iblk, idx t]
  exact e.trans (V2 m c j k)
theorem ib6 (j : Fin 512) (k : Fin 1024) : (iblk m c 6 t (ix2 j k) : EReal) = m (c.tc.loc main_arg6) (ix3 0 j k) := by
  have e : (iblk m c 6 t (ix2 j k) : EReal) = V m c main_v6 (ix2 j k) := by blk_ext [iblk, idx t]
  exact e.trans (V6 m c j k)
theorem ib7 (j : Fin 512) (k : Fin 1024) : (iblk m c 7 t (ix2 j k) : EReal) = m (c.tc.loc main_arg7) (ix3 0 j k) := by
  have e : (iblk m c 7 t (ix2 j k) : EReal) = V m c main_v8 (ix2 j k) := by blk_ext [iblk, idx t]
  exact e.trans (V8 m c j k)
theorem ib8 (j : Fin 1024) (k : Fin 1024) : (iblk m c 8 t (ix2 j k) : EReal) = m (c.tc.loc main_arg8) (ix3 0 j k) := by
  have e : (iblk m c 8 t (ix2 j k) : EReal) = V m c main_v10 (ix2 j k) := by blk_ext [iblk, idx t]
  exact e.trans (V10 m c j k)
theorem ib10 (j : Fin 1024) (k : Fin 2816) : (iblk m c 10 t (ix2 j k) : EReal) = m (c.tc.loc main_arg10) (ix3 0 j k) := by
  have e : (iblk m c 10 t (ix2 j k) : EReal) = V m c main_v14 (ix2 j k) := by blk_ext [iblk, idx t]
  exact e.trans (V14 m c j k)
theorem ib11 (j : Fin 1024) (k : Fin 2816) : (iblk m c 11 t (ix2 j k) : EReal) = m (c.tc.loc main_arg11) (ix3 0 j k) := by
  have e : (iblk m c 11 t (ix2 j k) : EReal) = V m c main_v16 (ix2 j k) := by blk_ext [iblk, idx t]
  exact e.trans (V16 m c j k)
theorem ib12 (j : Fin 2816) (k : Fin 1024) : (iblk m c 12 t (ix2 j k) : EReal) = m (c.tc.loc main_arg12) (ix3 0 j k) := by
  have e : (iblk m c 12 t (ix2 j k) : EReal) = V m c main_v18 (ix2 j k) := by blk_ext [iblk, idx t]
  exact e.trans (V18 m c j k)
theorem ib14 (j : Fin 1024) (k : Fin 1024) : (iblk m c 14 t (ix2 j k) : EReal) = m (c.tc.loc main_arg14) (ix3 0 j k) := by
  have e : (iblk m c 14 t (ix2 j k) : EReal) = V m c main_v22 (ix2 j k) := by blk_ext [iblk, idx t]
  exact e.trans (V22 m c j k)
theorem ib15 (j : Fin 256) (k : Fin 1024) : (iblk m c 15 t (ix2 j k) : EReal) = m (c.tc.loc main_arg15) (ix3 0 j k) := by
  have e : (iblk m c 15 t (ix2 j k) : EReal) = V m c main_v24 (ix2 j k) := by blk_ext [iblk, idx t]
  exact e.trans (V24 m c j k)

/-! ## The result -/

/-- The kernel's result as one function of its arguments. -/
def G : FVec Ideal S16384x1024 .f32 := fun i =>
  out (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16))
    ⟨(i 0).val / 2048, by have := (i 0).isLt; change (i 0).val < 16384 at this; omega⟩ ⟨(i 0).val % 2048, Nat.mod_lt _ (by decide)⟩ (i 1)

/-- A row of point `t`'s block is the output at that row's sequence and position. -/
theorem blockRow_eq (r : Fin 512) (d : Fin 1024) :
    blockRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) r d
      = out (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) (seq t r) (pos t r) d := by
  have e0 : row (φ := .f32) (iblk m c 0 t) r = fun k => m (c.tc.loc main_arg0) (ix3 (seq t r) (pos t r) k) := funext (ib0 m c t r)
  have e1 : row (φ := .f32) (iblk m c 1 t) r = fun k => m (c.tc.loc main_arg1) (ix3 (seq t r) (pos t r) k) := funext (ib1 m c t r)
  have e2 : row (φ := .f32) (iblk m c 2 t) r = fun k => m (c.tc.loc main_arg2) (ix3 (seq t r) (pos t r) k) := funext (ib2 m c t r)
  have e3 : row (φ := .f32) (iblk m c 3 t) r = fun k => m (c.tc.loc main_arg3) (ix4 0 (seq t r) (pos t r) k) := funext (ib3 m c t r)
  have e4 : row (φ := .f32) (iblk m c 4 t) 0 = fun k => m (c.tc.loc main_arg4) (ix2 0 k) := funext (ib4 m c t)
  have e9 : row (φ := .f32) (iblk m c 9 t) 0 = fun k => m (c.tc.loc main_arg9) (ix2 0 k) := funext (ib9 m c t)
  have e13 : row (φ := .f32) (iblk m c 13 t) 0 = fun k => m (c.tc.loc main_arg13) (ix2 0 k) := funext (ib13 m c t)
  have e16 : row (φ := .f32) (iblk m c 16 t) 0 = fun k => m (c.tc.loc main_arg16) (ix1 k) := funext (ib16 m c t)
  have e5 : mat (φ := .bf16) (iblk m c 5 t) = fun j k => m (c.tc.loc main_arg5) (ix3 0 j ⟨3848 + k.val, by omega⟩) := funext fun j => funext (ib5 m c t j)
  have e6 : mat (φ := .bf16) (iblk m c 6 t) = fun j k => m (c.tc.loc main_arg6) (ix3 0 j k) := funext fun j => funext (ib6 m c t j)
  have e7 : mat (φ := .bf16) (iblk m c 7 t) = fun j k => m (c.tc.loc main_arg7) (ix3 0 j k) := funext fun j => funext (ib7 m c t j)
  have e8 : mat (φ := .bf16) (iblk m c 8 t) = fun j k => m (c.tc.loc main_arg8) (ix3 0 j k) := funext fun j => funext (ib8 m c t j)
  have e10 : mat (φ := .bf16) (iblk m c 10 t) = fun j k => m (c.tc.loc main_arg10) (ix3 0 j k) := funext fun j => funext (ib10 m c t j)
  have e11 : mat (φ := .bf16) (iblk m c 11 t) = fun j k => m (c.tc.loc main_arg11) (ix3 0 j k) := funext fun j => funext (ib11 m c t j)
  have e12 : mat (φ := .bf16) (iblk m c 12 t) = fun j k => m (c.tc.loc main_arg12) (ix3 0 j k) := funext fun j => funext (ib12 m c t j)
  have e14 : mat (φ := .bf16) (iblk m c 14 t) = fun j k => m (c.tc.loc main_arg14) (ix3 0 j k) := funext fun j => funext (ib14 m c t j)
  have e15 : mat (φ := .bf16) (iblk m c 15 t) = fun j k => m (c.tc.loc main_arg15) (ix3 0 j k) := funext fun j => funext (ib15 m c t j)
  unfold blockRow out
  rw [e0, e1, e2, e3, e4, e5, e6, e7, e8, e9, e10, e11, e12, e13, e14, e15, e16]

end Cert.KernelPostIdeal.Rows

end
-- ==== Proof.Post.Final.lean ====
/- The kernel's result array is `G`. -/
module

public import proofs.«01_k».proof.Proof.Post.Args

@[expose] public section

set_option maxRecDepth 16384

noncomputable section

namespace Cert.KernelPostIdeal.Rows

open Cert.KernelPostIdeal Cert.KernelPostIdeal.Gen Idealize.ShloMosaic Idealize.ShloMosaic.TcCoe Cert.PostRow Idealize.SL.Sem

variable (m : (ℓ : Loc nD τ sig) → Buf (Elt Ideal) ℓ) (c : Dev nD)

/-- `G` at row `r` of point `t`'s block. -/
theorem G_at (t : Fin cfg0.N) (r : Fin 512) (d : Fin 1024) (j : S16384x1024.Idx) (h0 : (j 0).val = t.val * 512 + r.val)
    (h1 : (j 1).val = d.val) : G m c j = out (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) (seq t r) (pos t r) d := by
  unfold G
  have hb : (⟨(j 0).val / 2048, by have := (j 0).isLt; change (j 0).val < 16384 at this; omega⟩ : Fin 8) = seq t r :=
    Fin.ext (by show (j 0).val / 2048 = _; rw [h0]; rfl)
  have hs : (⟨(j 0).val % 2048, Nat.mod_lt _ (by decide)⟩ : Fin 2048) = pos t r :=
    Fin.ext (by show (j 0).val % 2048 = _; rw [h0]; rfl)
  have hd : (j 1 : Fin 1024) = d := Fin.ext h1
  rw [hb, hs, hd]

/-- THE KERNEL'S RESULT: the blocks that the 32 points write fill the array, and it is `G`. -/
theorem final : (dats m 0 c).arrAt 17 cfg0.N = G m c := by
  refine (dats m 0 c).arrAt_eq_of_covers 17 _ (by decide +kernel) fun t hf y => ?_
  blk_simp
  rw [after0_17]
  obtain ⟨r, d, rfl⟩ : ∃ (r : Fin 512) (d : Fin 1024), y = ix2 r d := ⟨y 0, y 1, eq_ix2 y⟩
  refine (out_eq _ _ _ _ _ _ _ _ _ _ _ _ _ _ _ _ _ _).trans ?_
  refine (blockRow_eq m c t r d).trans ?_
  refine (G_at m c t r d _ ?_ ?_).symm
  · blk_simp [idx t]
  · blk_simp [idx t]

end Cert.KernelPostIdeal.Rows

end
-- ==== Proof.Post.Ref.lean ====
/- The reference's result, element by element: it is `PostRow.out` of its arguments. -/
module

public import proofs.«01_k».proof.Proof.Post.Rows
public import proofs.«01_k».proof.Proof.Gen.ReferencePostIdeal.Run
public import Idealize.ShloMosaic.Lib.Tactic.CleanTypes

@[expose] public section

set_option maxRecDepth 16384

noncomputable section

namespace Cert.ReferencePostIdeal.Rows

open Cert.ReferencePostIdeal Cert.ReferencePostIdeal.Gen Cert.ReferencePostIdeal.Value Idealize.ShloMosaic Idealize.ShloMosaic.TcCoe Cert.PostRow Idealize.SL.Sem

variable (V0 : Valuation τ sig (Elt Ideal))

/-- The gates' columns of the normalised input's projection. -/
theorem v16 (b : Fin 8) (s : Fin 2048) (k : Fin 2048) :
    (res_main_v16 V0 (ix3 b s k) : EReal)
      = dot (rms (fun j => V0 (Proc.devRef .tc main_arg0) (ix3 b s j)) (fun j => V0 (Proc.devRef .tc main_arg4) (ix2 0 j)))
          (fun j k => V0 (Proc.devRef .tc main_arg5) (ix3 0 j ⟨3848 + k.val, by omega⟩)) k := by
  unfold res_main_v16
  clean_types
  pointwise
  rfl

/-- A position's row after the merge. -/
abbrev mergeAt (b : Fin 8) (s : Fin 2048) : Fin 1024 → EReal :=
  merge (fun j => V0 (Proc.devRef .tc main_arg4) (ix2 0 j)) (fun j k => V0 (Proc.devRef .tc main_arg5) (ix3 0 j ⟨3848 + k.val, by omega⟩)) (fun j k => V0 (Proc.devRef .tc main_arg6) (ix3 0 j k)) (fun j k => V0 (Proc.devRef .tc main_arg7) (ix3 0 j k)) (fun j k => V0 (Proc.devRef .tc main_arg8) (ix3 0 j k)) (fun k => V0 (Proc.devRef .tc main_arg0) (ix3 b s k)) (fun k => V0 (Proc.devRef .tc main_arg1) (ix3 b s k)) (fun k => V0 (Proc.devRef .tc main_arg2) (ix3 b s k))

/-- A position's row after the feed-forward network. -/
abbrev ffnAt (b : Fin 8) (s : Fin 2048) : Fin 1024 → EReal :=
  ffn (fun j => V0 (Proc.devRef .tc main_arg9) (ix2 0 j)) (fun j k => V0 (Proc.devRef .tc main_arg10) (ix3 0 j k)) (fun j k => V0 (Proc.devRef .tc main_arg11) (ix3 0 j k)) (fun j k => V0 (Proc.devRef .tc main_arg12) (ix3 0 j k)) (mergeAt V0 b s)

/-- A position's row after the layer's embedding. -/
abbrev pleAt (b : Fin 8) (s : Fin 2048) : Fin 1024 → EReal :=
  ple (fun j => V0 (Proc.devRef .tc main_arg13) (ix2 0 j)) (fun j k => V0 (Proc.devRef .tc main_arg14) (ix3 0 j k)) (fun j k => V0 (Proc.devRef .tc main_arg15) (ix3 0 j k)) (fun k => V0 (Proc.devRef .tc main_arg3) (ix4 0 b s k)) (ffnAt V0 b s)

theorem v40 (b : Fin 8) (s : Fin 2048) (d : Fin 1024) : (res_main_v40 V0 (ix3 b s d) : EReal) = mergeAt V0 b s d := by
  unfold res_main_v40
  clean_types
  pointwise
  simp only [v16]
  unfold mergeAt merge sg
  simp only [zero_sub]
  rfl

theorem v54 (b : Fin 8) (s : Fin 2048) (d : Fin 1024) :
    (res_main_v54 V0 (ix3 b s d) : EReal) = rms (mergeAt V0 b s) (fun j => V0 (Proc.devRef .tc main_arg9) (ix2 0 j)) d := by
  unfold res_main_v54
  clean_types
  pointwise
  simp only [v40]
  rfl

theorem v56 (b : Fin 8) (s : Fin 2048) (d : Fin 2816) :
    (res_main_v56 V0 (ix3 b s d) : EReal) = dot (rms (mergeAt V0 b s) (fun j => V0 (Proc.devRef .tc main_arg9) (ix2 0 j))) (fun j k => V0 (Proc.devRef .tc main_arg10) (ix3 0 j k)) d := by
  unfold res_main_v56
  clean_types
  pointwise
  simp only [v54]
  rfl

theorem v63 (b : Fin 8) (s : Fin 2048) (d : Fin 1024) : (res_main_v63 V0 (ix3 b s d) : EReal) = ffnAt V0 b s d := by
  unfold res_main_v63
  clean_types
  pointwise
  simp only [v54, v56, v40]
  unfold ffnAt ffn sg
  simp only [zero_sub]
  rfl

theorem v90 (b : Fin 8) (s : Fin 2048) (d : Fin 1024) : (res_main_v90 V0 (ix3 b s d) : EReal) = pleAt V0 b s d := by
  unfold res_main_v90
  clean_types
  pointwise
  simp only [v63]
  unfold pleAt ple sg
  simp only [zero_sub]
  rfl

/-- THE REFERENCE'S RESULT at row `R`: `out` at that row's sequence and position. -/
theorem v104 (R : Fin 16384) (d : Fin 1024) :
    ((shapeCast S16384x1024 (mulf (mulf (res_main_v90 V0) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (res_main_v90 V0) (res_main_v90 V0)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (V0 (Proc.devRef .tc main_arg16))))) shapeCasts_S8x2048x1024_S16384x1024 : FVec Ideal S16384x1024 .f32) (ix2 R d) : EReal)
      = out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) ⟨R.val / 2048, by omega⟩ ⟨R.val % 2048, Nat.mod_lt _ (by decide)⟩ d := by
  clean_types
  pointwise
  simp only [v90]
  rfl

end Cert.ReferencePostIdeal.Rows

end
-- ==== Proof.Post.Claim.lean ====
/- The value claim of the layer's second half: the kernel's result and the reference's are the same array. -/
module

public import proofs.«01_k».proof.Defs
public import proofs.«01_k».proof.Proof.Post.Final
public import proofs.«01_k».proof.Proof.Post.Ref

@[expose] public section

set_option maxRecDepth 16384

noncomputable section

namespace Cert.PostRow

open Idealize.ShloMosaic Idealize.ShloMosaic.TcCoe Idealize.SL.Sem

/-- The kernel's result is the reference's, whatever the arguments. -/
theorem algebraic : Cert.algebraic_KernelPostIdeal_ReferencePostIdeal
    (hKernelPostIdeal := Cert.KernelPostIdeal.Gen.facts) (hReferencePostIdeal := Cert.ReferencePostIdeal.Gen.facts) := by
  intro m g m' g' _ hagree
  refine ⟨fun c => Cert.KernelPostIdeal.Rows.G m c,
    (θ_run Cert.KernelPostIdeal.defs _ _).mono (fun r h c => ⟨(h c).1.trans (Cert.KernelPostIdeal.Rows.final m c), (h c).2⟩)
      (Cert.KernelPostIdeal.Value.run_blocks m g),
    (θ_run Cert.ReferencePostIdeal.defs _ _).mono (fun r h c => ⟨(h c).1.trans ?_, (h c).2⟩) (Cert.ReferencePostIdeal.Value.run m' g')⟩
  obtain ⟨a0, a1, a2, a3, a4, a5, a6, a7, a8, a9, a10, a11, a12, a13, a14, a15, a16⟩ := hagree c
  funext i
  obtain ⟨R, d, rfl⟩ : ∃ (R : Fin 16384) (d : Fin 1024), i = ix2 R d := ⟨i 0, i 1, eq_ix2 i⟩
  refine (Cert.ReferencePostIdeal.Rows.v104 (StableHlo.launchContents m' c) R d).trans ?_
  show out (m' (c.tc.loc Cert.ReferencePostIdeal.main_arg0)) (m' (c.tc.loc Cert.ReferencePostIdeal.main_arg1)) (m' (c.tc.loc Cert.ReferencePostIdeal.main_arg2)) (m' (c.tc.loc Cert.ReferencePostIdeal.main_arg3)) (m' (c.tc.loc Cert.ReferencePostIdeal.main_arg4)) (m' (c.tc.loc Cert.ReferencePostIdeal.main_arg5)) (m' (c.tc.loc Cert.ReferencePostIdeal.main_arg6)) (m' (c.tc.loc Cert.ReferencePostIdeal.main_arg7)) (m' (c.tc.loc Cert.ReferencePostIdeal.main_arg8)) (m' (c.tc.loc Cert.ReferencePostIdeal.main_arg9)) (m' (c.tc.loc Cert.ReferencePostIdeal.main_arg10)) (m' (c.tc.loc Cert.ReferencePostIdeal.main_arg11)) (m' (c.tc.loc Cert.ReferencePostIdeal.main_arg12)) (m' (c.tc.loc Cert.ReferencePostIdeal.main_arg13)) (m' (c.tc.loc Cert.ReferencePostIdeal.main_arg14)) (m' (c.tc.loc Cert.ReferencePostIdeal.main_arg15)) (m' (c.tc.loc Cert.ReferencePostIdeal.main_arg16)) _ _ _ = _
  rw [a0, a1, a2, a3, a4, a5, a6, a7, a8, a9, a10, a11, a12, a13, a14, a15, a16]
  rfl

end Cert.PostRow

end
-- ==== Proof.In.Spec.lean ====
/- The input projection of one row: the row scaled to unit mean square, times a gain, times the weight. -/
module

public import Idealize.ShloMosaic.Lib.Pointwise

@[expose] public section

set_option maxRecDepth 16384

noncomputable section

namespace Cert.InRow

open Idealize.ShloMosaic

/-- 1024, as the programs write it. -/
abbrev width : EReal := Ideal.ofBits .f32 0x44800000#32
/-- The small constant under the root of a norm. -/
abbrev eps : EReal := Ideal.ofBits .f32 0x358637BD#32
/-- One row scaled to unit mean square, times a gain. -/
def rms (x g : Fin 1024 → EReal) (d : Fin 1024) : EReal :=
  x d * Ideal.rsqrt (Ideal.div (∑ k, x k * x k) width + eps) * g d

/-- Column `k` of sequence `b`'s projected row. -/
def proj (x : FVec Ideal ⟨3, ![128, 1, 1024]⟩ .f32) (g : FVec Ideal ⟨2, ![1, 1024]⟩ .f32) (w : FVec Ideal ⟨3, ![1, 1024, 5896]⟩ .f32)
    (b : Fin 128) (k : Fin 5896) : EReal :=
  ∑ j, rms (fun j => x (ix3 b 0 j)) (fun j => g (ix2 0 j)) j * w (ix3 0 j k)

/-- The convolution's kept rows: the last two of the old ones, then the new one. -/
def kept (x : FVec Ideal ⟨3, ![128, 1, 1024]⟩ .f32) (cv : FVec Ideal ⟨4, ![1, 128, 3, 1536]⟩ .f32) (g : FVec Ideal ⟨2, ![1, 1024]⟩ .f32)
    (w : FVec Ideal ⟨3, ![1, 1024, 5896]⟩ .f32) (b : Fin 128) (s : Fin 3) (d : Fin 1536) : EReal :=
  if h : s.val < 2 then cv (ix4 0 b ⟨s.val + 1, by omega⟩ d) else proj x g w b ⟨1792 + d.val, by omega⟩

end Cert.InRow

end
-- ==== Proof.In.Block.lean ====
/- The kernel's four results, element by element. -/
module

public import proofs.«01_k».proof.Proof.In.Spec
public import proofs.«01_k».proof.Proof.Gen.KernelInIdeal.Frame
public import Idealize.ShloMosaic.Lib.Pipeline.ValueKit
public import Idealize.ShloMosaic.Lib.StableHlo.ReadAt

@[expose] public section

set_option maxRecDepth 16384

noncomputable section

namespace Cert.KernelInIdeal.Rows

open Cert.KernelInIdeal Cert.KernelInIdeal.Gen Idealize.ShloMosaic Idealize.ShloMosaic.TcCoe Cert.InRow Idealize.SL.Sem

/-- The one point's blocks are the whole arrays. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0])

variable (m : (ℓ : Loc nD τ sig) → Buf (Elt Ideal) ℓ) (c : Dev nD) (t : Fin cfg0.N)

theorem V3 (b : Fin 128) (j : Fin 1024) : (V m c main_v3 (ix2 b j) : EReal) = m (c.tc.loc main_arg0) (ix3 b 0 j) := by
  unfold V
  after_reads_at
theorem V5 (j : Fin 1024) : (V m c main_v5 (ix2 0 j) : EReal) = m (c.tc.loc main_arg2) (ix2 0 j) := by
  unfold V
  after_reads_at
theorem V2 (j : Fin 1024) (k : Fin 3968) : (V m c main_v2 (ix2 j k) : EReal) = m (c.tc.loc main_arg3) (ix3 0 j ⟨k.val, by omega⟩) := by
  unfold V
  after_reads_at
theorem ib0 (b : Fin 128) (j : Fin 1024) : (iblk m c 0 t (ix2 b j) : EReal) = m (c.tc.loc main_arg0) (ix3 b 0 j) := by
  have e : (iblk m c 0 t (ix2 b j) : EReal) = V m c main_v3 (ix2 b j) := by blk_ext [iblk, idx t]
  exact e.trans (V3 m c b j)
theorem ib1 (j : Fin 1024) : (iblk m c 1 t (ix2 0 j) : EReal) = m (c.tc.loc main_arg2) (ix2 0 j) := by
  have e : (iblk m c 1 t (ix2 0 j) : EReal) = V m c main_v5 (ix2 0 j) := by blk_ext [iblk, idx t]
  exact e.trans (V5 m c j)
theorem ib2 (j : Fin 1024) (k : Fin 3968) : (iblk m c 2 t (ix2 j k) : EReal) = m (c.tc.loc main_arg3) (ix3 0 j ⟨k.val, by omega⟩) := by
  have e : (iblk m c 2 t (ix2 j k) : EReal) = V m c main_v2 (ix2 j k) := by blk_ext [iblk, idx t]
  exact e.trans (V2 m c j k)

/-- A row's product with the columns of the weight. -/
abbrev mm (x0 : FVec Ideal S128x1024 .f32) (x1 : FVec Ideal S1x1024 .f32) (x2 : FVec Ideal S1024x3968 .bf16) (b : Fin 128) (k : Fin 3968) : EReal :=
  ∑ j : Fin 1024, rms (fun j => x0 (ix2 b j)) (fun j => x1 (ix2 0 j)) j * x2 (ix2 j k)

theorem mm_eq (b : Fin 128) (k : Fin 3968) : mm (iblk m c 0 t) (iblk m c 1 t) (iblk m c 2 t) b k
    = proj (m (c.tc.loc main_arg0)) (m (c.tc.loc main_arg2)) (m (c.tc.loc main_arg3)) b ⟨k.val, by omega⟩ := by
  unfold mm
  rw [show (fun j => iblk m c 0 t (ix2 b j) : Fin 1024 → EReal) = fun j => m (c.tc.loc main_arg0) (ix3 b 0 j) from funext fun j => ib0 m c t b j,
    show (fun j => iblk m c 1 t (ix2 0 j) : Fin 1024 → EReal) = fun j => m (c.tc.loc main_arg2) (ix2 0 j) from funext fun j => ib1 m c t j]
  exact Finset.sum_congr rfl fun j _ => congrArg _ (ib2 m c t j k)

theorem ld0 (v : Vec Ideal S128x1024 .f32) : View.ld v r0_0 = v := View.ld_unit_lit _ _ (by decide)
theorem ld1 (v : Vec Ideal S1x1024 .f32) : View.ld v r0_1 = v := View.ld_unit_lit _ _ (by decide)

variable (x0 : FVec Ideal S128x1024 .f32) (x1 : FVec Ideal S1x1024 .f32) (x2 : FVec Ideal S1024x3968 .bf16)

theorem ldw3 (j : Fin 1024) (k : Fin 1792) : (View.ld (Val := Elt Ideal) (e' := .bf16) x2 r0_2 (ix2 j k) : EReal) = x2 (ix2 j ⟨k.val, by omega⟩) := by
  show View.ld (Val := Elt Ideal) (e' := .bf16) x2 r0_2 (ix2 j k) = x2 (ix2 j _)
  pointwise
theorem out3 (b : Fin 128) (k : Fin 1792) : (out0_3 (F := Ideal) x0 x1 x2 (ix2 b k) : EReal) = mm x0 x1 x2 b ⟨k.val, by omega⟩ := by
  unfold out0_3
  rw [ld0, ld1]
  canon_tiles x h
  obtain ⟨a, d, rfl⟩ : ∃ (a : Fin 128) (d : Fin 1792), x = ix2 a d := ⟨x 0, x 1, eq_ix2 x⟩
  have hr : b = a := Fin.ext h0
  have hd : k = d := Fin.ext h1
  rw [hr, hd]
  generalize hv : View.ld (Val := Elt Ideal) (e' := .bf16) x2 r0_2 = v
  pointwise [k0_pay3, k0_pay2]
  subst hv
  exact Finset.sum_congr rfl fun j _ => congrArg (fun z : EReal => rms (fun j => x0 (ix2 a j)) (fun j => x1 (ix2 0 j)) j * z) (ldw3 x2 j d)
theorem ldw4 (j : Fin 1024) (k : Fin 1536) : (View.ld (Val := Elt Ideal) (e' := .bf16) x2 r0_4 (ix2 j k) : EReal) = x2 (ix2 j ⟨1792 + k.val, by omega⟩) := by
  show View.ld (Val := Elt Ideal) (e' := .bf16) x2 r0_4 (ix2 j k) = x2 (ix2 j _)
  pointwise
theorem out4 (b : Fin 128) (k : Fin 1536) : (out0_4 (F := Ideal) x0 x1 x2 (ix2 b k) : EReal) = mm x0 x1 x2 b ⟨1792 + k.val, by omega⟩ := by
  unfold out0_4
  rw [ld0, ld1]
  canon_tiles x h
  obtain ⟨a, d, rfl⟩ : ∃ (a : Fin 128) (d : Fin 1536), x = ix2 a d := ⟨x 0, x 1, eq_ix2 x⟩
  have hr : b = a := Fin.ext h0
  have hd : k = d := Fin.ext h1
  rw [hr, hd]
  generalize hv : View.ld (Val := Elt Ideal) (e' := .bf16) x2 r0_4 = v
  pointwise [k0_pay4, k0_pay2]
  subst hv
  exact Finset.sum_congr rfl fun j _ => congrArg (fun z : EReal => rms (fun j => x0 (ix2 a j)) (fun j => x1 (ix2 0 j)) j * z) (ldw4 x2 j d)
theorem ldw5 (j : Fin 1024) (k : Fin 512) : (View.ld (Val := Elt Ideal) (e' := .bf16) x2 r0_6 (ix2 j k) : EReal) = x2 (ix2 j ⟨3328 + k.val, by omega⟩) := by
  show View.ld (Val := Elt Ideal) (e' := .bf16) x2 r0_6 (ix2 j k) = x2 (ix2 j _)
  pointwise
theorem out5 (b : Fin 128) (k : Fin 512) : (out0_5 (F := Ideal) x0 x1 x2 (ix2 b k) : EReal) = mm x0 x1 x2 b ⟨3328 + k.val, by omega⟩ := by
  unfold out0_5
  rw [ld0, ld1]
  canon_tiles x h
  obtain ⟨a, d, rfl⟩ : ∃ (a : Fin 128) (d : Fin 512), x = ix2 a d := ⟨x 0, x 1, eq_ix2 x⟩
  have hr : b = a := Fin.ext h0
  have hd : k = d := Fin.ext h1
  rw [hr, hd]
  generalize hv : View.ld (Val := Elt Ideal) (e' := .bf16) x2 r0_6 = v
  pointwise [k0_pay5, k0_pay2]
  subst hv
  exact Finset.sum_congr rfl fun j _ => congrArg (fun z : EReal => rms (fun j => x0 (ix2 a j)) (fun j => x1 (ix2 0 j)) j * z) (ldw5 x2 j d)
theorem ldw6 (j : Fin 1024) (k : Fin 128) : (View.ld (Val := Elt Ideal) (e' := .bf16) x2 r0_8 (ix2 j k) : EReal) = x2 (ix2 j ⟨3840 + k.val, by omega⟩) := by
  show View.ld (Val := Elt Ideal) (e' := .bf16) x2 r0_8 (ix2 j k) = x2 (ix2 j _)
  pointwise
theorem out6 (b : Fin 128) (k : Fin 128) : (out0_6 (F := Ideal) x0 x1 x2 (ix2 b k) : EReal) = mm x0 x1 x2 b ⟨3840 + k.val, by omega⟩ := by
  unfold out0_6
  rw [ld0, ld1]
  canon_tiles x h
  obtain ⟨a, d, rfl⟩ : ∃ (a : Fin 128) (d : Fin 128), x = ix2 a d := ⟨x 0, x 1, eq_ix2 x⟩
  have hr : b = a := Fin.ext h0
  have hd : k = d := Fin.ext h1
  rw [hr, hd]
  generalize hv : View.ld (Val := Elt Ideal) (e' := .bf16) x2 r0_8 = v
  pointwise [k0_pay1, k0_pay2, k0_pay6]
  subst hv
  exact Finset.sum_congr rfl fun j _ => congrArg (fun z : EReal => rms (fun j => x0 (ix2 a j)) (fun j => x1 (ix2 0 j)) j * z) (ldw6 x2 j d)

end Cert.KernelInIdeal.Rows

end
-- ==== Proof.In.Final.lean ====
/- The kernel's four result arrays as functions of the arguments. -/
module

public import proofs.«01_k».proof.Proof.In.Block

@[expose] public section

set_option maxRecDepth 16384

noncomputable section

namespace Cert.KernelInIdeal.Rows

open Cert.KernelInIdeal Cert.KernelInIdeal.Gen Idealize.ShloMosaic Idealize.ShloMosaic.TcCoe Cert.InRow Idealize.SL.Sem

variable (m : (ℓ : Loc nD τ sig) → Buf (Elt Ideal) ℓ) (c : Dev nD)

/-- The projected rows' columns, as arrays. -/
def G0 : FVec Ideal S1x128x1x1792 .f32 := fun i => proj (m (c.tc.loc main_arg0)) (m (c.tc.loc main_arg2)) (m (c.tc.loc main_arg3)) (i 1) ⟨(i 3).val, by have : (i 3).val < 1792 := (i 3).isLt; omega⟩
def G1 : FVec Ideal S1x128x3x1536 .f32 := fun i => kept (m (c.tc.loc main_arg0)) (m (c.tc.loc main_arg1)) (m (c.tc.loc main_arg2)) (m (c.tc.loc main_arg3)) (i 1) (i 2) (i 3)
def A3 : FVec Ideal S128x1792 .f32 := fun i => proj (m (c.tc.loc main_arg0)) (m (c.tc.loc main_arg2)) (m (c.tc.loc main_arg3)) (i 0) ⟨(i 1).val, by have : (i 1).val < 1792 := (i 1).isLt; omega⟩
theorem A3_at (b : Fin 128) (k : Fin 1792) (j : S128x1792.Idx) (h0 : (j 0).val = b.val) (h1 : (j 1).val = k.val) :
    A3 m c j = proj (m (c.tc.loc main_arg0)) (m (c.tc.loc main_arg2)) (m (c.tc.loc main_arg3)) b ⟨k.val, by omega⟩ := by
  obtain rfl : j = ix2 b k := (eq_ix2 j).trans (congr (congrArg ix2 (Fin.ext h0)) (Fin.ext h1))
  rfl
theorem final3 : (dats m 0 c).arrAt 3 cfg0.N = A3 m c := by
  refine (dats m 0 c).arrAt_eq_of_covers 3 _ (by decide +kernel) fun t hf y => ?_
  blk_simp
  rw [after0_3]
  obtain ⟨b, k, rfl⟩ : ∃ (b : Fin 128) (k : Fin 1792), y = ix2 b k := ⟨y 0, y 1, eq_ix2 y⟩
  refine (out3 _ _ _ b k).trans ?_
  refine (mm_eq m c t b ⟨k.val, by omega⟩).trans ?_
  refine (A3_at m c b k _ ?_ ?_).symm
  · blk_simp [idx t]
  · blk_simp [idx t]
def A4 : FVec Ideal S128x1536 .f32 := fun i => proj (m (c.tc.loc main_arg0)) (m (c.tc.loc main_arg2)) (m (c.tc.loc main_arg3)) (i 0) ⟨1792 + (i 1).val, by have : (i 1).val < 1536 := (i 1).isLt; omega⟩
theorem A4_at (b : Fin 128) (k : Fin 1536) (j : S128x1536.Idx) (h0 : (j 0).val = b.val) (h1 : (j 1).val = k.val) :
    A4 m c j = proj (m (c.tc.loc main_arg0)) (m (c.tc.loc main_arg2)) (m (c.tc.loc main_arg3)) b ⟨1792 + k.val, by omega⟩ := by
  obtain rfl : j = ix2 b k := (eq_ix2 j).trans (congr (congrArg ix2 (Fin.ext h0)) (Fin.ext h1))
  rfl
theorem final4 : (dats m 0 c).arrAt 4 cfg0.N = A4 m c := by
  refine (dats m 0 c).arrAt_eq_of_covers 4 _ (by decide +kernel) fun t hf y => ?_
  blk_simp
  rw [after0_4]
  obtain ⟨b, k, rfl⟩ : ∃ (b : Fin 128) (k : Fin 1536), y = ix2 b k := ⟨y 0, y 1, eq_ix2 y⟩
  refine (out4 _ _ _ b k).trans ?_
  refine (mm_eq m c t b ⟨1792 + k.val, by omega⟩).trans ?_
  refine (A4_at m c b k _ ?_ ?_).symm
  · blk_simp [idx t]
  · blk_simp [idx t]
def A5 : FVec Ideal S128x512 .f32 := fun i => proj (m (c.tc.loc main_arg0)) (m (c.tc.loc main_arg2)) (m (c.tc.loc main_arg3)) (i 0) ⟨3328 + (i 1).val, by have : (i 1).val < 512 := (i 1).isLt; omega⟩
theorem A5_at (b : Fin 128) (k : Fin 512) (j : S128x512.Idx) (h0 : (j 0).val = b.val) (h1 : (j 1).val = k.val) :
    A5 m c j = proj (m (c.tc.loc main_arg0)) (m (c.tc.loc main_arg2)) (m (c.tc.loc main_arg3)) b ⟨3328 + k.val, by omega⟩ := by
  obtain rfl : j = ix2 b k := (eq_ix2 j).trans (congr (congrArg ix2 (Fin.ext h0)) (Fin.ext h1))
  rfl
theorem final5 : (dats m 0 c).arrAt 5 cfg0.N = A5 m c := by
  refine (dats m 0 c).arrAt_eq_of_covers 5 _ (by decide +kernel) fun t hf y => ?_
  blk_simp
  rw [after0_5]
  obtain ⟨b, k, rfl⟩ : ∃ (b : Fin 128) (k : Fin 512), y = ix2 b k := ⟨y 0, y 1, eq_ix2 y⟩
  refine (out5 _ _ _ b k).trans ?_
  refine (mm_eq m c t b ⟨3328 + k.val, by omega⟩).trans ?_
  refine (A5_at m c b k _ ?_ ?_).symm
  · blk_simp [idx t]
  · blk_simp [idx t]
def A6 : FVec Ideal S128x128 .f32 := fun i => proj (m (c.tc.loc main_arg0)) (m (c.tc.loc main_arg2)) (m (c.tc.loc main_arg3)) (i 0) ⟨3840 + (i 1).val, by have : (i 1).val < 128 := (i 1).isLt; omega⟩
theorem A6_at (b : Fin 128) (k : Fin 128) (j : S128x128.Idx) (h0 : (j 0).val = b.val) (h1 : (j 1).val = k.val) :
    A6 m c j = proj (m (c.tc.loc main_arg0)) (m (c.tc.loc main_arg2)) (m (c.tc.loc main_arg3)) b ⟨3840 + k.val, by omega⟩ := by
  obtain rfl : j = ix2 b k := (eq_ix2 j).trans (congr (congrArg ix2 (Fin.ext h0)) (Fin.ext h1))
  rfl
theorem final6 : (dats m 0 c).arrAt 6 cfg0.N = A6 m c := by
  refine (dats m 0 c).arrAt_eq_of_covers 6 _ (by decide +kernel) fun t hf y => ?_
  blk_simp
  rw [after0_6]
  obtain ⟨b, k, rfl⟩ : ∃ (b : Fin 128) (k : Fin 128), y = ix2 b k := ⟨y 0, y 1, eq_ix2 y⟩
  refine (out6 _ _ _ b k).trans ?_
  refine (mm_eq m c t b ⟨3840 + k.val, by omega⟩).trans ?_
  refine (A6_at m c b k _ ?_ ?_).symm
  · blk_simp [idx t]
  · blk_simp [idx t]

/-- Window `w`'s array after the region is what the run left in it. -/
theorem arr (w : Fin cfg0.W) : Pipeline.withArrays spec0 c (V0 m c) (fun w => (dats m 0 c).arrAt w cfg0.N) (Proc.devRef .tc (Pipeline.arrRef spec0 w)) = (dats m 0 c).arrAt w cfg0.N :=
  Pipeline.withArrays_arr spec0 (by decide) c (V0 m c) _ w

theorem W12 : (Pipeline.afterTail₀ cfgs (dats m) 0 (V0 m) [hostOps1] c main_v12 : FVec Ideal S1x128x1x1792 .f32) = G0 m c := by
  funext y
  obtain ⟨z, b, o, k, rfl⟩ : ∃ (z : Fin 1) (b : Fin 128) (o : Fin 1) (k : Fin 1792), y = ix4 z b o k := ⟨y 0, y 1, y 2, y 3, eq_ix4 y⟩
  obtain rfl : z = 0 := Subsingleton.elim _ _
  obtain rfl : o = 0 := Subsingleton.elim _ _
  unfold Pipeline.afterTail₀
  after_reads_at
  refine (congrFun ((arr m c 3).trans (final3 m c)) (ix2 b k)).trans ?_
  rfl

theorem W13 : (Pipeline.afterTail₀ cfgs (dats m) 0 (V0 m) [hostOps1] c main_v13 : FVec Ideal S1x128x3x1536 .f32) = G1 m c := by
  funext y
  obtain ⟨z, b, s, d, rfl⟩ : ∃ (z : Fin 1) (b : Fin 128) (s : Fin 3) (d : Fin 1536), y = ix4 z b s d := ⟨y 0, y 1, y 2, y 3, eq_ix4 y⟩
  obtain rfl : z = 0 := Subsingleton.elim _ _
  unfold Pipeline.afterTail₀
  after_reads_at
  after_reads_at
  by_cases h : s.val < 2
  · have ea : Pipeline.withArrays spec0 c (V0 m c) (fun w => (dats m 0 c).arrAt w cfg0.N) (Proc.devRef .tc main_arg1) = m (c.tc.loc main_arg1) :=
      (Pipeline.withArrays_of_ne spec0 c (V0 m c) _ main_arg1 (by decide)).trans (V_main_arg1 m c)
    have hs : s.val + 1 < 3 := by omega
    have key : ∀ (x : Fin 3) (z : Fin 1536), x.val = s.val + 1 → z.val = d.val → (m (c.tc.loc main_arg1) (ix4 0 b x z) : EReal) = G1 m c (ix4 0 b s d) := by
      intro x z hx hz
      obtain rfl : z = d := Fin.ext hz
      obtain rfl : x = ⟨s.val + 1, hs⟩ := Fin.ext hx
      show _ = kept _ _ _ _ b s z
      unfold kept
      rw [dif_pos h]
    rw [dif_pos (show s.val * 1536 + d.val < 3072 by omega)]
    exact (congrFun ea (ix4 0 b ⟨(1536 + (s.val * 1536 + d.val)) / 1536, by omega⟩ ⟨(1536 + (s.val * 1536 + d.val)) % 1536, by omega⟩)).trans
      (key _ _ (by show (1536 + (s.val * 1536 + d.val)) / 1536 = s.val + 1; omega) (by show (1536 + (s.val * 1536 + d.val)) % 1536 = d.val; omega))
  · rw [dif_neg (show ¬ s.val * 1536 + d.val < 3072 by omega)]
    refine (congrFun ((arr m c 4).trans (final4 m c)) (ix2 b ⟨s.val * 1536 + d.val - 3072, by omega⟩)).trans ?_
    refine (A4_at m c b d _ rfl (by show s.val * 1536 + d.val - 3072 = d.val; omega)).trans ?_
    show _ = kept _ _ _ _ b s d
    unfold kept
    rw [dif_neg h]

end Cert.KernelInIdeal.Rows

end
-- ==== Proof.In.Ref.lean ====
/- The reference's four results, element by element. -/
module

public import proofs.«01_k».proof.Proof.In.Spec
public import proofs.«01_k».proof.Proof.Gen.ReferenceInIdeal.Run
public import Idealize.ShloMosaic.Lib.Tactic.CleanTypes

@[expose] public section

set_option maxRecDepth 16384

noncomputable section

namespace Cert.ReferenceInIdeal.Rows

open Cert.ReferenceInIdeal Cert.ReferenceInIdeal.Gen Cert.ReferenceInIdeal.Value Idealize.ShloMosaic Idealize.ShloMosaic.TcCoe Cert.InRow Idealize.SL.Sem

variable (x0 : FVec Ideal S128x1x1024 .f32) (x1 : FVec Ideal S1x128x3x1536 .f32) (x2 : FVec Ideal S1x1024 .f32) (x3 : FVec Ideal S1x1024x5896 .f32)

def t0 : FVec Ideal S1x128x1x1792 .f32 :=
  broadcastInDim S1x128x1x1792 ![1, 2, 3] bcast_S128x1x1792_S1x128x1x1792_1_2_3 (extractStridedSlice S128x1x1792 ![0, 0, 0] (Host.dotGeneral (φ₂ := .f32) dot_S128x1x1024_S1024x5896_S128x1x5896_2_0_01_1_n_n none (mulf (mulf x0 (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf x0 x0) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 (shapeCast _ x2 shapeCasts_S1x1024_S1024)))) (shapeCast _ x3 shapeCasts_S1x1024x5896_S1024x5896)) slices_S128x1x5896_S128x1x1792_0_0_0)
def t1 : FVec Ideal S1x128x3x1536 .f32 :=
  broadcastInDim S1x128x3x1536 ![1, 2, 3] bcast_S128x3x1536_S1x128x3x1536_1_2_3 (extractStridedSlice S128x3x1536 ![0, 1, 0] (concatenate S128x4x1536 1 [⟨S128x3x1536, (shapeCast _ x1 shapeCasts_S1x128x3x1536_S128x3x1536)⟩, ⟨S128x1x1536, (extractStridedSlice S128x1x1536 ![0, 0, 0] (extractStridedSlice S128x1x2056 ![0, 0, 1792] (Host.dotGeneral (φ₂ := .f32) dot_S128x1x1024_S1024x5896_S128x1x5896_2_0_01_1_n_n none (mulf (mulf x0 (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf x0 x0) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 (shapeCast _ x2 shapeCasts_S1x1024_S1024)))) (shapeCast _ x3 shapeCasts_S1x1024x5896_S1024x5896)) slices_S128x1x5896_S128x1x2056_0_0_1792) slices_S128x1x2056_S128x1x1536_0_0_0)⟩] concatenates_S128x3x1536_S128x1x1536_S128x4x1536_d1) slices_S128x4x1536_S128x3x1536_0_1_0)
def t2 : FVec Ideal S128x512 .f32 :=
  shapeCast _ (extractStridedSlice S128x1x512 ![0, 0, 1536] (extractStridedSlice S128x1x2056 ![0, 0, 1792] (Host.dotGeneral (φ₂ := .f32) dot_S128x1x1024_S1024x5896_S128x1x5896_2_0_01_1_n_n none (mulf (mulf x0 (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf x0 x0) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 (shapeCast _ x2 shapeCasts_S1x1024_S1024)))) (shapeCast _ x3 shapeCasts_S1x1024x5896_S1024x5896)) slices_S128x1x5896_S128x1x2056_0_0_1792) slices_S128x1x2056_S128x1x512_0_0_1536) shapeCasts_S128x1x512_S128x512
def t3 : FVec Ideal S128x128 .f32 :=
  shapeCast _ (extractStridedSlice S128x1x128 ![0, 0, 3840] (Host.dotGeneral (φ₂ := .f32) dot_S128x1x1024_S1024x5896_S128x1x5896_2_0_01_1_n_n none (mulf (mulf x0 (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf x0 x0) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 (shapeCast _ x2 shapeCasts_S1x1024_S1024)))) (shapeCast _ x3 shapeCasts_S1x1024x5896_S1024x5896)) slices_S128x1x5896_S128x1x128_0_0_3840) shapeCasts_S128x1x128_S128x128

theorem t0_at (b : Fin 128) (k : Fin 1792) : (t0 x0 x2 x3 (ix4 0 b 0 k) : EReal) = proj x0 x2 x3 b ⟨k.val, by omega⟩ := by
  unfold t0
  pointwise
  rfl
theorem t2_at (b : Fin 128) (k : Fin 512) : (t2 x0 x2 x3 (ix2 b k) : EReal) = proj x0 x2 x3 b ⟨3328 + k.val, by omega⟩ := by
  unfold t2
  pointwise
  rw [show (⟨3328 + k.val, by omega⟩ : Fin 5896) = ⟨1792 + (1536 + k.val), by omega⟩ from Fin.ext (by show 3328 + k.val = 1792 + (1536 + k.val); omega)]
  rfl
theorem t3_at (b : Fin 128) (k : Fin 128) : (t3 x0 x2 x3 (ix2 b k) : EReal) = proj x0 x2 x3 b ⟨3840 + k.val, by omega⟩ := by
  unfold t3
  pointwise
  rfl
theorem t1_at (b : Fin 128) (s : Fin 3) (d : Fin 1536) : (t1 x0 x1 x2 x3 (ix4 0 b s d) : EReal) = kept x0 x1 x2 x3 b s d := by
  unfold t1
  pointwise
  unfold kept
  by_cases h : s.val < 2
  · rw [dif_pos (show 1 + s.val < 3 by omega), dif_pos h]
    exact congrArg (fun z : Fin 3 => (x1 (ix4 0 b z d) : EReal)) (Fin.ext (Nat.add_comm 1 s.val))
  · rw [dif_neg (show ¬ 1 + s.val < 3 by omega), dif_neg h]
    have e : ∀ p, (⟨1 + s.val - 3, p⟩ : Fin 1) = 0 := fun _ => Subsingleton.elim _ _
    simp only [e]
    rfl

end Cert.ReferenceInIdeal.Rows

end
-- ==== Proof.In.Claim.lean ====
/- The in-projection of a sample row: the kernel and the reference give the same four results. -/
module

public import proofs.«01_k».proof.Defs
public import proofs.«01_k».proof.Proof.In.Final
public import proofs.«01_k».proof.Proof.In.Ref
public import Idealize.ShloMosaic.Lib.Claim

@[expose] public section

set_option maxRecDepth 16384

noncomputable section

namespace Cert.KernelInIdeal.Rows

open Cert.KernelInIdeal Cert.KernelInIdeal.Gen Idealize.ShloMosaic Idealize.ShloMosaic.TcCoe Cert.InRow Idealize.SL.Sem

/-- The kernel's run: the four result arrays, and the arguments as they were. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v12) = G0 m c ∧ r.2.mem ((c.tc : Thread nD τ).loc main_v13) = G1 m c
      ∧ r.2.mem ((c.tc : Thread nD τ).loc main_v6_2) = A5 m c ∧ r.2.mem ((c.tc : Thread nD τ).loc main_v6_3) = A6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).2 main_v12 (by decide)).trans (W12 m c), ((h.1 c).2 main_v13 (by decide)).trans (W13 m c),
      ((h.1 c).1 5).trans (final5 m c), ((h.1 c).1 6).trans (final6 m c), h.2.1 c⟩)
    (θ_run_and (run_main m ρ) (frame m ρ))

end Cert.KernelInIdeal.Rows

namespace Cert.InRow

open Idealize.ShloMosaic Idealize.ShloMosaic.TcCoe Idealize.SL.Sem

/-- The kernel's four results are the reference's, whatever the arguments. -/
theorem algebraic : Cert.algebraic_KernelInIdeal_ReferenceInIdeal (hKernelInIdeal := Cert.KernelInIdeal.Gen.facts) (hReferenceInIdeal := Cert.ReferenceInIdeal.Gen.facts) := by
  intro m g m' g' _ hagree
  refine ⟨fun c => Cert.KernelInIdeal.Rows.G0 m c, fun c => Cert.KernelInIdeal.Rows.G1 m c, fun c => Cert.KernelInIdeal.Rows.A5 m c, fun c => Cert.KernelInIdeal.Rows.A6 m c, Cert.KernelInIdeal.Rows.run m g,
    (θ_run Cert.ReferenceInIdeal.defs _ _).mono (fun r h c => ⟨(h c).1.trans ?_, (h c).2.1.trans ?_, (h c).2.2.1.trans ?_, (h c).2.2.2.1.trans ?_, (h c).2.2.2.2⟩) (Cert.ReferenceInIdeal.Value.run m' g')⟩
  · obtain ⟨a0, a1, a2, a3⟩ := hagree c
    funext y
    obtain ⟨z, b, o, k, rfl⟩ : ∃ (z : Fin 1) (b : Fin 128) (o : Fin 1) (k : Fin 1792), y = ix4 z b o k := ⟨y 0, y 1, y 2, y 3, eq_ix4 y⟩
    obtain rfl : z = 0 := Subsingleton.elim _ _
    obtain rfl : o = 0 := Subsingleton.elim _ _
    refine (Cert.ReferenceInIdeal.Rows.t0_at (m' (c.tc.loc Cert.ReferenceInIdeal.main_arg0)) (m' (c.tc.loc Cert.ReferenceInIdeal.main_arg2)) (m' (c.tc.loc Cert.ReferenceInIdeal.main_arg3)) b k).trans ?_
    rw [a0, a2, a3]
    rfl
  · obtain ⟨a0, a1, a2, a3⟩ := hagree c
    funext y
    obtain ⟨z, b, s, d, rfl⟩ : ∃ (z : Fin 1) (b : Fin 128) (s : Fin 3) (d : Fin 1536), y = ix4 z b s d := ⟨y 0, y 1, y 2, y 3, eq_ix4 y⟩
    obtain rfl : z = 0 := Subsingleton.elim _ _
    refine (Cert.ReferenceInIdeal.Rows.t1_at (m' (c.tc.loc Cert.ReferenceInIdeal.main_arg0)) (m' (c.tc.loc Cert.ReferenceInIdeal.main_arg1)) (m' (c.tc.loc Cert.ReferenceInIdeal.main_arg2)) (m' (c.tc.loc Cert.ReferenceInIdeal.main_arg3)) b s d).trans ?_
    rw [a0, a1, a2, a3]
    rfl
  · obtain ⟨a0, a1, a2, a3⟩ := hagree c
    funext y
    obtain ⟨b, k, rfl⟩ : ∃ (b : Fin 128) (k : Fin 512), y = ix2 b k := ⟨y 0, y 1, eq_ix2 y⟩
    refine (Cert.ReferenceInIdeal.Rows.t2_at (m' (c.tc.loc Cert.ReferenceInIdeal.main_arg0)) (m' (c.tc.loc Cert.ReferenceInIdeal.main_arg2)) (m' (c.tc.loc Cert.ReferenceInIdeal.main_arg3)) b k).trans ?_
    rw [a0, a2, a3]
    rfl
  · obtain ⟨a0, a1, a2, a3⟩ := hagree c
    funext y
    obtain ⟨b, k, rfl⟩ : ∃ (b : Fin 128) (k : Fin 128), y = ix2 b k := ⟨y 0, y 1, eq_ix2 y⟩
    refine (Cert.ReferenceInIdeal.Rows.t3_at (m' (c.tc.loc Cert.ReferenceInIdeal.main_arg0)) (m' (c.tc.loc Cert.ReferenceInIdeal.main_arg2)) (m' (c.tc.loc Cert.ReferenceInIdeal.main_arg3)) b k).trans ?_
    rw [a0, a2, a3]
    rfl

end Cert.InRow

end
-- ==== Proof.PostS.Rows.lean ====
/- The layer's second half at the sample's rows: the output as a function of the arguments, and the kernel's payloads
   read as functions of one row. -/
module

public import proofs.«01_k».proof.Proof.Post.Rows
public import proofs.«01_k».proof.Proof.Gen.KernelPostSIdeal.Frame
public import Idealize.ShloMosaic.Lib.Pointwise
public import Idealize.ShloMosaic.Lib.Pipeline.ValueKit

@[expose] public section

set_option maxRecDepth 16384

noncomputable section

namespace Cert.PostRow

open Idealize.ShloMosaic

/-- THE LAYER'S OUTPUT at sample `b` and column `d`, as one function of the arguments: `post` of that sample's rows. -/
def outS (x : FVec Ideal ⟨3, ![128, 1, 1024]⟩ .f32) (oa ob : FVec Ideal ⟨3, ![128, 1, 512]⟩ .f32)
    (p : FVec Ideal ⟨4, ![1, 128, 1, 256]⟩ .f32) (g1 : FVec Ideal ⟨2, ![1, 1024]⟩ .f32) (wg : FVec Ideal ⟨3, ![1, 1024, 5896]⟩ .f32)
    (wa wb : FVec Ideal ⟨3, ![1, 512, 1024]⟩ .f32) (wo : FVec Ideal ⟨3, ![1, 1024, 1024]⟩ .f32) (g2 : FVec Ideal ⟨2, ![1, 1024]⟩ .f32)
    (fg fu : FVec Ideal ⟨3, ![1, 1024, 2816]⟩ .f32) (fd : FVec Ideal ⟨3, ![1, 2816, 1024]⟩ .f32) (g3 : FVec Ideal ⟨2, ![1, 1024]⟩ .f32)
    (pg : FVec Ideal ⟨3, ![1, 1024, 1024]⟩ .f32) (pp : FVec Ideal ⟨3, ![1, 256, 1024]⟩ .f32) (g4 : FVec Ideal ⟨1, ![1024]⟩ .f32)
    (b : Fin 128) (d : Fin 1024) : EReal :=
  post (fun k => g1 (ix2 0 k)) (fun k => g2 (ix2 0 k)) (fun k => g3 (ix2 0 k)) (fun k => g4 (ix1 k))
    (fun j k => wg (ix3 0 j ⟨3848 + k.val, by omega⟩)) (fun j k => wa (ix3 0 j k)) (fun j k => wb (ix3 0 j k))
    (fun j k => wo (ix3 0 j k)) (fun j k => fg (ix3 0 j k)) (fun j k => fu (ix3 0 j k)) (fun j k => fd (ix3 0 j k))
    (fun j k => pg (ix3 0 j k)) (fun j k => pp (ix3 0 j k)) (fun k => x (ix3 b 0 k)) (fun k => oa (ix3 b 0 k))
    (fun k => ob (ix3 b 0 k)) (fun k => p (ix4 0 b 0 k)) d

end Cert.PostRow

namespace Cert.KernelPostSIdeal.Rows

open Cert.KernelPostSIdeal Cert.KernelPostSIdeal.Gen Idealize.ShloMosaic Cert.PostRow

/-- Row `r` of a rectangle. -/
abbrev row {n k : ℕ} {φ : FTy} (v : FVec Ideal ⟨2, ![n, k]⟩ φ) (r : Fin n) : Fin k → EReal := fun d => v (ix2 r d)
/-- A rectangle as a function of its two coordinates. -/
abbrev mat {n k : ℕ} {φ : FTy} (v : FVec Ideal ⟨2, ![n, k]⟩ φ) : Fin n → Fin k → EReal := fun r d => v (ix2 r d)

/-! ## The payloads at an element of a row -/

theorem pay1_at (v : FVec Ideal S128x1024 .f32) (g : FVec Ideal S1x1024 .f32) (r : Fin 128) (d : Fin 1024) :
    k0_pay1 (F := Ideal) v g (ix2 r d) = rms (row v r) (row g 0) d := by
  pointwise [k0_pay1]; rfl
theorem pay2_at (v : FVec Ideal S128x1024 .f32) (r : Fin 128) (d : Fin 1024) : k0_pay2 (F := Ideal) v (ix2 r d) = v (ix2 r d) := by
  pointwise [k0_pay2]
theorem pay3_at (v : FVec Ideal S128x512 .f32) (w : FVec Ideal S512x1024 .bf16) (r : Fin 128) (d : Fin 1024) :
    k0_pay3 (F := Ideal) v w (ix2 r d) = dot (row v r) (mat w) d := by
  pointwise [k0_pay3]; rfl
theorem pay4_at (v : FVec Ideal S128x512 .f32) (w : FVec Ideal S512x1024 .bf16) (r : Fin 128) (d : Fin 1024) :
    k0_pay4 (F := Ideal) v w (ix2 r d) = dot (row v r) (mat w) d := by
  pointwise [k0_pay4]; rfl
theorem pay7_at (v : FVec Ideal S128x256 .f32) (w : FVec Ideal S256x1024 .bf16) (r : Fin 128) (d : Fin 1024) :
    k0_pay7 (F := Ideal) v w (ix2 r d) = dot (row v r) (mat w) d := by
  pointwise [k0_pay7]; rfl
theorem pay5_at (v : FVec Ideal S128x1024 .f32) (g : FVec Ideal S1x1024 .f32) (w : FVec Ideal S1024x2048 .bf16) (r : Fin 128) (d : Fin 2048) :
    k0_pay5 (F := Ideal) v g w (ix2 r d) = 1 + Ideal.exp (0 - dot (rms (row v r) (row g 0)) (mat w) d) := by
  pointwise [k0_pay5, k0_pay2]; rfl

section Merge
variable (x a b : FVec Ideal S128x1024 .f32) (s : FVec Ideal S128x2048 .f32) (w : FVec Ideal S1024x1024 .bf16) (g : FVec Ideal S1x1024 .f32)
  (wg : FVec Ideal S1024x2816 .bf16) (r : Fin 128)

theorem pay6_at (d : Fin 1024) :
    k0_pay6 (F := Ideal) x a b s w (ix2 r d) = row x r d + dot (fun k => Ideal.div 1 (row s r ⟨k, by omega⟩) * row a r k
      + Ideal.div 1 (row s r ⟨1024 + k, by omega⟩) * row b r k) (mat w) d := by
  pointwise [k0_pay6]; rfl
theorem pay8_at (d : Fin 1024) :
    k0_pay8 (F := Ideal) x a b s w g (ix2 r d) = rms (row (k0_pay6 (F := Ideal) x a b s w) r) (row g 0) d := by
  pointwise [k0_pay8]; rfl
theorem pay9_at (d : Fin 2816) :
    k0_pay9 (F := Ideal) x a b s w g wg (ix2 r d) = dot (row (k0_pay8 (F := Ideal) x a b s w g) r) (mat wg) d := by
  pointwise [k0_pay9]; rfl
theorem pay10_at (d : Fin 2816) :
    k0_pay10 (F := Ideal) x a b s w g wg (ix2 r d) = 1 + Ideal.exp (0 - row (k0_pay9 (F := Ideal) x a b s w g wg) r d) := by
  pointwise [k0_pay10]
end Merge

/-- A row after the feed-forward network, from the hidden rows and the gate's denominators. -/
def ffnOf (h : Fin 1024 → EReal) (u : Fin 1024 → EReal) (a e : Fin 2816 → EReal) (wu : Fin 1024 → Fin 2816 → EReal)
    (wd : Fin 2816 → Fin 1024 → EReal) (d : Fin 1024) : EReal :=
  h d + dot (fun k => a k * Ideal.div 1 (e k) * dot u wu k) wd d

theorem pay11_at (h p : FVec Ideal S128x1024 .f32) (u : FVec Ideal S128x1024 .bf16) (a e : FVec Ideal S128x2816 .f32) (wu : FVec Ideal S1024x2816 .bf16)
    (wd : FVec Ideal S2816x1024 .bf16) (g : FVec Ideal S1x1024 .f32) (w : FVec Ideal S1024x1024 .bf16) (r : Fin 128) (d : Fin 1024) :
    k0_pay11 (F := Ideal) h p u a e wu wd g w (ix2 r d)
      = ffnOf (row h r) (row u r) (row a r) (row e r) (mat wu) (mat wd) d
        + sg (dot (rms (ffnOf (row h r) (row u r) (row a r) (row e r) (mat wu) (mat wd)) (row g 0)) (mat w) d) * row p r d := by
  pointwise [k0_pay11]; rfl

end Cert.KernelPostSIdeal.Rows

end
-- ==== Proof.PostS.Block.lean ====
/- What the kernel stores: each of the 128 rows is `PostRow.post` of that row of the blocks. -/
module

public import proofs.«01_k».proof.Proof.PostS.Rows

@[expose] public section

set_option maxRecDepth 16384

noncomputable section

namespace Cert.KernelPostSIdeal.Rows

open Cert.KernelPostSIdeal Cert.KernelPostSIdeal.Gen Idealize.ShloMosaic Cert.PostRow

variable (x0 : FVec Ideal S128x1024 .f32) (x1 x2 : FVec Ideal S128x512 .f32) (x3 : FVec Ideal S128x256 .f32)
  (x4 : FVec Ideal S1x1024 .f32) (x5 : FVec Ideal S1024x2048 .bf16) (x6 x7 : FVec Ideal S512x1024 .bf16)
  (x8 : FVec Ideal S1024x1024 .bf16) (x9 : FVec Ideal S1x1024 .f32) (x10 x11 : FVec Ideal S1024x2816 .bf16)
  (x12 : FVec Ideal S2816x1024 .bf16) (x13 : FVec Ideal S1x1024 .f32) (x14 : FVec Ideal S1024x1024 .bf16)
  (x15 : FVec Ideal S256x1024 .bf16) (x16 : FVec Ideal S1x1024 .f32)

/-- Row `r` of the block's result, from row `r` of the row blocks and the weights whole. -/
abbrev blockRow (r : Fin 128) : Fin 1024 → EReal :=
  post (row x4 0) (row x9 0) (row x13 0) (row x16 0) (mat x5) (mat x6) (mat x7) (mat x8) (mat x10) (mat x11) (mat x12)
    (mat x14) (mat x15) (row x0 r) (row x1 r) (row x2 r) (row x3 r)

/-- A block that is read whole is itself. -/
theorem ld0 (v : Vec Ideal S128x1024 .f32) : View.ld v r0_0 = v := View.ld_unit_lit _ _ (by decide)
theorem ld1 (v : Vec Ideal S128x512 .f32) : View.ld v r0_1 = v := View.ld_unit_lit _ _ (by decide)
theorem ld2 (v : Vec Ideal S512x1024 .bf16) : View.ld v r0_2 = v := View.ld_unit_lit _ _ (by decide)
theorem ld3 (v : Vec Ideal S1x1024 .f32) : View.ld v r0_3 = v := View.ld_unit_lit _ _ (by decide)
theorem ld4 (v : Vec Ideal S1024x2048 .bf16) : View.ld v r0_4 = v := View.ld_unit_lit _ _ (by decide)
theorem ld5 (v : Vec Ideal S1024x1024 .bf16) : View.ld v r0_5 = v := View.ld_unit_lit _ _ (by decide)
theorem ld6 (v : Vec Ideal S128x256 .f32) : View.ld v r0_6 = v := View.ld_unit_lit _ _ (by decide)
theorem ld7 (v : Vec Ideal S256x1024 .bf16) : View.ld v r0_7 = v := View.ld_unit_lit _ _ (by decide)
theorem ld8 (v : Vec Ideal S1024x2816 .bf16) : View.ld v r0_8 = v := View.ld_unit_lit _ _ (by decide)
theorem ld9 (v : Vec Ideal S2816x1024 .bf16) : View.ld v r0_9 = v := View.ld_unit_lit _ _ (by decide)

/-- The rows after the merge. -/
def mg : FVec Ideal S128x1024 .f32 := k0_pay6 (k0_pay2 x0) (k0_pay3 x1 x6) (k0_pay4 x2 x7) (k0_pay5 x0 x4 x5) x8
/-- The same rows normed. -/
def un : FVec Ideal S128x1024 .bf16 := k0_pay8 (k0_pay2 x0) (k0_pay3 x1 x6) (k0_pay4 x2 x7) (k0_pay5 x0 x4 x5) x8 x9
/-- The gate's rows before the logistic function. -/
def ga : FVec Ideal S128x2816 .f32 := k0_pay9 (k0_pay2 x0) (k0_pay3 x1 x6) (k0_pay4 x2 x7) (k0_pay5 x0 x4 x5) x8 x9 x10
/-- The denominators of that function. -/
def ge : FVec Ideal S128x2816 .f32 := k0_pay10 (k0_pay2 x0) (k0_pay3 x1 x6) (k0_pay4 x2 x7) (k0_pay5 x0 x4 x5) x8 x9 x10

/-- A row after the merge, from the blocks. -/
abbrev mergeRow (r : Fin 128) : Fin 1024 → EReal :=
  merge (row x4 0) (mat x5) (mat x6) (mat x7) (mat x8) (row x0 r) (row x1 r) (row x2 r)

theorem mg_row (r : Fin 128) : row (mg x0 x1 x2 x4 x5 x6 x7 x8) r = mergeRow x0 x1 x2 x4 x5 x6 x7 x8 r := by
  funext d
  show mg x0 x1 x2 x4 x5 x6 x7 x8 (ix2 r d) = _
  unfold mg
  rw [pay6_at, show row (k0_pay2 (F := Ideal) x0) r = row x0 r from funext (pay2_at x0 r)]
  unfold mergeRow merge
  refine congrArg (row x0 r d + dot · (mat x8) d) (funext fun k => ?_)
  show Ideal.div 1 (k0_pay5 (F := Ideal) _ _ _ (ix2 r _)) * k0_pay3 (F := Ideal) _ _ (ix2 r k) + Ideal.div 1 (k0_pay5 (F := Ideal) _ _ _ (ix2 r _)) * k0_pay4 (F := Ideal) _ _ (ix2 r k) = _
  rw [pay5_at, pay5_at, pay3_at, pay4_at]; rfl
theorem un_row (r : Fin 128) : row (un x0 x1 x2 x4 x5 x6 x7 x8 x9) r = rms (mergeRow x0 x1 x2 x4 x5 x6 x7 x8 r) (row x9 0) := by
  rw [← mg_row]
  exact funext fun d => pay8_at _ _ _ _ _ _ r d
theorem ga_row (r : Fin 128) : row (ga x0 x1 x2 x4 x5 x6 x7 x8 x9 x10) r = dot (rms (mergeRow x0 x1 x2 x4 x5 x6 x7 x8 r) (row x9 0)) (mat x10) := by
  rw [← un_row]
  exact funext fun d => pay9_at _ _ _ _ _ _ _ r d
theorem ge_row (r : Fin 128) : row (ge x0 x1 x2 x4 x5 x6 x7 x8 x9 x10) r
    = fun k => 1 + Ideal.exp (0 - dot (rms (mergeRow x0 x1 x2 x4 x5 x6 x7 x8 r) (row x9 0)) (mat x10) k) := by
  rw [← ga_row]
  exact funext fun d => pay10_at _ _ _ _ _ _ _ r d

/-- The rows after the embedding. -/
def em : FVec Ideal S128x1024 .f32 :=
  k0_pay11 (mg x0 x1 x2 x4 x5 x6 x7 x8) (k0_pay7 x3 x15) (un x0 x1 x2 x4 x5 x6 x7 x8 x9) (ga x0 x1 x2 x4 x5 x6 x7 x8 x9 x10)
    (ge x0 x1 x2 x4 x5 x6 x7 x8 x9 x10) x11 x12 x13 x14

theorem em_row (r : Fin 128) : row (em x0 x1 x2 x3 x4 x5 x6 x7 x8 x9 x10 x11 x12 x13 x14 x15) r
    = ple (row x13 0) (mat x14) (mat x15) (row x3 r) (ffn (row x9 0) (mat x10) (mat x11) (mat x12) (mergeRow x0 x1 x2 x4 x5 x6 x7 x8 r)) := by
  funext d
  show em x0 x1 x2 x3 x4 x5 x6 x7 x8 x9 x10 x11 x12 x13 x14 x15 (ix2 r d) = _
  unfold em
  rw [pay11_at, mg_row, un_row, ga_row, ge_row]
  show _ + _ * k0_pay7 (F := Ideal) _ _ (ix2 r d) = _
  rw [pay7_at]; rfl

theorem group (r : Fin 128) (d : Fin 1024) :
    k0_pay1 (em x0 x1 x2 x3 x4 x5 x6 x7 x8 x9 x10 x11 x12 x13 x14 x15) x16 (ix2 r d) = blockRow x0 x1 x2 x3 x4 x5 x6 x7 x8 x9 x10 x11 x12 x13 x14 x15 x16 r d := by
  rw [pay1_at, em_row]; rfl

/-- What the kernel stores at row `r`. -/
theorem out_eq (r : Fin 128) (d : Fin 1024) :
    out0_17 (F := Ideal) x0 x1 x2 x3 x4 x5 x6 x7 x8 x9 x10 x11 x12 x13 x14 x15 x16 (ix2 r d) = blockRow x0 x1 x2 x3 x4 x5 x6 x7 x8 x9 x10 x11 x12 x13 x14 x15 x16 r d := by
  unfold out0_17 k0_pay15 k0_pay14 k0_pay13 k0_pay12
  simp only [ld0, ld1, ld2, ld3, ld4, ld5, ld6, ld7, ld8, ld9]
  canon_tiles x h
  obtain ⟨a, b, rfl⟩ : ∃ (a : Fin 128) (b : Fin 1024), x = ix2 a b := ⟨x 0, x 1, eq_ix2 x⟩
  have hr : r = a := Fin.ext h0
  have hd : d = b := Fin.ext h1
  rw [hr, hd]
  have g := group x0 x1 x2 x3 x4 x5 x6 x7 x8 x9 x10 x11 x12 x13 x14 x15 x16 a b
  unfold em ge ga un mg at g
  exact g

end Cert.KernelPostSIdeal.Rows

end
-- ==== Proof.PostS.Args.lean ====
/- The blocks that a grid point reads, element by element from the kernel's arguments. -/
module

public import proofs.«01_k».proof.Proof.PostS.Block
public import Idealize.ShloMosaic.Lib.StableHlo.ReadAt

@[expose] public section

set_option maxRecDepth 16384

noncomputable section

namespace Cert.KernelPostSIdeal.Rows

open Cert.KernelPostSIdeal Cert.KernelPostSIdeal.Gen Idealize.ShloMosaic Idealize.ShloMosaic.TcCoe Cert.PostRow Idealize.SL.Sem

/-- Where each window's block lies at a grid point: there is one point, and every block is the whole array. -/
theorem idx : ∀ t : Fin cfg0.N,
win0_0.index t = ![0, 0] ∧ win0_1.index t = ![0, 0] ∧ win0_2.index t = ![0, 0] ∧ win0_3.index t = ![0, 0] ∧ win0_17.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] :=
  (by decide +kernel : ∀ t : Fin grid0.N, win0_0.index t = ![0, 0] ∧ win0_1.index t = ![0, 0] ∧ win0_2.index t = ![0, 0] ∧ win0_3.index t = ![0, 0] ∧ win0_17.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0])

variable (m : (ℓ : Loc nD τ sig) → Buf (Elt Ideal) ℓ) (c : Dev nD) (t : Fin cfg0.N)

/-! ## The arrays that the windows read, after the host operations before the launch -/

theorem V26 (R : Fin 128) (d : Fin 1024) : (V m c main_v26 (ix2 R d) : EReal) = m (c.tc.loc main_arg0) (ix3 R 0 d) := by
  unfold V
  after_reads_at
theorem V27 (R : Fin 128) (d : Fin 512) : (V m c main_v27 (ix2 R d) : EReal) = m (c.tc.loc main_arg1) (ix3 R 0 d) := by
  unfold V
  after_reads_at
theorem V28 (R : Fin 128) (d : Fin 512) : (V m c main_v28 (ix2 R d) : EReal) = m (c.tc.loc main_arg2) (ix3 R 0 d) := by
  unfold V
  after_reads_at
theorem V30 (R : Fin 128) (d : Fin 256) : (V m c main_v30 (ix2 R d) : EReal) = m (c.tc.loc main_arg3) (ix4 0 R 0 d) := by
  unfold V
  after_reads_at
theorem V4 (d : Fin 1024) : (V m c main_v4 (ix2 0 d) : EReal) = m (c.tc.loc main_arg4) (ix2 0 d) := by
  unfold V
  after_reads_at
theorem V12 (d : Fin 1024) : (V m c main_v12 (ix2 0 d) : EReal) = m (c.tc.loc main_arg9) (ix2 0 d) := by
  unfold V
  after_reads_at
theorem V20 (d : Fin 1024) : (V m c main_v20 (ix2 0 d) : EReal) = m (c.tc.loc main_arg13) (ix2 0 d) := by
  unfold V
  after_reads_at
theorem V25 (d : Fin 1024) : (V m c main_v25 (ix2 0 d) : EReal) = m (c.tc.loc main_arg16) (ix1 d) := by
  unfold V
  after_reads_at
theorem V2 (j : Fin 1024) (k : Fin 2048) : (V m c main_v2 (ix2 j k) : EReal) = m (c.tc.loc main_arg5) (ix3 0 j ⟨3848 + k.val, by omega⟩) := by
  unfold V
  after_reads_at
theorem V6 (j : Fin 512) (k : Fin 1024) : (V m c main_v6 (ix2 j k) : EReal) = m (c.tc.loc main_arg6) (ix3 0 j k) := by
  unfold V
  after_reads_at
theorem V8 (j : Fin 512) (k : Fin 1024) : (V m c main_v8 (ix2 j k) : EReal) = m (c.tc.loc main_arg7) (ix3 0 j k) := by
  unfold V
  after_reads_at
theorem V10 (j : Fin 1024) (k : Fin 1024) : (V m c main_v10 (ix2 j k) : EReal) = m (c.tc.loc main_arg8) (ix3 0 j k) := by
  unfold V
  after_reads_at
theorem V14 (j : Fin 1024) (k : Fin 2816) : (V m c main_v14 (ix2 j k) : EReal) = m (c.tc.loc main_arg10) (ix3 0 j k) := by
  unfold V
  after_reads_at
theorem V16 (j : Fin 1024) (k : Fin 2816) : (V m c main_v16 (ix2 j k) : EReal) = m (c.tc.loc main_arg11) (ix3 0 j k) := by
  unfold V
  after_reads_at
theorem V18 (j : Fin 2816) (k : Fin 1024) : (V m c main_v18 (ix2 j k) : EReal) = m (c.tc.loc main_arg12) (ix3 0 j k) := by
  unfold V
  after_reads_at
theorem V22 (j : Fin 1024) (k : Fin 1024) : (V m c main_v22 (ix2 j k) : EReal) = m (c.tc.loc main_arg14) (ix3 0 j k) := by
  unfold V
  after_reads_at
theorem V24 (j : Fin 256) (k : Fin 1024) : (V m c main_v24 (ix2 j k) : EReal) = m (c.tc.loc main_arg15) (ix3 0 j k) := by
  unfold V
  after_reads_at

/-! ## The blocks -/

theorem ib0 (r : Fin 128) (d : Fin 1024) : (iblk m c 0 t (ix2 r d) : EReal) = m (c.tc.loc main_arg0) (ix3 r 0 d) := by
  have e : (iblk m c 0 t (ix2 r d) : EReal) = V m c main_v26 (ix2 r d) := by blk_ext [iblk, idx t]
  exact e.trans (V26 m c _ d)
theorem ib1 (r : Fin 128) (d : Fin 512) : (iblk m c 1 t (ix2 r d) : EReal) = m (c.tc.loc main_arg1) (ix3 r 0 d) := by
  have e : (iblk m c 1 t (ix2 r d) : EReal) = V m c main_v27 (ix2 r d) := by blk_ext [iblk, idx t]
  exact e.trans (V27 m c _ d)
theorem ib2 (r : Fin 128) (d : Fin 512) : (iblk m c 2 t (ix2 r d) : EReal) = m (c.tc.loc main_arg2) (ix3 r 0 d) := by
  have e : (iblk m c 2 t (ix2 r d) : EReal) = V m c main_v28 (ix2 r d) := by blk_ext [iblk, idx t]
  exact e.trans (V28 m c _ d)
theorem ib3 (r : Fin 128) (d : Fin 256) : (iblk m c 3 t (ix2 r d) : EReal) = m (c.tc.loc main_arg3) (ix4 0 r 0 d) := by
  have e : (iblk m c 3 t (ix2 r d) : EReal) = V m c main_v30 (ix2 r d) := by blk_ext [iblk, idx t]
  exact e.trans (V30 m c _ d)
theorem ib4 (d : Fin 1024) : (iblk m c 4 t (ix2 0 d) : EReal) = m (c.tc.loc main_arg4) (ix2 0 d) := by
  have e : (iblk m c 4 t (ix2 0 d) : EReal) = V m c main_v4 (ix2 0 d) := by blk_ext [iblk, idx t]
  exact e.trans (V4 m c d)
theorem ib9 (d : Fin 1024) : (iblk m c 9 t (ix2 0 d) : EReal) = m (c.tc.loc main_arg9) (ix2 0 d) := by
  have e : (iblk m c 9 t (ix2 0 d) : EReal) = V m c main_v12 (ix2 0 d) := by blk_ext [iblk, idx t]
  exact e.trans (V12 m c d)
theorem ib13 (d : Fin 1024) : (iblk m c 13 t (ix2 0 d) : EReal) = m (c.tc.loc main_arg13) (ix2 0 d) := by
  have e : (iblk m c 13 t (ix2 0 d) : EReal) = V m c main_v20 (ix2 0 d) := by blk_ext [iblk, idx t]
  exact e.trans (V20 m c d)
theorem ib16 (d : Fin 1024) : (iblk m c 16 t (ix2 0 d) : EReal) = m (c.tc.loc main_arg16) (ix1 d) := by
  have e : (iblk m c 16 t (ix2 0 d) : EReal) = V m c main_v25 (ix2 0 d) := by blk_ext [iblk, idx t]
  exact e.trans (V25 m c d)
theorem ib5 (j : Fin 1024) (k : Fin 2048) : (iblk m c 5 t (ix2 j k) : EReal) = m (c.tc.loc main_arg5) (ix3 0 j ⟨3848 + k.val, by omega⟩) := by
  have e : (iblk m c 5 t (ix2 j k) : EReal) = V m c main_v2 (ix2 j k) := by blk_ext [iblk, idx t]
  exact e.trans (V2 m c j k)
theorem ib6 (j : Fin 512) (k : Fin 1024) : (iblk m c 6 t (ix2 j k) : EReal) = m (c.tc.loc main_arg6) (ix3 0 j k) := by
  have e : (iblk m c 6 t (ix2 j k) : EReal) = V m c main_v6 (ix2 j k) := by blk_ext [iblk, idx t]
  exact e.trans (V6 m c j k)
theorem ib7 (j : Fin 512) (k : Fin 1024) : (iblk m c 7 t (ix2 j k) : EReal) = m (c.tc.loc main_arg7) (ix3 0 j k) := by
  have e : (iblk m c 7 t (ix2 j k) : EReal) = V m c main_v8 (ix2 j k) := by blk_ext [iblk, idx t]
  exact e.trans (V8 m c j k)
theorem ib8 (j : Fin 1024) (k : Fin 1024) : (iblk m c 8 t (ix2 j k) : EReal) = m (c.tc.loc main_arg8) (ix3 0 j k) := by
  have e : (iblk m c 8 t (ix2 j k) : EReal) = V m c main_v10 (ix2 j k) := by blk_ext [iblk, idx t]
  exact e.trans (V10 m c j k)
theorem ib10 (j : Fin 1024) (k : Fin 2816) : (iblk m c 10 t (ix2 j k) : EReal) = m (c.tc.loc main_arg10) (ix3 0 j k) := by
  have e : (iblk m c 10 t (ix2 j k) : EReal) = V m c main_v14 (ix2 j k) := by blk_ext [iblk, idx t]
  exact e.trans (V14 m c j k)
theorem ib11 (j : Fin 1024) (k : Fin 2816) : (iblk m c 11 t (ix2 j k) : EReal) = m (c.tc.loc main_arg11) (ix3 0 j k) := by
  have e : (iblk m c 11 t (ix2 j k) : EReal) = V m c main_v16 (ix2 j k) := by blk_ext [iblk, idx t]
  exact e.trans (V16 m c j k)
theorem ib12 (j : Fin 2816) (k : Fin 1024) : (iblk m c 12 t (ix2 j k) : EReal) = m (c.tc.loc main_arg12) (ix3 0 j k) := by
  have e : (iblk m c 12 t (ix2 j k) : EReal) = V m c main_v18 (ix2 j k) := by blk_ext [iblk, idx t]
  exact e.trans (V18 m c j k)
theorem ib14 (j : Fin 1024) (k : Fin 1024) : (iblk m c 14 t (ix2 j k) : EReal) = m (c.tc.loc main_arg14) (ix3 0 j k) := by
  have e : (iblk m c 14 t (ix2 j k) : EReal) = V m c main_v22 (ix2 j k) := by blk_ext [iblk, idx t]
  exact e.trans (V22 m c j k)
theorem ib15 (j : Fin 256) (k : Fin 1024) : (iblk m c 15 t (ix2 j k) : EReal) = m (c.tc.loc main_arg15) (ix3 0 j k) := by
  have e : (iblk m c 15 t (ix2 j k) : EReal) = V m c main_v24 (ix2 j k) := by blk_ext [iblk, idx t]
  exact e.trans (V24 m c j k)

/-! ## The result -/

/-- The kernel's result as one function of its arguments. -/
def G : FVec Ideal S128x1024 .f32 := fun i =>
  outS (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16))
    (i 0) (i 1)

/-- A row of the block is the output at that sample. -/
theorem blockRow_eq (r : Fin 128) (d : Fin 1024) :
    blockRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) r d
      = outS (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) r d := by
  have e0 : row (φ := .f32) (iblk m c 0 t) r = fun k => m (c.tc.loc main_arg0) (ix3 r 0 k) := funext (ib0 m c t r)
  have e1 : row (φ := .f32) (iblk m c 1 t) r = fun k => m (c.tc.loc main_arg1) (ix3 r 0 k) := funext (ib1 m c t r)
  have e2 : row (φ := .f32) (iblk m c 2 t) r = fun k => m (c.tc.loc main_arg2) (ix3 r 0 k) := funext (ib2 m c t r)
  have e3 : row (φ := .f32) (iblk m c 3 t) r = fun k => m (c.tc.loc main_arg3) (ix4 0 r 0 k) := funext (ib3 m c t r)
  have e4 : row (φ := .f32) (iblk m c 4 t) 0 = fun k => m (c.tc.loc main_arg4) (ix2 0 k) := funext (ib4 m c t)
  have e9 : row (φ := .f32) (iblk m c 9 t) 0 = fun k => m (c.tc.loc main_arg9) (ix2 0 k) := funext (ib9 m c t)
  have e13 : row (φ := .f32) (iblk m c 13 t) 0 = fun k => m (c.tc.loc main_arg13) (ix2 0 k) := funext (ib13 m c t)
  have e16 : row (φ := .f32) (iblk m c 16 t) 0 = fun k => m (c.tc.loc main_arg16) (ix1 k) := funext (ib16 m c t)
  have e5 : mat (φ := .bf16) (iblk m c 5 t) = fun j k => m (c.tc.loc main_arg5) (ix3 0 j ⟨3848 + k.val, by omega⟩) := funext fun j => funext (ib5 m c t j)
  have e6 : mat (φ := .bf16) (iblk m c 6 t) = fun j k => m (c.tc.loc main_arg6) (ix3 0 j k) := funext fun j => funext (ib6 m c t j)
  have e7 : mat (φ := .bf16) (iblk m c 7 t) = fun j k => m (c.tc.loc main_arg7) (ix3 0 j k) := funext fun j => funext (ib7 m c t j)
  have e8 : mat (φ := .bf16) (iblk m c 8 t) = fun j k => m (c.tc.loc main_arg8) (ix3 0 j k) := funext fun j => funext (ib8 m c t j)
  have e10 : mat (φ := .bf16) (iblk m c 10 t) = fun j k => m (c.tc.loc main_arg10) (ix3 0 j k) := funext fun j => funext (ib10 m c t j)
  have e11 : mat (φ := .bf16) (iblk m c 11 t) = fun j k => m (c.tc.loc main_arg11) (ix3 0 j k) := funext fun j => funext (ib11 m c t j)
  have e12 : mat (φ := .bf16) (iblk m c 12 t) = fun j k => m (c.tc.loc main_arg12) (ix3 0 j k) := funext fun j => funext (ib12 m c t j)
  have e14 : mat (φ := .bf16) (iblk m c 14 t) = fun j k => m (c.tc.loc main_arg14) (ix3 0 j k) := funext fun j => funext (ib14 m c t j)
  have e15 : mat (φ := .bf16) (iblk m c 15 t) = fun j k => m (c.tc.loc main_arg15) (ix3 0 j k) := funext fun j => funext (ib15 m c t j)
  unfold blockRow outS
  rw [e0, e1, e2, e3, e4, e5, e6, e7, e8, e9, e10, e11, e12, e13, e14, e15, e16]

end Cert.KernelPostSIdeal.Rows

end
-- ==== Proof.PostS.Final.lean ====
/- The kernel's result array is `G`, and the kernel's run. -/
module

public import proofs.«01_k».proof.Proof.PostS.Args
public import Idealize.ShloMosaic.Lib.Claim

@[expose] public section

set_option maxRecDepth 16384

noncomputable section

namespace Cert.KernelPostSIdeal.Rows

open Cert.KernelPostSIdeal Cert.KernelPostSIdeal.Gen Idealize.ShloMosaic Idealize.ShloMosaic.TcCoe Cert.PostRow Idealize.SL.Sem

variable (m : (ℓ : Loc nD τ sig) → Buf (Elt Ideal) ℓ) (c : Dev nD)

/-- `G` at row `r` and column `d`. -/
theorem G_at (r : Fin 128) (d : Fin 1024) (j : S128x1024.Idx) (h0 : (j 0).val = r.val) (h1 : (j 1).val = d.val) :
    G m c j = outS (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) r d := by
  obtain rfl : j = ix2 r d := (eq_ix2 j).trans (congr (congrArg ix2 (Fin.ext h0)) (Fin.ext h1))
  rfl

/-- THE KERNEL'S RESULT: the one block is the array, and it is `G`. -/
theorem final : (dats m 0 c).arrAt 17 cfg0.N = G m c := by
  refine (dats m 0 c).arrAt_eq_of_covers 17 _ (by decide +kernel) fun t hf y => ?_
  blk_simp
  rw [after0_17]
  obtain ⟨r, d, rfl⟩ : ∃ (r : Fin 128) (d : Fin 1024), y = ix2 r d := ⟨y 0, y 1, eq_ix2 y⟩
  refine (out_eq _ _ _ _ _ _ _ _ _ _ _ _ _ _ _ _ _ r d).trans ?_
  refine (blockRow_eq m c t r d).trans ?_
  refine (G_at m c r d _ ?_ ?_).symm
  · blk_simp [idx t]
  · blk_simp [idx t]

/-- The kernel's run: the result array, and the arguments as they were. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v31) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨((h.1 c).1 17).trans (final m c), h.2.1 c⟩)
    (θ_run_and (run_main m ρ) (frame m ρ))

end Cert.KernelPostSIdeal.Rows

end
-- ==== Proof.PostS.Ref.lean ====
/- The reference's result, element by element: it is `PostRow.out` of its arguments. -/
module

public import proofs.«01_k».proof.Proof.PostS.Rows
public import proofs.«01_k».proof.Proof.Gen.ReferencePostSIdeal.Run
public import Idealize.ShloMosaic.Lib.Tactic.CleanTypes

@[expose] public section

set_option maxRecDepth 16384

noncomputable section

namespace Cert.ReferencePostSIdeal.Rows

open Cert.ReferencePostSIdeal Cert.ReferencePostSIdeal.Gen Cert.ReferencePostSIdeal.Value Idealize.ShloMosaic Idealize.ShloMosaic.TcCoe Cert.PostRow Idealize.SL.Sem

variable (V0 : Valuation τ sig (Elt Ideal))

/-- The gates' columns of the normalised input's projection. -/
theorem v16 (b : Fin 128) (k : Fin 2048) :
    (res_main_v16 V0 (ix3 b 0 k) : EReal)
      = dot (rms (fun j => V0 (Proc.devRef .tc main_arg0) (ix3 b 0 j)) (fun j => V0 (Proc.devRef .tc main_arg4) (ix2 0 j)))
          (fun j k => V0 (Proc.devRef .tc main_arg5) (ix3 0 j ⟨3848 + k.val, by omega⟩)) k := by
  unfold res_main_v16
  clean_types
  pointwise
  rfl

/-- A position's row after the merge. -/
abbrev mergeAt (b : Fin 128) : Fin 1024 → EReal :=
  merge (fun j => V0 (Proc.devRef .tc main_arg4) (ix2 0 j)) (fun j k => V0 (Proc.devRef .tc main_arg5) (ix3 0 j ⟨3848 + k.val, by omega⟩)) (fun j k => V0 (Proc.devRef .tc main_arg6) (ix3 0 j k)) (fun j k => V0 (Proc.devRef .tc main_arg7) (ix3 0 j k)) (fun j k => V0 (Proc.devRef .tc main_arg8) (ix3 0 j k)) (fun k => V0 (Proc.devRef .tc main_arg0) (ix3 b 0 k)) (fun k => V0 (Proc.devRef .tc main_arg1) (ix3 b 0 k)) (fun k => V0 (Proc.devRef .tc main_arg2) (ix3 b 0 k))

/-- A position's row after the feed-forward network. -/
abbrev ffnAt (b : Fin 128) : Fin 1024 → EReal :=
  ffn (fun j => V0 (Proc.devRef .tc main_arg9) (ix2 0 j)) (fun j k => V0 (Proc.devRef .tc main_arg10) (ix3 0 j k)) (fun j k => V0 (Proc.devRef .tc main_arg11) (ix3 0 j k)) (fun j k => V0 (Proc.devRef .tc main_arg12) (ix3 0 j k)) (mergeAt V0 b)

/-- A position's row after the layer's embedding. -/
abbrev pleAt (b : Fin 128) : Fin 1024 → EReal :=
  ple (fun j => V0 (Proc.devRef .tc main_arg13) (ix2 0 j)) (fun j k => V0 (Proc.devRef .tc main_arg14) (ix3 0 j k)) (fun j k => V0 (Proc.devRef .tc main_arg15) (ix3 0 j k)) (fun k => V0 (Proc.devRef .tc main_arg3) (ix4 0 b 0 k)) (ffnAt V0 b)

theorem v40 (b : Fin 128) (d : Fin 1024) : (res_main_v40 V0 (ix3 b 0 d) : EReal) = mergeAt V0 b d := by
  unfold res_main_v40
  clean_types
  pointwise
  simp only [v16]
  unfold mergeAt merge sg
  simp only [zero_sub]
  rfl

theorem v54 (b : Fin 128) (d : Fin 1024) :
    (res_main_v54 V0 (ix3 b 0 d) : EReal) = rms (mergeAt V0 b) (fun j => V0 (Proc.devRef .tc main_arg9) (ix2 0 j)) d := by
  unfold res_main_v54
  clean_types
  pointwise
  simp only [v40]
  rfl

theorem v56 (b : Fin 128) (d : Fin 2816) :
    (res_main_v56 V0 (ix3 b 0 d) : EReal) = dot (rms (mergeAt V0 b) (fun j => V0 (Proc.devRef .tc main_arg9) (ix2 0 j))) (fun j k => V0 (Proc.devRef .tc main_arg10) (ix3 0 j k)) d := by
  unfold res_main_v56
  clean_types
  pointwise
  simp only [v54]
  rfl

theorem v63 (b : Fin 128) (d : Fin 1024) : (res_main_v63 V0 (ix3 b 0 d) : EReal) = ffnAt V0 b d := by
  unfold res_main_v63
  clean_types
  pointwise
  simp only [v54, v56, v40]
  unfold ffnAt ffn sg
  simp only [zero_sub]
  rfl

theorem v90 (b : Fin 128) (d : Fin 1024) : (res_main_v90 V0 (ix3 b 0 d) : EReal) = pleAt V0 b d := by
  unfold res_main_v90
  clean_types
  pointwise
  simp only [v63]
  unfold pleAt ple sg
  simp only [zero_sub]
  rfl

/-- THE REFERENCE'S RESULT at row `R`: `outS` at that sample. -/
theorem v104 (R : Fin 128) (d : Fin 1024) :
    ((shapeCast S128x1024 (mulf (mulf (res_main_v90 V0) (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf (res_main_v90 V0) (res_main_v90 V0)) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 (V0 (Proc.devRef .tc main_arg16))))) shapeCasts_S128x1x1024_S128x1024 : FVec Ideal S128x1024 .f32) (ix2 R d) : EReal)
      = outS (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) R d := by
  clean_types
  pointwise
  simp only [v90]
  rfl

end Cert.ReferencePostSIdeal.Rows

end
-- ==== Proof.PostS.Claim.lean ====
/- The value claim of the layer's second half: the kernel's result and the reference's are the same array. -/
module

public import proofs.«01_k».proof.Defs
public import proofs.«01_k».proof.Proof.PostS.Final
public import proofs.«01_k».proof.Proof.PostS.Ref

@[expose] public section

set_option maxRecDepth 16384

noncomputable section

namespace Cert.PostRow

open Idealize.ShloMosaic Idealize.ShloMosaic.TcCoe Idealize.SL.Sem

/-- The kernel's result is the reference's, whatever the arguments. -/
theorem algebraicS : Cert.algebraic_KernelPostSIdeal_ReferencePostSIdeal
    (hKernelPostSIdeal := Cert.KernelPostSIdeal.Gen.facts) (hReferencePostSIdeal := Cert.ReferencePostSIdeal.Gen.facts) := by
  intro m g m' g' _ hagree
  refine ⟨fun c => Cert.KernelPostSIdeal.Rows.G m c,
    Cert.KernelPostSIdeal.Rows.run m g,
    (θ_run Cert.ReferencePostSIdeal.defs _ _).mono (fun r h c => ⟨(h c).1.trans ?_, (h c).2⟩) (Cert.ReferencePostSIdeal.Value.run m' g')⟩
  obtain ⟨a0, a1, a2, a3, a4, a5, a6, a7, a8, a9, a10, a11, a12, a13, a14, a15, a16⟩ := hagree c
  funext i
  obtain ⟨R, d, rfl⟩ : ∃ (R : Fin 128) (d : Fin 1024), i = ix2 R d := ⟨i 0, i 1, eq_ix2 i⟩
  refine (Cert.ReferencePostSIdeal.Rows.v104 (StableHlo.launchContents m' c) R d).trans ?_
  show outS (m' (c.tc.loc Cert.ReferencePostSIdeal.main_arg0)) (m' (c.tc.loc Cert.ReferencePostSIdeal.main_arg1)) (m' (c.tc.loc Cert.ReferencePostSIdeal.main_arg2)) (m' (c.tc.loc Cert.ReferencePostSIdeal.main_arg3)) (m' (c.tc.loc Cert.ReferencePostSIdeal.main_arg4)) (m' (c.tc.loc Cert.ReferencePostSIdeal.main_arg5)) (m' (c.tc.loc Cert.ReferencePostSIdeal.main_arg6)) (m' (c.tc.loc Cert.ReferencePostSIdeal.main_arg7)) (m' (c.tc.loc Cert.ReferencePostSIdeal.main_arg8)) (m' (c.tc.loc Cert.ReferencePostSIdeal.main_arg9)) (m' (c.tc.loc Cert.ReferencePostSIdeal.main_arg10)) (m' (c.tc.loc Cert.ReferencePostSIdeal.main_arg11)) (m' (c.tc.loc Cert.ReferencePostSIdeal.main_arg12)) (m' (c.tc.loc Cert.ReferencePostSIdeal.main_arg13)) (m' (c.tc.loc Cert.ReferencePostSIdeal.main_arg14)) (m' (c.tc.loc Cert.ReferencePostSIdeal.main_arg15)) (m' (c.tc.loc Cert.ReferencePostSIdeal.main_arg16)) _ _ = _
  rw [a0, a1, a2, a3, a4, a5, a6, a7, a8, a9, a10, a11, a12, a13, a14, a15, a16]
  rfl

end Cert.PostRow

end
-- ==== Proof.lean ====
/- The certificate: every claim of `Cert.Claim`, from the generated frames and the value theorems. -/
module

public import proofs.«01_k».proof.Defs
public import proofs.«01_k».proof.Proof.Gen.KernelRwkv.Frame
public import proofs.«01_k».proof.Proof.RwkvBits.Body
public import proofs.«01_k».proof.Proof.Rwkv.Body
public import proofs.«01_k».proof.Proof.Rwkv.Claim
public import proofs.«01_k».proof.Proof.Gen.ReferenceRwkvIdeal.Run
public import proofs.«01_k».proof.Proof.Gen.KernelPost.Frame
public import proofs.«01_k».proof.Proof.Gen.KernelPostIdeal.Frame
public import proofs.«01_k».proof.Proof.Gen.ReferencePostIdeal.Run
public import proofs.«01_k».proof.Proof.Post.Claim
public import proofs.«01_k».proof.Proof.Gen.KernelIn.Frame
public import proofs.«01_k».proof.Proof.Gen.KernelInIdeal.Frame
public import proofs.«01_k».proof.Proof.Gen.ReferenceInIdeal.Run
public import proofs.«01_k».proof.Proof.In.Claim
public import proofs.«01_k».proof.Proof.Gen.KernelPostS.Frame
public import proofs.«01_k».proof.Proof.Gen.KernelPostSIdeal.Frame
public import proofs.«01_k».proof.Proof.Gen.ReferencePostSIdeal.Run
public import proofs.«01_k».proof.Proof.PostS.Claim
public import Idealize.ShloMosaic.Adequacy
public import Idealize.ShloMosaic.Init

@[expose] public section

noncomputable section

namespace Cert.Proof

open Idealize.ShloMosaic Idealize.SL.Sem

/-- The reference ends with its arguments as they were. -/
theorem reference_post : Cert.quiescent_ReferencePostIdeal (hReferencePostIdeal := Cert.ReferencePostIdeal.Gen.facts) :=
  fun m ρ _ => (θ_run Cert.ReferencePostIdeal.defs _ _).mono (fun r h => ⟨fun c => (h c).2,
      Idealize.ShloMosaic.sem_eq_zero_of_no_sems (by decide) r.2⟩)
    (Cert.ReferencePostIdeal.Value.run m ρ)

theorem reference_rwkv : Cert.quiescent_ReferenceRwkvIdeal (hReferenceRwkvIdeal := Cert.ReferenceRwkvIdeal.Gen.facts) :=
  fun m ρ _ => (θ_run Cert.ReferenceRwkvIdeal.defs _ _).mono (fun r h => ⟨fun c => (h c).2.2,
      Idealize.ShloMosaic.sem_eq_zero_of_no_sems (by decide) r.2⟩)
    (Cert.ReferenceRwkvIdeal.Value.run m ρ)

theorem reference_in : Cert.quiescent_ReferenceInIdeal (hReferenceInIdeal := Cert.ReferenceInIdeal.Gen.facts) :=
  fun m ρ _ => (θ_run Cert.ReferenceInIdeal.defs _ _).mono (fun r h => ⟨fun c => (h c).2.2.2.2,
      Idealize.ShloMosaic.sem_eq_zero_of_no_sems (by decide) r.2⟩)
    (Cert.ReferenceInIdeal.Value.run m ρ)

theorem reference_post_s : Cert.quiescent_ReferencePostSIdeal (hReferencePostSIdeal := Cert.ReferencePostSIdeal.Gen.facts) :=
  fun m ρ _ => (θ_run Cert.ReferencePostSIdeal.defs _ _).mono (fun r h => ⟨fun c => (h c).2,
      Idealize.ShloMosaic.sem_eq_zero_of_no_sems (by decide) r.2⟩)
    (Cert.ReferencePostSIdeal.Value.run m ρ)

theorem claim : Cert.Claim := ⟨Cert.KernelRwkv.Gen.facts, Cert.KernelRwkvIdeal.Gen.facts, Cert.ReferenceRwkvIdeal.Gen.facts,
  Cert.KernelPost.Gen.facts, Cert.KernelPostIdeal.Gen.facts, Cert.ReferencePostIdeal.Gen.facts,
  Cert.KernelIn.Gen.facts, Cert.KernelInIdeal.Gen.facts, Cert.ReferenceInIdeal.Gen.facts,
  Cert.KernelPostS.Gen.facts, Cert.KernelPostSIdeal.Gen.facts, Cert.ReferencePostSIdeal.Gen.facts,
  fun m ρ _ => Cert.KernelRwkv.Gen.frame m ρ, fun m ρ _ => Cert.KernelRwkvIdeal.Gen.frame m ρ, reference_rwkv,
  fun m ρ _ => Cert.KernelPost.Gen.frame m ρ, fun m ρ _ => Cert.KernelPostIdeal.Gen.frame m ρ, reference_post,
  fun m ρ _ => Cert.KernelIn.Gen.frame m ρ, fun m ρ _ => Cert.KernelInIdeal.Gen.frame m ρ, reference_in,
  fun m ρ _ => Cert.KernelPostS.Gen.frame m ρ, fun m ρ _ => Cert.KernelPostSIdeal.Gen.frame m ρ, reference_post_s,
  trivial, Cert.RwkvRow.algebraic, trivial, Cert.PostRow.algebraic,
  trivial, Cert.InRow.algebraic, trivial, Cert.PostRow.algebraicS⟩

end Cert.Proof

end
